-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v61) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S32768x4096 : Shape := ⟨2, ![32768, 4096]⟩
abbrev S32768x128 : Shape := ⟨2, ![32768, 128]⟩
abbrev S2x32 : Shape := ⟨2, ![2, 32]⟩
abbrev S2x8x128x256 : Shape := ⟨4, ![2, 8, 128, 256]⟩
abbrev S_ : Shape := ⟨0, ![]⟩
abbrev S128 : Shape := ⟨1, ![128]⟩
abbrev S64 : Shape := ⟨1, ![64]⟩
abbrev S1 : Shape := ⟨1, ![1]⟩
abbrev S1x128 : Shape := ⟨2, ![1, 128]⟩
abbrev S32768x2048 : Shape := ⟨2, ![32768, 2048]⟩
abbrev S512x2048 : Shape := ⟨2, ![512, 2048]⟩
abbrev S512x1024 : Shape := ⟨2, ![512, 1024]⟩
abbrev S512x128 : Shape := ⟨2, ![512, 128]⟩
abbrev S1x8x128x256 : Shape := ⟨4, ![1, 8, 128, 256]⟩
abbrev S8x128x256 : Shape := ⟨3, ![8, 128, 256]⟩
abbrev S128x128 : Shape := ⟨2, ![128, 128]⟩
abbrev S1x256 : Shape := ⟨2, ![1, 256]⟩
abbrev S128x256 : Shape := ⟨2, ![128, 256]⟩
abbrev S1x128x256 : Shape := ⟨3, ![1, 128, 256]⟩
abbrev S128x1 : Shape := ⟨2, ![128, 1]⟩
abbrev S128x512 : Shape := ⟨2, ![128, 512]⟩
abbrev S512x256 : Shape := ⟨2, ![512, 256]⟩

abbrev nBuf : Space → Nat
  | .hbm => 15
  | .vmem => 16
  | .smem => 0
  | _ => 0

abbrev bufTy : (tb : Table) → Fin (tcTables nBuf tb) → BufTy
  | .hbm, ⟨0, _⟩ => ⟨S32768x4096, .bf16⟩
  | .hbm, ⟨1, _⟩ => ⟨S32768x128, .f32⟩
  | .hbm, ⟨2, _⟩ => ⟨S2x32, .f32⟩
  | .hbm, ⟨3, _⟩ => ⟨S2x8x128x256, .f32⟩
  | .hbm, ⟨4, _⟩ => ⟨S2x32, .f32⟩
  | .hbm, ⟨5, _⟩ => ⟨S2x32, .f32⟩
  | .hbm, ⟨6, _⟩ => ⟨S_, .f32⟩
  | .hbm, ⟨7, _⟩ => ⟨S128, .f32⟩
  | .hbm, ⟨8, _⟩ => ⟨S64, .f32⟩
  | .hbm, ⟨9, _⟩ => ⟨S_, .i32⟩
  | .hbm, ⟨10, _⟩ => ⟨S1, .i32⟩
  | .hbm, ⟨11, _⟩ => ⟨S128, .f32⟩
  | .hbm, ⟨12, _⟩ => ⟨S1x128, .f32⟩
  | .hbm, ⟨13, _⟩ => ⟨S32768x2048, .bf16⟩
  | .hbm, ⟨14, _⟩ => ⟨S2x8x128x256, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x8x128x256, .f32⟩
  | .local _ .vmem, ⟨10, _⟩ => ⟨S1x8x128x256, .f32⟩
  | .local _ .vmem, ⟨11, _⟩ => ⟨S512x2048, .bf16⟩
  | .local _ .vmem, ⟨12, _⟩ => ⟨S512x2048, .bf16⟩
  | .local _ .vmem, ⟨13, _⟩ => ⟨S1x8x128x256, .f32⟩
  | .local _ .vmem, ⟨14, _⟩ => ⟨S1x8x128x256, .f32⟩
  | .local _ .vmem, ⟨15, _⟩ => ⟨S8x128x256, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_7 : BitVec 32 := 0#32
  let c4_i32 : BitVec 32 := 4#32
  let v36 : BitVec 32 := Scalar.addi c0_i32_7 c4_i32
  let c1_i32_8 : BitVec 32 := 1#32
  ⟨c0_i32_7, v36, c1_i32_8⟩
def k0_mult1 (k0_t1 : Fin k0_t1_loop.trips) : BitVec 32 :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  v40
def k0_off1 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v42 : Index := Scalar.indexCast v41
  let c0 : Index := 0#32
  ![v42.toNat, 0]
def k0_off2 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v56 : Index := Scalar.indexCast v41
  let c0_13 : Index := 0#32
  ![v56.toNat, 0]
def k0_off3 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v60 : Index := Scalar.indexCast v41
  let c0_15 : Index := 0#32
  ![v60.toNat, 0]
def k0_off4 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v199 : Index := Scalar.indexCast v41
  let c128 : Index := 128#32
  ![v199.toNat, 128]
def k0_off5 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v203 : Index := Scalar.indexCast v41
  let c256 : Index := 256#32
  ![v203.toNat, 256]
def k0_off6 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v342 : Index := Scalar.indexCast v41
  let c256_60 : Index := 256#32
  ![v342.toNat, 256]
def k0_off7 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v346 : Index := Scalar.indexCast v41
  let c512 : Index := 512#32
  ![v346.toNat, 512]
def k0_off8 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v485 : Index := Scalar.indexCast v41
  let c384 : Index := 384#32
  ![v485.toNat, 384]
def k0_off9 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v489 : Index := Scalar.indexCast v41
  let c768 : Index := 768#32
  ![v489.toNat, 768]
def k0_off10 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v628 : Index := Scalar.indexCast v41
  let c512_107 : Index := 512#32
  ![v628.toNat, 512]
def k0_off11 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v632 : Index := Scalar.indexCast v41
  let c1024 : Index := 1024#32
  ![v632.toNat, 1024]
def k0_off12 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v771 : Index := Scalar.indexCast v41
  let c640 : Index := 640#32
  ![v771.toNat, 640]
def k0_off13 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v775 : Index := Scalar.indexCast v41
  let c1280 : Index := 1280#32
  ![v775.toNat, 1280]
def k0_off14 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v914 : Index := Scalar.indexCast v41
  let c768_154 : Index := 768#32
  ![v914.toNat, 768]
def k0_off15 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v918 : Index := Scalar.indexCast v41
  let c1536 : Index := 1536#32
  ![v918.toNat, 1536]
def k0_off16 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v1057 : Index := Scalar.indexCast v41
  let c896 : Index := 896#32
  ![v1057.toNat, 896]
def k0_off17 (k0_t1 : Fin k0_t1_loop.trips) : Fin 2 → Nat :=
  let c0_i32_7 : BitVec 32 := 0#32
  let c1_i32_8 : BitVec 32 := 1#32
  let arg11 : BitVec 32 := Scf.iv c0_i32_7 c1_i32_8 k0_t1
  let c128_i32 : BitVec 32 := 128#32
  let v40 : BitVec 32 := Scalar.muli arg11 c128_i32
  let v41 : BitVec 32 := v40
  let v1061 : Index := Scalar.indexCast v41
  let c1792 : Index := 1792#32
  ![v1061.toNat, 1792]
def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_10 : BitVec 32 := 0#32
  let v39 : BitVec 1 := Scalar.cmpi .ne v38 c0_i32_10
  v39

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32768x4096 : Shape := ⟨2, ![32768, 4096]⟩
abbrev S32768x128 : Shape := ⟨2, ![32768, 128]⟩
abbrev S2x32 : Shape := ⟨2, ![2, 32]⟩
abbrev S2x8x128x256 : Shape := ⟨4, ![2, 8, 128, 256]⟩
abbrev S2x16384x4096 : Shape := ⟨3, ![2, 16384, 4096]⟩
abbrev S2x16384x2048 : Shape := ⟨3, ![2, 16384, 2048]⟩
abbrev S2x16384x1024 : Shape := ⟨3, ![2, 16384, 1024]⟩
abbrev S2x16384x8x4x64 : Shape := ⟨5, ![2, 16384, 8, 4, 64]⟩
abbrev S2x16384x8x128 : Shape := ⟨4, ![2, 16384, 8, 128]⟩
abbrev S32768x64 : Shape := ⟨2, ![32768, 64]⟩
abbrev S2x16384x2x8x4 : Shape := ⟨5, ![2, 16384, 2, 8, 4]⟩
abbrev S2x8x4 : Shape := ⟨3, ![2, 8, 4]⟩
abbrev S2x8x128x4x64 : Shape := ⟨5, ![2, 8, 128, 4, 64]⟩
abbrev S2x8x4x64x128 : Shape := ⟨5, ![2, 8, 4, 64, 128]⟩
abbrev S2x16384x1x8x4 : Shape := ⟨5, ![2, 16384, 1, 8, 4]⟩
abbrev S2x16384x8x4 : Shape := ⟨4, ![2, 16384, 8, 4]⟩
abbrev S1x8x4 : Shape := ⟨3, ![1, 8, 4]⟩
abbrev S8x4 : Shape := ⟨2, ![8, 4]⟩
abbrev S2x16384x8x4x1 : Shape := ⟨5, ![2, 16384, 8, 4, 1]⟩
abbrev S2x128x128x8x4x64 : Shape := ⟨6, ![2, 128, 128, 8, 4, 64]⟩
abbrev S1x1x8x4 : Shape := ⟨4, ![1, 1, 8, 4]⟩
abbrev S2x128x128x8x4 : Shape := ⟨5, ![2, 128, 128, 8, 4]⟩
abbrev S2x128x128x8x128 : Shape := ⟨5, ![2, 128, 128, 8, 128]⟩
abbrev S_ : Shape := ⟨0, ![]⟩
abbrev S128x128 : Shape := ⟨2, ![128, 128]⟩
abbrev S1x1x128x128x1x1 : Shape := ⟨6, ![1, 1, 128, 128, 1, 1]⟩
abbrev S2x128x128x1x8x4 : Shape := ⟨6, ![2, 128, 128, 1, 8, 4]⟩
abbrev S2x128x1x128x8x4 : Shape := ⟨6, ![2, 128, 1, 128, 8, 4]⟩
abbrev S2x128x128x128x8x4 : Shape := ⟨6, ![2, 128, 128, 128, 8, 4]⟩
abbrev S2x128x8x128x128 : Shape := ⟨5, ![2, 128, 8, 128, 128]⟩
abbrev S2x128x128x128x8 : Shape := ⟨5, ![2, 128, 128, 128, 8]⟩
abbrev S2x128x128x128x8x1 : Shape := ⟨6, ![2, 128, 128, 128, 8, 1]⟩
abbrev S2x128x8x4x64x128 : Shape := ⟨6, ![2, 128, 8, 4, 64, 128]⟩
abbrev S2x128x1x8x4 : Shape := ⟨5, ![2, 128, 1, 8, 4]⟩
abbrev S2x128x128x8x4x1 : Shape := ⟨6, ![2, 128, 128, 8, 4, 1]⟩
abbrev S2x128x8x4 : Shape := ⟨4, ![2, 128, 8, 4]⟩
abbrev S128x2x8x4 : Shape := ⟨4, ![128, 2, 8, 4]⟩
abbrev S128x2x8x4x64x128 : Shape := ⟨6, ![128, 2, 8, 4, 64, 128]⟩
abbrev S128x2x128x8x128 : Shape := ⟨5, ![128, 2, 128, 8, 128]⟩
abbrev S128x2x128x8x4x64 : Shape := ⟨6, ![128, 2, 128, 8, 4, 64]⟩
abbrev S128x2x128x8x4 : Shape := ⟨5, ![128, 2, 128, 8, 4]⟩
abbrev S1x2x8x4 : Shape := ⟨4, ![1, 2, 8, 4]⟩
abbrev S1x2x8x4x64x128 : Shape := ⟨6, ![1, 2, 8, 4, 64, 128]⟩
abbrev S1x2x128x8x128 : Shape := ⟨5, ![1, 2, 128, 8, 128]⟩
abbrev S2x128x8x128 : Shape := ⟨4, ![2, 128, 8, 128]⟩
abbrev S1x2x128x8x4x64 : Shape := ⟨6, ![1, 2, 128, 8, 4, 64]⟩
abbrev S2x128x8x4x64 : Shape := ⟨5, ![2, 128, 8, 4, 64]⟩
abbrev S1x2x128x8x4 : Shape := ⟨5, ![1, 2, 128, 8, 4]⟩
abbrev S2x128x8x4x1 : Shape := ⟨5, ![2, 128, 8, 4, 1]⟩
abbrev S2x8x4x1x1 : Shape := ⟨5, ![2, 8, 4, 1, 1]⟩
abbrev S32768x2048 : Shape := ⟨2, ![32768, 2048]⟩

abbrev nBuf : Space → Nat
  | .hbm => 152
  | .vmem => 0
  | .smem => 0
  | _ => 0

abbrev hbmTy0_0 (i : Nat) : BufTy := match i % 128 with
  | 0 => ⟨S32768x4096, .bf16⟩
  | 1 => ⟨S32768x128, .f32⟩
  | 2 => ⟨S2x32, .f32⟩
  | 3 => ⟨S2x8x128x256, .f32⟩
  | 4 => ⟨S32768x4096, .f32⟩
  | 5 => ⟨S2x16384x4096, .f32⟩
  | 6 => ⟨S2x16384x2048, .f32⟩
  | 7 => ⟨S2x16384x1024, .f32⟩
  | 8 => ⟨S2x16384x1024, .f32⟩
  | 9 => ⟨S2x16384x8x4x64, .f32⟩
  | 10 => ⟨S2x16384x8x128, .f32⟩
  | 11 => ⟨S2x16384x8x128, .f32⟩
  | 12 => ⟨S32768x64, .f32⟩
  | 13 => ⟨S2x16384x2x8x4, .f32⟩
  | 14 => ⟨S2x32, .f32⟩
  | 15 => ⟨S2x8x4, .f32⟩
  | 16 => ⟨S2x8x4, .f32⟩
  | 17 => ⟨S2x8x128x4x64, .f32⟩
  | 18 => ⟨S2x8x4x64x128, .f32⟩
  | 19 => ⟨S2x16384x1x8x4, .f32⟩
  | 20 => ⟨S2x16384x8x4, .f32⟩
  | 21 => ⟨S1x8x4, .f32⟩
  | 22 => ⟨S8x4, .f32⟩
  | 23 => ⟨S2x16384x8x4x1, .f32⟩
  | 24 => ⟨S2x16384x8x4x64, .f32⟩
  | 25 => ⟨S2x16384x8x4x64, .f32⟩
  | 26 => ⟨S2x128x128x8x4x64, .f32⟩
  | 27 => ⟨S1x1x8x4, .f32⟩
  | 28 => ⟨S2x16384x8x4, .f32⟩
  | 29 => ⟨S2x16384x8x4, .f32⟩
  | 30 => ⟨S2x128x128x8x4, .f32⟩
  | 31 => ⟨S2x128x128x8x128, .f32⟩
  | 32 => ⟨S2x128x128x8x128, .f32⟩
  | 33 => ⟨S_, .f32⟩
  | 34 => ⟨S_, .f32⟩
  | 35 => ⟨S2x128x128x8x4, .f32⟩
  | 36 => ⟨S_, .i1⟩
  | 37 => ⟨S128x128, .i1⟩
  | 38 => ⟨S128x128, .i32⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .i1⟩
  | 45 => ⟨S128x128, .i1⟩
  | 46 => ⟨S128x128, .i1⟩
  | 47 => ⟨S1x1x128x128x1x1, .i1⟩
  | 48 => ⟨S2x128x128x1x8x4, .f32⟩
  | 49 => ⟨S2x128x1x128x8x4, .f32⟩
  | 50 => ⟨S2x128x128x128x8x4, .f32⟩
  | 51 => ⟨S2x128x128x128x8x4, .f32⟩
  | 52 => ⟨S2x128x128x128x8x4, .f32⟩
  | 53 => ⟨S_, .f32⟩
  | 54 => ⟨S_, .f32⟩
  | 55 => ⟨S2x128x128x128x8x4, .i1⟩
  | 56 => ⟨S2x128x128x128x8x4, .f32⟩
  | 57 => ⟨S2x128x128x128x8x4, .f32⟩
  | 58 => ⟨S2x128x128x128x8x4, .f32⟩
  | 59 => ⟨S2x128x8x128x128, .f32⟩
  | 60 => ⟨S2x128x128x128x8, .f32⟩
  | 61 => ⟨S2x128x128x128x8x1, .f32⟩
  | 62 => ⟨S2x128x128x128x8x4, .f32⟩
  | 63 => ⟨S2x128x128x128x8x4, .f32⟩
  | 64 => ⟨S2x128x8x4x64x128, .f32⟩
  | 65 => ⟨S2x128x128x8x4x64, .f32⟩
  | 66 => ⟨S2x128x1x8x4, .f32⟩
  | 67 => ⟨S2x128x128x8x4, .f32⟩
  | 68 => ⟨S2x128x128x8x4, .f32⟩
  | 69 => ⟨S2x128x128x8x4, .f32⟩
  | 70 => ⟨S2x128x128x8x4x1, .f32⟩
  | 71 => ⟨S2x128x128x8x4x64, .f32⟩
  | 72 => ⟨S2x128x128x8x4x64, .f32⟩
  | 73 => ⟨S2x128x8x4x64x128, .f32⟩
  | 74 => ⟨S2x128x1x8x4, .f32⟩
  | 75 => ⟨S2x128x8x4, .f32⟩
  | 76 => ⟨S2x128x8x4, .f32⟩
  | 77 => ⟨S2x128x128x8x4, .f32⟩
  | 78 => ⟨S128x2x8x4, .f32⟩
  | 79 => ⟨S128x2x8x4x64x128, .f32⟩
  | 80 => ⟨S128x2x128x8x128, .f32⟩
  | 81 => ⟨S128x2x128x8x4x64, .f32⟩
  | 82 => ⟨S128x2x128x8x4, .f32⟩
  | 83 => ⟨S_, .f32⟩
  | 84 => ⟨S128x2x128x8x4x64, .f32⟩
  | 85 => ⟨S_, .i32⟩
  | 86 => ⟨S128x2x8x4, .f32⟩
  | 87 => ⟨S128x2x8x4x64x128, .f32⟩
  | 88 => ⟨S128x2x128x8x128, .f32⟩
  | 89 => ⟨S128x2x128x8x4x64, .f32⟩
  | 90 => ⟨S128x2x128x8x4, .f32⟩
  | 91 => ⟨S_, .i32⟩
  | 92 => ⟨S2x8x4x64x128, .f32⟩
  | 93 => ⟨S128x2x128x8x4x64, .f32⟩
  | 94 => ⟨S_, .i32⟩
  | 95 => ⟨S_, .i1⟩
  | 96 => ⟨S_, .i32⟩
  | 97 => ⟨S_, .i32⟩
  | 98 => ⟨S_, .i32⟩
  | 99 => ⟨S1x2x8x4, .f32⟩
  | 100 => ⟨S2x8x4, .f32⟩
  | 101 => ⟨S_, .i32⟩
  | 102 => ⟨S_, .i32⟩
  | 103 => ⟨S_, .i32⟩
  | 104 => ⟨S_, .i32⟩
  | 105 => ⟨S_, .i32⟩
  | 106 => ⟨S1x2x8x4x64x128, .f32⟩
  | 107 => ⟨S2x8x4x64x128, .f32⟩
  | 108 => ⟨S_, .i32⟩
  | 109 => ⟨S_, .i32⟩
  | 110 => ⟨S_, .i32⟩
  | 111 => ⟨S_, .i32⟩
  | 112 => ⟨S1x2x128x8x128, .f32⟩
  | 113 => ⟨S2x128x8x128, .f32⟩
  | 114 => ⟨S_, .i32⟩
  | 115 => ⟨S_, .i32⟩
  | 116 => ⟨S_, .i32⟩
  | 117 => ⟨S_, .i32⟩
  | 118 => ⟨S_, .i32⟩
  | 119 => ⟨S1x2x128x8x4x64, .f32⟩
  | 120 => ⟨S2x128x8x4x64, .f32⟩
  | 121 => ⟨S_, .i32⟩
  | 122 => ⟨S_, .i32⟩
  | 123 => ⟨S_, .i32⟩
  | 124 => ⟨S_, .i32⟩
  | 125 => ⟨S1x2x128x8x4, .f32⟩
  | 126 => ⟨S2x128x8x4, .f32⟩
  | 127 => ⟨S2x8x4x64x128, .f32⟩
  | _ => ⟨S32768x4096, .bf16⟩

abbrev hbmTy0_1 (i : Nat) : BufTy := match i % 128 with
  | 0 => ⟨S2x128x8x4x64, .f32⟩
  | 1 => ⟨S2x128x8x4x1, .f32⟩
  | 2 => ⟨S2x128x8x4x64, .f32⟩
  | 3 => ⟨S2x128x8x4x64, .f32⟩
  | 4 => ⟨S2x8x4x1x1, .f32⟩
  | 5 => ⟨S2x8x4x64x128, .f32⟩
  | 6 => ⟨S2x8x4x64x128, .f32⟩
  | 7 => ⟨S2x8x4x64x128, .f32⟩
  | 8 => ⟨S2x128x8x4x64, .f32⟩
  | 9 => ⟨S1x2x128x8x4x64, .f32⟩
  | 10 => ⟨S_, .i32⟩
  | 11 => ⟨S_, .i32⟩
  | 12 => ⟨S_, .i32⟩
  | 13 => ⟨S_, .i32⟩
  | 14 => ⟨S_, .i32⟩
  | 15 => ⟨S128x2x128x8x4x64, .f32⟩
  | 16 => ⟨S_, .i32⟩
  | 17 => ⟨S_, .i32⟩
  | 18 => ⟨S2x128x128x8x4x64, .f32⟩
  | 19 => ⟨S2x16384x8x4x64, .f32⟩
  | 20 => ⟨S32768x2048, .f32⟩
  | 21 => ⟨S32768x2048, .bf16⟩
  | 22 => ⟨S2x8x128x4x64, .f32⟩
  | 23 => ⟨S2x8x128x256, .f32⟩
  | _ => ⟨S32768x4096, .bf16⟩

abbrev hbmTy (i : Nat) : BufTy := match i / 128 with
  | 0 => hbmTy0_0 i
  | 1 => hbmTy0_1 i
  | _ => ⟨S32768x4096, .bf16⟩

abbrev bufTy : (tb : Table) → Fin (tcTables nBuf tb) → BufTy
  | .hbm, ⟨i, _⟩ => hbmTy i
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_call0_cst : Ref sig .tc := ⟨.hbm, 33, rfl⟩
abbrev main_call0_call0_v0 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_0 : Ref sig .tc := ⟨.hbm, 83, rfl⟩
abbrev main_v64 : Ref sig .tc := ⟨.hbm, 84, rfl⟩
abbrev main_c_1 : Ref sig .tc := ⟨.hbm, 85, rfl⟩
abbrev main_v65_0 : Ref sig .tc := ⟨.hbm, 86, rfl⟩
abbrev main_v65_1 : Ref sig .tc := ⟨.hbm, 87, rfl⟩
abbrev main_v65_2 : Ref sig .tc := ⟨.hbm, 88, rfl⟩
abbrev main_v65_3 : Ref sig .tc := ⟨.hbm, 89, rfl⟩
abbrev main_v65_4 : Ref sig .tc := ⟨.hbm, 90, rfl⟩
abbrev main_v65_5 : Ref sig .tc := ⟨.hbm, 91, rfl⟩
abbrev main_v65_6 : Ref sig .tc := ⟨.hbm, 92, rfl⟩
abbrev main_v65_7 : Ref sig .tc := ⟨.hbm, 93, rfl⟩
abbrev main_while0c_c_9 : Ref sig .tc := ⟨.hbm, 94, rfl⟩
abbrev main_while0c_v72 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_v0 : Ref sig .tc := ⟨.hbm, 99, rfl⟩
abbrev main_while0b_v72 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_c_3 : Ref sig .tc := ⟨.hbm, 105, rfl⟩
abbrev main_while0b_call4_v0 : Ref sig .tc := ⟨.hbm, 106, rfl⟩
abbrev main_while0b_v73 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_c_2 : Ref sig .tc := ⟨.hbm, 111, rfl⟩
abbrev main_while0b_call5_v0 : Ref sig .tc := ⟨.hbm, 112, rfl⟩
abbrev main_while0b_v74 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_call6_c_3 : Ref sig .tc := ⟨.hbm, 118, rfl⟩
abbrev main_while0b_call6_v0 : Ref sig .tc := ⟨.hbm, 119, rfl⟩
abbrev main_while0b_v75 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_call7_v0 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_call8_v0 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_call8_c_3 : Ref sig .tc := ⟨.hbm, 142, rfl⟩
abbrev main_while0b_v87 : Ref sig .tc := ⟨.hbm, 143, rfl⟩
abbrev main_while0b_c_9 : Ref sig .tc := ⟨.hbm, 144, rfl⟩
abbrev main_while0b_v88 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S2x1024 : Shape := ⟨2, ![2, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x16384, .f32⟩
  | .hbm, ⟨26, _⟩ => ⟨S2x16384x1, .f32⟩
  | .hbm, ⟨27, _⟩ => ⟨S_, .f32⟩
  | .hbm, ⟨28, _⟩ => ⟨S2x16384x1, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S2x16384x1, .f32⟩
  | .hbm, ⟨34, _⟩ => ⟨S2x16384x1024, .f32⟩
  | .hbm, ⟨35, _⟩ => ⟨S2x16384x1024, .f32⟩
  | .hbm, ⟨36, _⟩ => ⟨S1x1x1024, .f32⟩
  | .hbm, ⟨37, _⟩ => ⟨S2x16384x1024, .f32⟩
  | .hbm, ⟨38, _⟩ => ⟨S2x16384x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x2816, .f32⟩
  | .hbm, ⟨47, _⟩ => ⟨S2x16384x2816, .f32⟩
  | .hbm, ⟨48, _⟩ => ⟨S2x16384x2816, .f32⟩
  | .hbm, ⟨49, _⟩ => ⟨S_, .f32⟩
  | .hbm, ⟨50, _⟩ => ⟨S2x16384x2816, .f32⟩
  | .hbm, ⟨51, _⟩ => ⟨S2x16384x2816, .f32⟩
  | .hbm, ⟨52, _⟩ => ⟨S_, .f32⟩
  | .hbm, ⟨53, _⟩ => ⟨S2x16384x2816, .f32⟩
  | .hbm, ⟨54, _⟩ => ⟨S2x16384x2816, .f32⟩
  | .hbm, ⟨55, _⟩ => ⟨S2x16384x2816, .f32⟩
  | .hbm, ⟨56, _⟩ => ⟨S2x16384x2816, .f32⟩
  | .hbm, ⟨57, _⟩ => ⟨S2x16384x2816, .f32⟩
  | .hbm, ⟨58, _⟩ => ⟨S2x16384x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S_, .f32⟩
  | .hbm, ⟨67, _⟩ => ⟨S2x16384, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S_, .f32⟩
  | .hbm, ⟨73, _⟩ => ⟨S2x16384x1, .f32⟩
  | .hbm, ⟨74, _⟩ => ⟨S2x16384x1, .f32⟩
  | .hbm, ⟨75, _⟩ => ⟨S2x16384x1, .f32⟩
  | .hbm, ⟨76, _⟩ => ⟨S2x16384x1024, .f32⟩
  | .hbm, ⟨77, _⟩ => ⟨S2x16384x1024, .f32⟩
  | .hbm, ⟨78, _⟩ => ⟨S1x1x1024, .f32⟩
  | .hbm, ⟨79, _⟩ => ⟨S2x16384x1024, .f32⟩
  | .hbm, ⟨80, _⟩ => ⟨S2x16384x1024, .f32⟩
  | .hbm, ⟨81, _⟩ => ⟨S_, .f32⟩
  | .hbm, ⟨82, _⟩ => ⟨S2x1x1024, .f32⟩
  | .hbm, ⟨83, _⟩ => ⟨S2x1x1024, .f32⟩
  | .hbm, ⟨84, _⟩ => ⟨S2x16384x1024, .f32⟩
  | .hbm, ⟨85, _⟩ => ⟨S2x16384x1024, .f32⟩
  | .hbm, ⟨86, _⟩ => ⟨S2x16384x1024, .f32⟩
  | .hbm, ⟨87, _⟩ => ⟨S2x16384x1024, .f32⟩
  | .hbm, ⟨88, _⟩ => ⟨S32768x1024, .f32⟩
  | .hbm, ⟨89, _⟩ => ⟨S32768x1024, .f32⟩
  | .hbm, ⟨90, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S32768x4096 : Shape := ⟨2, ![32768, 4096]⟩
abbrev S3x9x1024 : Shape := ⟨3, ![3, 9, 1024]⟩
abbrev S1024x10304 : Shape := ⟨2, ![1024, 10304]⟩
abbrev S10304 : Shape := ⟨1, ![10304]⟩
abbrev S32 : Shape := ⟨1, ![32]⟩
abbrev S2048 : Shape := ⟨1, ![2048]⟩
abbrev S2048x1024 : Shape := ⟨2, ![2048, 1024]⟩
abbrev S1024x1024 : Shape := ⟨2, ![1024, 1024]⟩
abbrev S1024x2048 : Shape := ⟨2, ![1024, 2048]⟩
abbrev S32x64 : Shape := ⟨2, ![32, 64]⟩
abbrev S1x2048 : Shape := ⟨2, ![1, 2048]⟩
abbrev S256x1024 : Shape := ⟨2, ![256, 1024]⟩
abbrev S256x2048 : Shape := ⟨2, ![256, 2048]⟩
abbrev S1x9x1024 : Shape := ⟨3, ![1, 9, 1024]⟩
abbrev S256x256 : Shape := ⟨2, ![256, 256]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 28
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S32768x4096, .bf16⟩
  | .hbm, ⟨5, _⟩ => ⟨S32768x1024, .bf16⟩
  | .hbm, ⟨6, _⟩ => ⟨S3x9x1024, .f32⟩
  | .hbm, ⟨7, _⟩ => ⟨S1024x10304, .f32⟩
  | .hbm, ⟨8, _⟩ => ⟨S10304, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x1024, .f32⟩
  | .hbm, ⟨13, _⟩ => ⟨S1024x2048, .f32⟩
  | .hbm, ⟨14, _⟩ => ⟨S1024x2048, .bf16⟩
  | .hbm, ⟨15, _⟩ => ⟨S2048, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S32x64, .f32⟩
  | .hbm, ⟨20, _⟩ => ⟨S2048, .f32⟩
  | .hbm, ⟨21, _⟩ => ⟨S2048x1024, .bf16⟩
  | .hbm, ⟨22, _⟩ => ⟨S1024x1024, .bf16⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x1024, .bf16⟩
  | .local _ .vmem, ⟨11, _⟩ => ⟨S256x1024, .bf16⟩
  | .local _ .vmem, ⟨12, _⟩ => ⟨S1x9x1024, .f32⟩
  | .local _ .vmem, ⟨13, _⟩ => ⟨S1x9x1024, .f32⟩
  | .local _ .vmem, ⟨14, _⟩ => ⟨S1024x2048, .bf16⟩
  | .local _ .vmem, ⟨15, _⟩ => ⟨S1x2048, .f32⟩
  | .local _ .vmem, ⟨16, _⟩ => ⟨S1024x2048, .bf16⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S2048x1024, .bf16⟩
  | .local _ .vmem, ⟨21, _⟩ => ⟨S1024x1024, .bf16⟩
  | .local _ .vmem, ⟨22, _⟩ => ⟨S256x1024, .f32⟩
  | .local _ .vmem, ⟨23, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x9x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x1024 : Shape := ⟨2, ![32768, 1024]⟩
abbrev S32768x2048 : Shape := ⟨2, ![32768, 2048]⟩
abbrev S32768x4096 : Shape := ⟨2, ![32768, 4096]⟩
abbrev S3x9x1024 : Shape := ⟨3, ![3, 9, 1024]⟩
abbrev S1024x10304 : Shape := ⟨2, ![1024, 10304]⟩
abbrev S10304 : Shape := ⟨1, ![10304]⟩
abbrev S32 : Shape := ⟨1, ![32]⟩
abbrev S2048 : Shape := ⟨1, ![2048]⟩
abbrev S2048x1024 : Shape := ⟨2, ![2048, 1024]⟩
abbrev S1024x1024 : Shape := ⟨2, ![1024, 1024]⟩
abbrev S2x16384x1024 : Shape := ⟨3, ![2, 16384, 1024]⟩
abbrev S2x16384x10304 : Shape := ⟨3, ![2, 16384, 10304]⟩
abbrev S1x1x10304 : Shape := ⟨3, ![1, 1, 10304]⟩
abbrev S2x16384x2048 : Shape := ⟨3, ![2, 16384, 2048]⟩
abbrev S2x16384x4096 : Shape := ⟨3, ![2, 16384, 4096]⟩
abbrev S2x16384x64 : Shape := ⟨3, ![2, 16384, 64]⟩
abbrev S2x16384x8x4x64 : Shape := ⟨5, ![2, 16384, 8, 4, 64]⟩
abbrev S8x4x1 : Shape := ⟨3, ![8, 4, 1]⟩
abbrev S1x1x8x4x1 : Shape := ⟨5, ![1, 1, 8, 4, 1]⟩
abbrev S_ : Shape := ⟨0, ![]⟩
abbrev S2x16384x8x256 : Shape := ⟨4, ![2, 16384, 8, 256]⟩
abbrev S8x256 : Shape := ⟨2, ![8, 256]⟩
abbrev S2x16384x8 : Shape := ⟨3, ![2, 16384, 8]⟩
abbrev S2x16384x8x1 : Shape := ⟨4, ![2, 16384, 8, 1]⟩
abbrev S1x1x8x256 : Shape := ⟨4, ![1, 1, 8, 256]⟩
abbrev S2x1x1024 : Shape := ⟨3, ![2, 1, 1024]⟩
abbrev S2x1024 : Shape := ⟨2, ![2, 1024]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S32768x4096, .bf16⟩
  | .hbm, ⟨5, _⟩ => ⟨S32768x1024, .bf16⟩
  | .hbm, ⟨6, _⟩ => ⟨S3x9x1024, .f32⟩
  | .hbm, ⟨7, _⟩ => ⟨S1024x10304, .f32⟩
  | .hbm, ⟨8, _⟩ => ⟨S10304, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x1024, .f32⟩
  | .hbm, ⟨13, _⟩ => ⟨S32768x1024, .f32⟩
  | .hbm, ⟨14, _⟩ => ⟨S2x16384x1024, .f32⟩
  | .hbm, ⟨15, _⟩ => ⟨S2x16384x10304, .f32⟩
  | .hbm, ⟨16, _⟩ => ⟨S1x1x10304, .f32⟩
  | .hbm, ⟨17, _⟩ => ⟨S2x16384x10304, .f32⟩
  | .hbm, ⟨18, _⟩ => ⟨S2x16384x10304, .f32⟩
  | .hbm, ⟨19, _⟩ => ⟨S2x16384x2048, .f32⟩
  | .hbm, ⟨20, _⟩ => ⟨S2x16384x2048, .f32⟩
  | .hbm, ⟨21, _⟩ => ⟨S2x16384x4096, .f32⟩
  | .hbm, ⟨22, _⟩ => ⟨S2x16384x64, .f32⟩
  | .hbm, ⟨23, _⟩ => ⟨S2x16384x2048, .f32⟩
  | .hbm, ⟨24, _⟩ => ⟨S32768x2048, .f32⟩
  | .hbm, ⟨25, _⟩ => ⟨S2x16384x8x4x64, .f32⟩
  | .hbm, ⟨26, _⟩ => ⟨S32768x2048, .f32⟩
  | .hbm, ⟨27, _⟩ => ⟨S2x16384x8x4x64, .f32⟩
  | .hbm, ⟨28, _⟩ => ⟨S2x16384x8x4x64, .f32⟩
  | .hbm, ⟨29, _⟩ => ⟨S32768x2048, .bf16⟩
  | .hbm, ⟨30, _⟩ => ⟨S32768x2048, .f32⟩
  | .hbm, ⟨31, _⟩ => ⟨S2x16384x8x4x64, .f32⟩
  | .hbm, ⟨32, _⟩ => ⟨S32768x1024, .f32⟩
  | .hbm, ⟨33, _⟩ => ⟨S2x16384x1024, .f32⟩
  | .hbm, ⟨34, _⟩ => ⟨S8x4x1, .f32⟩
  | .hbm, ⟨35, _⟩ => ⟨S1x1x8x4x1, .f32⟩
  | .hbm, ⟨36, _⟩ => ⟨S2x16384x8x4x64, .f32⟩
  | .hbm, ⟨37, _⟩ => ⟨S2x16384x8x4x64, .f32⟩
  | .hbm, ⟨38, _⟩ => ⟨S2x16384x8x4x64, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x16384x2048, .f32⟩
  | .hbm, ⟨44, _⟩ => ⟨S2x16384x2048, .f32⟩
  | .hbm, ⟨45, _⟩ => ⟨S_, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S2x16384x8x256, .f32⟩
  | .hbm, ⟨51, _⟩ => ⟨S8x256, .f32⟩
  | .hbm, ⟨52, _⟩ => ⟨S2x16384x8x256, .f32⟩
  | .hbm, ⟨53, _⟩ => ⟨S_, .f32⟩
  | .hbm, ⟨54, _⟩ => ⟨S2x16384x8, .f32⟩
  | .hbm, ⟨55, _⟩ => ⟨S2x16384x8x1, .f32⟩
  | .hbm, ⟨56, _⟩ => ⟨S_, .f32⟩
  | .hbm, ⟨57, _⟩ => ⟨S2x16384x8x1, .f32⟩
  | .hbm, ⟨58, _⟩ => ⟨S2x16384x8x1, .f32⟩
  | .hbm, ⟨59, _⟩ => ⟨S_, .f32⟩
  | .hbm, ⟨60, _⟩ => ⟨S2x16384x8x1, .f32⟩
  | .hbm, ⟨61, _⟩ => ⟨S2x16384x8x1, .f32⟩
  | .hbm, ⟨62, _⟩ => ⟨S2x16384x8x1, .f32⟩
  | .hbm, ⟨63, _⟩ => ⟨S2x16384x8x256, .f32⟩
  | .hbm, ⟨64, _⟩ => ⟨S2x16384x8x256, .f32⟩
  | .hbm, ⟨65, _⟩ => ⟨S1x1x8x256, .f32⟩
  | .hbm, ⟨66, _⟩ => ⟨S2x16384x8x256, .f32⟩
  | .hbm, ⟨67, _⟩ => ⟨S2x16384x8x256, .f32⟩
  | .hbm, ⟨68, _⟩ => ⟨S2x16384x2048, .f32⟩
  | .hbm, ⟨69, _⟩ => ⟨S2x16384x1024, .f32⟩
  | .hbm, ⟨70, _⟩ => ⟨S2x16384x2048, .f32⟩
  | .hbm, ⟨71, _⟩ => ⟨S2x16384x2048, .f32⟩
  | .hbm, ⟨72, _⟩ => ⟨S_, .f32⟩
  | .hbm, ⟨73, _⟩ => ⟨S2x16384x2048, .f32⟩
  | .hbm, ⟨74, _⟩ => ⟨S2x16384x2048, .f32⟩
  | .hbm, ⟨75, _⟩ => ⟨S_, .f32⟩
  | .hbm, ⟨76, _⟩ => ⟨S2x16384x2048, .f32⟩
  | .hbm, ⟨77, _⟩ => ⟨S2x16384x2048, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | .hbm, ⟨84, _⟩ => ⟨S2x16384x1024, .f32⟩
  | .hbm, ⟨85, _⟩ => ⟨S2x1x1024, .f32⟩
  | .hbm, ⟨86, _⟩ => ⟨S2x1024, .f32⟩
  | .hbm, ⟨87, _⟩ => ⟨S2x1x1024, .f32⟩
  | .hbm, ⟨88, _⟩ => ⟨S2x16384x1024, .f32⟩
  | .hbm, ⟨89, _⟩ => ⟨S2x16384x1024, .f32⟩
  | .hbm, ⟨90, _⟩ => ⟨S2x16384x1024, .f32⟩
  | .hbm, ⟨91, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst : Ref sig .tc := ⟨.hbm, 53, rfl⟩
abbrev main_v32 : Ref sig .tc := ⟨.hbm, 54, rfl⟩
abbrev main_v33 : Ref sig .tc := ⟨.hbm, 55, rfl⟩
abbrev main_cst_0 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Kernel4.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S2x1024 : Shape := ⟨2, ![2, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1024, .f32⟩
  | .hbm, ⟨14, _⟩ => ⟨S2x1x1024, .f32⟩
  | .hbm, ⟨15, _⟩ => ⟨S2x1x1024, .f32⟩
  | .hbm, ⟨16, _⟩ => ⟨S2x1024, .f32⟩
  | .hbm, ⟨17, _⟩ => ⟨S2x1x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S2x1x1024, .f32⟩
  | .hbm, ⟨25, _⟩ => ⟨S2x1024, .f32⟩
  | .hbm, ⟨26, _⟩ => ⟨S2x1x1024, .f32⟩
  | .hbm, ⟨27, _⟩ => ⟨S2x1x1024, .f32⟩
  | .hbm, ⟨28, _⟩ => ⟨S2x1024, .f32⟩
  | .hbm, ⟨29, _⟩ => ⟨S2x1x1024, .f32⟩
  | .hbm, ⟨30, _⟩ => ⟨S2x1x1024, .f32⟩
  | .hbm, ⟨31, _⟩ => ⟨S2x1024, .f32⟩
  | .hbm, ⟨32, _⟩ => ⟨S2x1x1024, .f32⟩
  | .hbm, ⟨33, _⟩ => ⟨S2x16384x1024, .f32⟩
  | .hbm, ⟨34, _⟩ => ⟨S2x16384x1024, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x1024, .f32⟩
  | .hbm, ⟨46, _⟩ => ⟨S2x16384x1024, .f32⟩
  | .hbm, ⟨47, _⟩ => ⟨S1x1x1024, .f32⟩
  | .hbm, ⟨48, _⟩ => ⟨S2x16384x1024, .f32⟩
  | .hbm, ⟨49, _⟩ => ⟨S2x16384x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S_, .f32⟩
  | .hbm, ⟨61, _⟩ => ⟨S2x16384x2816, .f32⟩
  | .hbm, ⟨62, _⟩ => ⟨S2x16384x2816, .f32⟩
  | .hbm, ⟨63, _⟩ => ⟨S_, .f32⟩
  | .hbm, ⟨64, _⟩ => ⟨S2x16384x2816, .f32⟩
  | .hbm, ⟨65, _⟩ => ⟨S2x16384x2816, .f32⟩
  | .hbm, ⟨66, _⟩ => ⟨S2x16384x2816, .f32⟩
  | .hbm, ⟨67, _⟩ => ⟨S2x16384x2816, .f32⟩
  | .hbm, ⟨68, _⟩ => ⟨S2x16384x2816, .f32⟩
  | .hbm, ⟨69, _⟩ => ⟨S2x16384x1024, .f32⟩
  | .hbm, ⟨70, _⟩ => ⟨S_, .f32⟩
  | .hbm, ⟨71, _⟩ => ⟨S2x1x1024, .f32⟩
  | .hbm, ⟨72, _⟩ => ⟨S2x1x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel5.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S32768x1024 : Shape := ⟨2, ![32768, 1024]⟩
abbrev S3x9x1024 : Shape := ⟨3, ![3, 9, 1024]⟩
abbrev S1024 : Shape := ⟨1, ![1024]⟩
abbrev S1024x2816 : Shape := ⟨2, ![1024, 2816]⟩
abbrev S2816x1024 : Shape := ⟨2, ![2816, 1024]⟩
abbrev S2x1x1024 : Shape := ⟨3, ![2, 1, 1024]⟩
abbrev S2x1024 : Shape := ⟨2, ![2, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S3x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S2x1x1024, .f32⟩
  | .hbm, ⟨29, _⟩ => ⟨S2x1024, .f32⟩
  | .hbm, ⟨30, _⟩ => ⟨S2x1x1024, .f32⟩
  | .hbm, ⟨31, _⟩ => ⟨S2x1x1024, .f32⟩
  | .hbm, ⟨32, _⟩ => ⟨S2x1024, .f32⟩
  | .hbm, ⟨33, _⟩ => ⟨S2x1x1024, .f32⟩
  | .hbm, ⟨34, _⟩ => ⟨S2x16384x1024, .f32⟩
  | .hbm, ⟨35, _⟩ => ⟨S2x16384x1024, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x1024, .f32⟩
  | .hbm, ⟨47, _⟩ => ⟨S2x16384x1024, .f32⟩
  | .hbm, ⟨48, _⟩ => ⟨S1x1x1024, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S_, .f32⟩
  | .hbm, ⟨62, _⟩ => ⟨S2x16384x2816, .f32⟩
  | .hbm, ⟨63, _⟩ => ⟨S2x16384x2816, .f32⟩
  | .hbm, ⟨64, _⟩ => ⟨S_, .f32⟩
  | .hbm, ⟨65, _⟩ => ⟨S2x16384x2816, .f32⟩
  | .hbm, ⟨66, _⟩ => ⟨S2x16384x2816, .f32⟩
  | .hbm, ⟨67, _⟩ => ⟨S2x16384x2816, .f32⟩
  | .hbm, ⟨68, _⟩ => ⟨S2x16384x2816, .f32⟩
  | .hbm, ⟨69, _⟩ => ⟨S2x16384x2816, .f32⟩
  | .hbm, ⟨70, _⟩ => ⟨S2x16384x1024, .f32⟩
  | .hbm, ⟨71, _⟩ => ⟨S_, .f32⟩
  | .hbm, ⟨72, _⟩ => ⟨S2x1x1024, .f32⟩
  | .hbm, ⟨73, _⟩ => ⟨S2x1x1024, .f32⟩
  | .hbm, ⟨74, _⟩ => ⟨S2x16384x1024, .f32⟩
  | .hbm, ⟨75, _⟩ => ⟨S2x16384x1024, .f32⟩
  | .hbm, ⟨76, _⟩ => ⟨S2x16384x1024, .f32⟩
  | .hbm, ⟨77, _⟩ => ⟨S2x16384x1024, .f32⟩
  | .hbm, ⟨78, _⟩ => ⟨S_, .f32⟩
  | .hbm, ⟨79, _⟩ => ⟨S2x16384, .f32⟩
  | .hbm, ⟨80, _⟩ => ⟨S2x16384x1, .f32⟩
  | .hbm, ⟨81, _⟩ => ⟨S_, .f32⟩
  | .hbm, ⟨82, _⟩ => ⟨S2x16384x1, .f32⟩
  | .hbm, ⟨83, _⟩ => ⟨S2x16384x1, .f32⟩
  | .hbm, ⟨84, _⟩ => ⟨S_, .f32⟩
  | .hbm, ⟨85, _⟩ => ⟨S2x16384x1, .f32⟩
  | .hbm, ⟨86, _⟩ => ⟨S2x16384x1, .f32⟩
  | .hbm, ⟨87, _⟩ => ⟨S2x16384x1, .f32⟩
  | .hbm, ⟨88, _⟩ => ⟨S2x16384x1024, .f32⟩
  | .hbm, ⟨89, _⟩ => ⟨S2x16384x1024, .f32⟩
  | .hbm, ⟨90, _⟩ => ⟨S1x1x1024, .f32⟩
  | .hbm, ⟨91, _⟩ => ⟨S2x16384x1024, .f32⟩
  | .hbm, ⟨92, _⟩ => ⟨S2x16384x1024, .f32⟩
  | .hbm, ⟨93, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_v59 : Ref sig .tc := ⟨.hbm, 80, rfl⟩
abbrev main_cst_5 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Kernel6.lean ====
abbrev S32768x1024 : Shape := ⟨2, ![32768, 1024]⟩
abbrev S1024x10304 : Shape := ⟨2, ![1024, 10304]⟩
abbrev S10304 : Shape := ⟨1, ![10304]⟩
abbrev S5x4096 : Shape := ⟨2, ![5, 4096]⟩
abbrev S4096 : Shape := ⟨1, ![4096]⟩
abbrev S2x32 : Shape := ⟨2, ![2, 32]⟩
abbrev S1024x4096 : Shape := ⟨2, ![1024, 4096]⟩
abbrev S_ : Shape := ⟨0, ![]⟩
abbrev S1024x128 : Shape := ⟨2, ![1024, 128]⟩
abbrev S1024x64 : Shape := ⟨2, ![1024, 64]⟩
abbrev S1 : Shape := ⟨1, ![1]⟩
abbrev S64 : Shape := ⟨1, ![64]⟩
abbrev S128 : Shape := ⟨1, ![128]⟩
abbrev S1x4096 : Shape := ⟨2, ![1, 4096]⟩
abbrev S1x128 : Shape := ⟨2, ![1, 128]⟩
abbrev S32768x4096 : Shape := ⟨2, ![32768, 4096]⟩
abbrev S32768x128 : Shape := ⟨2, ![32768, 128]⟩
abbrev S16x1024 : Shape := ⟨2, ![16, 1024]⟩
abbrev S512x1024 : Shape := ⟨2, ![512, 1024]⟩
abbrev S512x4096 : Shape := ⟨2, ![512, 4096]⟩
abbrev S512x128 : Shape := ⟨2, ![512, 128]⟩
abbrev S544x4096 : Shape := ⟨2, ![544, 4096]⟩
abbrev S544x1024 : Shape := ⟨2, ![544, 1024]⟩
abbrev S544x1 : Shape := ⟨2, ![544, 1]⟩
abbrev S64x128 : Shape := ⟨2, ![64, 128]⟩

abbrev nBuf : Space → Nat
  | .hbm => 29
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S1024x10304, .f32⟩
  | .hbm, ⟨2, _⟩ => ⟨S10304, .f32⟩
  | .hbm, ⟨3, _⟩ => ⟨S5x4096, .f32⟩
  | .hbm, ⟨4, _⟩ => ⟨S4096, .f32⟩
  | .hbm, ⟨5, _⟩ => ⟨S2x32, .f32⟩
  | .hbm, ⟨6, _⟩ => ⟨S1024x4096, .f32⟩
  | .hbm, ⟨7, _⟩ => ⟨S1024x4096, .bf16⟩
  | .hbm, ⟨8, _⟩ => ⟨S4096, .f32⟩
  | .hbm, ⟨9, _⟩ => ⟨S_, .f32⟩
  | .hbm, ⟨10, _⟩ => ⟨S1024x128, .f32⟩
  | .hbm, ⟨11, _⟩ => ⟨S1024x64, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S1024x128, .bf16⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S128, .f32⟩
  | .hbm, ⟨21, _⟩ => ⟨S_, .i32⟩
  | .hbm, ⟨22, _⟩ => ⟨S1, .i32⟩
  | .hbm, ⟨23, _⟩ => ⟨S128, .f32⟩
  | .hbm, ⟨24, _⟩ => ⟨S1x4096, .f32⟩
  | .hbm, ⟨25, _⟩ => ⟨S1x128, .f32⟩
  | .hbm, ⟨26, _⟩ => ⟨S1x4096, .f32⟩
  | .hbm, ⟨27, _⟩ => ⟨S32768x4096, .bf16⟩
  | .hbm, ⟨28, _⟩ => ⟨S32768x128, .f32⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x4096, .bf16⟩
  | .local _ .vmem, ⟨7, _⟩ => ⟨S1x4096, .f32⟩
  | .local _ .vmem, ⟨8, _⟩ => ⟨S1024x128, .bf16⟩
  | .local _ .vmem, ⟨9, _⟩ => ⟨S1x128, .f32⟩
  | .local _ .vmem, ⟨10, _⟩ => ⟨S5x4096, .f32⟩
  | .local _ .vmem, ⟨11, _⟩ => ⟨S1x4096, .f32⟩
  | .local _ .vmem, ⟨12, _⟩ => ⟨S512x4096, .bf16⟩
  | .local _ .vmem, ⟨13, _⟩ => ⟨S512x4096, .bf16⟩
  | .local _ .vmem, ⟨14, _⟩ => ⟨S512x128, .f32⟩
  | .local _ .vmem, ⟨15, _⟩ => ⟨S512x128, .f32⟩
  | .local _ .vmem, ⟨16, _⟩ => ⟨S544x4096, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_18 : BitVec 32 := 0#32
  let c32_i32 : BitVec 32 := 32#32
  let v47 : BitVec 32 := Scalar.addi c0_i32_18 c32_i32
  let c1_i32_19 : BitVec 32 := 1#32
  ⟨c0_i32_18, v47, c1_i32_19⟩
def k0_mult1 (k0_t1 : Fin k0_t1_loop.trips) : BitVec 32 :=
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  v72
def k0_off1 (k0_t1 : Fin k0_t1_loop.trips) : Fin 2 → Nat :=
  let c14 : Index := 14#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v75 : Index := Scalar.indexCast v73
  ![14, v75.toNat]
def k0_off2 (k0_t1 : Fin k0_t1_loop.trips) : Fin 2 → Nat :=
  let c0_34 : Index := 0#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v77 : Index := Scalar.indexCast v73
  ![0, v77.toNat]
def k0_off3 (k0_t1 : Fin k0_t1_loop.trips) : Fin 2 → Nat :=
  let c15 : Index := 15#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v82 : Index := Scalar.indexCast v73
  ![15, v82.toNat]
def k0_off4 (k0_t1 : Fin k0_t1_loop.trips) : Fin 2 → Nat :=
  let c1 : Index := 1#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v84 : Index := Scalar.indexCast v73
  ![1, v84.toNat]
def k0_off5 (k0_t1 : Fin k0_t1_loop.trips) : Fin 2 → Nat :=
  let c16 : Index := 16#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v89 : Index := Scalar.indexCast v73
  ![16, v89.toNat]
def k0_off6 (k0_t1 : Fin k0_t1_loop.trips) : Fin 2 → Nat :=
  let c2 : Index := 2#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v91 : Index := Scalar.indexCast v73
  ![2, v91.toNat]
def k0_off7 (k0_t1 : Fin k0_t1_loop.trips) : Fin 2 → Nat :=
  let c17 : Index := 17#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v96 : Index := Scalar.indexCast v73
  ![17, v96.toNat]
def k0_off8 (k0_t1 : Fin k0_t1_loop.trips) : Fin 2 → Nat :=
  let c3 : Index := 3#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v98 : Index := Scalar.indexCast v73
  ![3, v98.toNat]
def k0_off9 (k0_t1 : Fin k0_t1_loop.trips) : Fin 2 → Nat :=
  let c18 : Index := 18#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v103 : Index := Scalar.indexCast v73
  ![18, v103.toNat]
def k0_off10 (k0_t1 : Fin k0_t1_loop.trips) : Fin 2 → Nat :=
  let c4 : Index := 4#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v105 : Index := Scalar.indexCast v73
  ![4, v105.toNat]
def k0_off11 (k0_t1 : Fin k0_t1_loop.trips) : Fin 2 → Nat :=
  let c0_35 : Index := 0#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v110 : Index := Scalar.indexCast v73
  ![0, v110.toNat]
def k0_off12 (k0_t1 : Fin k0_t1_loop.trips) : Fin 2 → Nat :=
  let c0_39 : Index := 0#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v124 : Index := Scalar.indexCast v73
  ![0, v124.toNat]
def k0_off13 (k0_t1 : Fin k0_t1_loop.trips) : Fin 2 → Nat :=
  let c78 : Index := 78#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v127 : Index := Scalar.indexCast v73
  ![78, v127.toNat]
def k0_off14 (k0_t1 : Fin k0_t1_loop.trips) : Fin 2 → Nat :=
  let c79 : Index := 79#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v134 : Index := Scalar.indexCast v73
  ![79, v134.toNat]
def k0_off15 (k0_t1 : Fin k0_t1_loop.trips) : Fin 2 → Nat :=
  let c80 : Index := 80#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v141 : Index := Scalar.indexCast v73
  ![80, v141.toNat]
def k0_off16 (k0_t1 : Fin k0_t1_loop.trips) : Fin 2 → Nat :=
  let c81 : Index := 81#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v148 : Index := Scalar.indexCast v73
  ![81, v148.toNat]
def k0_off17 (k0_t1 : Fin k0_t1_loop.trips) : Fin 2 → Nat :=
  let c82 : Index := 82#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v155 : Index := Scalar.indexCast v73
  ![82, v155.toNat]
def k0_off18 (k0_t1 : Fin k0_t1_loop.trips) : Fin 2 → Nat :=
  let c64 : Index := 64#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v176 : Index := Scalar.indexCast v73
  ![64, v176.toNat]
def k0_off19 (k0_t1 : Fin k0_t1_loop.trips) : Fin 2 → Nat :=
  let c142 : Index := 142#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v179 : Index := Scalar.indexCast v73
  ![142, v179.toNat]
def k0_off20 (k0_t1 : Fin k0_t1_loop.trips) : Fin 2 → Nat :=
  let c143 : Index := 143#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v186 : Index := Scalar.indexCast v73
  ![143, v186.toNat]
def k0_off21 (k0_t1 : Fin k0_t1_loop.trips) : Fin 2 → Nat :=
  let c144 : Index := 144#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v193 : Index := Scalar.indexCast v73
  ![144, v193.toNat]
def k0_off22 (k0_t1 : Fin k0_t1_loop.trips) : Fin 2 → Nat :=
  let c145 : Index := 145#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v200 : Index := Scalar.indexCast v73
  ![145, v200.toNat]
def k0_off23 (k0_t1 : Fin k0_t1_loop.trips) : Fin 2 → Nat :=
  let c146 : Index := 146#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v207 : Index := Scalar.indexCast v73
  ![146, v207.toNat]
def k0_off24 (k0_t1 : Fin k0_t1_loop.trips) : Fin 2 → Nat :=
  let c128 : Index := 128#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v228 : Index := Scalar.indexCast v73
  ![128, v228.toNat]
def k0_off25 (k0_t1 : Fin k0_t1_loop.trips) : Fin 2 → Nat :=
  let c206 : Index := 206#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v231 : Index := Scalar.indexCast v73
  ![206, v231.toNat]
def k0_off26 (k0_t1 : Fin k0_t1_loop.trips) : Fin 2 → Nat :=
  let c207 : Index := 207#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v238 : Index := Scalar.indexCast v73
  ![207, v238.toNat]
def k0_off27 (k0_t1 : Fin k0_t1_loop.trips) : Fin 2 → Nat :=
  let c208 : Index := 208#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v245 : Index := Scalar.indexCast v73
  ![208, v245.toNat]
def k0_off28 (k0_t1 : Fin k0_t1_loop.trips) : Fin 2 → Nat :=
  let c209 : Index := 209#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v252 : Index := Scalar.indexCast v73
  ![209, v252.toNat]
def k0_off29 (k0_t1 : Fin k0_t1_loop.trips) : Fin 2 → Nat :=
  let c210 : Index := 210#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v259 : Index := Scalar.indexCast v73
  ![210, v259.toNat]
def k0_off30 (k0_t1 : Fin k0_t1_loop.trips) : Fin 2 → Nat :=
  let c192 : Index := 192#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v280 : Index := Scalar.indexCast v73
  ![192, v280.toNat]
def k0_off31 (k0_t1 : Fin k0_t1_loop.trips) : Fin 2 → Nat :=
  let c270 : Index := 270#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v283 : Index := Scalar.indexCast v73
  ![270, v283.toNat]
def k0_off32 (k0_t1 : Fin k0_t1_loop.trips) : Fin 2 → Nat :=
  let c271 : Index := 271#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v290 : Index := Scalar.indexCast v73
  ![271, v290.toNat]
def k0_off33 (k0_t1 : Fin k0_t1_loop.trips) : Fin 2 → Nat :=
  let c272 : Index := 272#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v297 : Index := Scalar.indexCast v73
  ![272, v297.toNat]
def k0_off34 (k0_t1 : Fin k0_t1_loop.trips) : Fin 2 → Nat :=
  let c273 : Index := 273#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v304 : Index := Scalar.indexCast v73
  ![273, v304.toNat]
def k0_off35 (k0_t1 : Fin k0_t1_loop.trips) : Fin 2 → Nat :=
  let c274 : Index := 274#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v311 : Index := Scalar.indexCast v73
  ![274, v311.toNat]
def k0_off36 (k0_t1 : Fin k0_t1_loop.trips) : Fin 2 → Nat :=
  let c256 : Index := 256#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v332 : Index := Scalar.indexCast v73
  ![256, v332.toNat]
def k0_off37 (k0_t1 : Fin k0_t1_loop.trips) : Fin 2 → Nat :=
  let c334 : Index := 334#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v335 : Index := Scalar.indexCast v73
  ![334, v335.toNat]
def k0_off38 (k0_t1 : Fin k0_t1_loop.trips) : Fin 2 → Nat :=
  let c335 : Index := 335#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v342 : Index := Scalar.indexCast v73
  ![335, v342.toNat]
def k0_off39 (k0_t1 : Fin k0_t1_loop.trips) : Fin 2 → Nat :=
  let c336 : Index := 336#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v349 : Index := Scalar.indexCast v73
  ![336, v349.toNat]
def k0_off40 (k0_t1 : Fin k0_t1_loop.trips) : Fin 2 → Nat :=
  let c337 : Index := 337#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v356 : Index := Scalar.indexCast v73
  ![337, v356.toNat]
def k0_off41 (k0_t1 : Fin k0_t1_loop.trips) : Fin 2 → Nat :=
  let c338 : Index := 338#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v363 : Index := Scalar.indexCast v73
  ![338, v363.toNat]
def k0_off42 (k0_t1 : Fin k0_t1_loop.trips) : Fin 2 → Nat :=
  let c320 : Index := 320#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v384 : Index := Scalar.indexCast v73
  ![320, v384.toNat]
def k0_off43 (k0_t1 : Fin k0_t1_loop.trips) : Fin 2 → Nat :=
  let c398 : Index := 398#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v387 : Index := Scalar.indexCast v73
  ![398, v387.toNat]
def k0_off44 (k0_t1 : Fin k0_t1_loop.trips) : Fin 2 → Nat :=
  let c399 : Index := 399#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v394 : Index := Scalar.indexCast v73
  ![399, v394.toNat]
def k0_off45 (k0_t1 : Fin k0_t1_loop.trips) : Fin 2 → Nat :=
  let c400 : Index := 400#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v401 : Index := Scalar.indexCast v73
  ![400, v401.toNat]
def k0_off46 (k0_t1 : Fin k0_t1_loop.trips) : Fin 2 → Nat :=
  let c401 : Index := 401#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v408 : Index := Scalar.indexCast v73
  ![401, v408.toNat]
def k0_off47 (k0_t1 : Fin k0_t1_loop.trips) : Fin 2 → Nat :=
  let c402 : Index := 402#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v415 : Index := Scalar.indexCast v73
  ![402, v415.toNat]
def k0_off48 (k0_t1 : Fin k0_t1_loop.trips) : Fin 2 → Nat :=
  let c384 : Index := 384#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v436 : Index := Scalar.indexCast v73
  ![384, v436.toNat]
def k0_off49 (k0_t1 : Fin k0_t1_loop.trips) : Fin 2 → Nat :=
  let c462 : Index := 462#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v439 : Index := Scalar.indexCast v73
  ![462, v439.toNat]
def k0_off50 (k0_t1 : Fin k0_t1_loop.trips) : Fin 2 → Nat :=
  let c463 : Index := 463#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v446 : Index := Scalar.indexCast v73
  ![463, v446.toNat]
def k0_off51 (k0_t1 : Fin k0_t1_loop.trips) : Fin 2 → Nat :=
  let c464 : Index := 464#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v453 : Index := Scalar.indexCast v73
  ![464, v453.toNat]
def k0_off52 (k0_t1 : Fin k0_t1_loop.trips) : Fin 2 → Nat :=
  let c465 : Index := 465#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v460 : Index := Scalar.indexCast v73
  ![465, v460.toNat]
def k0_off53 (k0_t1 : Fin k0_t1_loop.trips) : Fin 2 → Nat :=
  let c466 : Index := 466#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v467 : Index := Scalar.indexCast v73
  ![466, v467.toNat]
def k0_off54 (k0_t1 : Fin k0_t1_loop.trips) : Fin 2 → Nat :=
  let c448 : Index := 448#32
  let c0_i32_18 : BitVec 32 := 0#32
  let c1_i32_19 : BitVec 32 := 1#32
  let arg13 : BitVec 32 := Scf.iv c0_i32_18 c1_i32_19 k0_t1
  let c128_i32 : BitVec 32 := 128#32
  let v72 : BitVec 32 := Scalar.muli arg13 c128_i32
  let v73 : BitVec 32 := v72
  let v488 : Index := Scalar.indexCast v73
  ![448, v488.toNat]
def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S32768x1024 : Shape := ⟨2, ![32768, 1024]⟩
abbrev S1024x10304 : Shape := ⟨2, ![1024, 10304]⟩
abbrev S10304 : Shape := ⟨1, ![10304]⟩
abbrev S5x4096 : Shape := ⟨2, ![5, 4096]⟩
abbrev S4096 : Shape := ⟨1, ![4096]⟩
abbrev S2x32 : Shape := ⟨2, ![2, 32]⟩
abbrev S2x16384x1024 : Shape := ⟨3, ![2, 16384, 1024]⟩
abbrev S2x16384x10304 : Shape := ⟨3, ![2, 16384, 10304]⟩
abbrev S1x1x10304 : Shape := ⟨3, ![1, 1, 10304]⟩
abbrev S2x16384x2048 : Shape := ⟨3, ![2, 16384, 2048]⟩
abbrev S2x16384x4096 : Shape := ⟨3, ![2, 16384, 4096]⟩
abbrev S2x16384x64 : Shape := ⟨3, ![2, 16384, 64]⟩
abbrev S_ : Shape := ⟨0, ![]⟩
abbrev S2x16388x4096 : Shape := ⟨3, ![2, 16388, 4096]⟩
abbrev S1x4096 : Shape := ⟨2, ![1, 4096]⟩
abbrev S1x1x4096 : Shape := ⟨3, ![1, 1, 4096]⟩
abbrev S2x16384x2x8x4 : Shape := ⟨5, ![2, 16384, 2, 8, 4]⟩
abbrev S2x8x4 : Shape := ⟨3, ![2, 8, 4]⟩
abbrev S1x1x2x8x4 : Shape := ⟨5, ![1, 1, 2, 8, 4]⟩
abbrev S32768x64 : Shape := ⟨2, ![32768, 64]⟩
abbrev S32768x128 : Shape := ⟨2, ![32768, 128]⟩
abbrev S32768x4096 : Shape := ⟨2, ![32768, 4096]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x10304, .f32⟩
  | .hbm, ⟨2, _⟩ => ⟨S10304, .f32⟩
  | .hbm, ⟨3, _⟩ => ⟨S5x4096, .f32⟩
  | .hbm, ⟨4, _⟩ => ⟨S4096, .f32⟩
  | .hbm, ⟨5, _⟩ => ⟨S2x32, .f32⟩
  | .hbm, ⟨6, _⟩ => ⟨S32768x1024, .f32⟩
  | .hbm, ⟨7, _⟩ => ⟨S2x16384x1024, .f32⟩
  | .hbm, ⟨8, _⟩ => ⟨S2x16384x10304, .f32⟩
  | .hbm, ⟨9, _⟩ => ⟨S1x1x10304, .f32⟩
  | .hbm, ⟨10, _⟩ => ⟨S2x16384x10304, .f32⟩
  | .hbm, ⟨11, _⟩ => ⟨S2x16384x10304, .f32⟩
  | .hbm, ⟨12, _⟩ => ⟨S2x16384x2048, .f32⟩
  | .hbm, ⟨13, _⟩ => ⟨S2x16384x2048, .f32⟩
  | .hbm, ⟨14, _⟩ => ⟨S2x16384x4096, .f32⟩
  | .hbm, ⟨15, _⟩ => ⟨S2x16384x64, .f32⟩
  | .hbm, ⟨16, _⟩ => ⟨S2x16384x2048, .f32⟩
  | .hbm, ⟨17, _⟩ => ⟨S_, .i32⟩
  | .hbm, ⟨18, _⟩ => ⟨S_, .f32⟩
  | .hbm, ⟨19, _⟩ => ⟨S2x16388x4096, .f32⟩
  | .hbm, ⟨20, _⟩ => ⟨S2x16384x4096, .f32⟩
  | .hbm, ⟨21, _⟩ => ⟨S1x4096, .f32⟩
  | .hbm, ⟨22, _⟩ => ⟨S4096, .f32⟩
  | .hbm, ⟨23, _⟩ => ⟨S1x1x4096, .f32⟩
  | .hbm, ⟨24, _⟩ => ⟨S2x16384x4096, .f32⟩
  | .hbm, ⟨25, _⟩ => ⟨S2x16384x4096, .f32⟩
  | .hbm, ⟨26, _⟩ => ⟨S_, .f32⟩
  | .hbm, ⟨27, _⟩ => ⟨S2x16384x4096, .f32⟩
  | .hbm, ⟨28, _⟩ => ⟨S2x16384x4096, .f32⟩
  | .hbm, ⟨29, _⟩ => ⟨S2x16384x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S2x16384x4096, .f32⟩
  | .hbm, ⟨34, _⟩ => ⟨S2x16384x4096, .f32⟩
  | .hbm, ⟨35, _⟩ => ⟨S2x16384x4096, .f32⟩
  | .hbm, ⟨36, _⟩ => ⟨S2x16384x4096, .f32⟩
  | .hbm, ⟨37, _⟩ => ⟨S1x4096, .f32⟩
  | .hbm, ⟨38, _⟩ => ⟨S4096, .f32⟩
  | .hbm, ⟨39, _⟩ => ⟨S1x1x4096, .f32⟩
  | .hbm, ⟨40, _⟩ => ⟨S2x16384x4096, .f32⟩
  | .hbm, ⟨41, _⟩ => ⟨S2x16384x4096, .f32⟩
  | .hbm, ⟨42, _⟩ => ⟨S2x16384x4096, .f32⟩
  | .hbm, ⟨43, _⟩ => ⟨S2x16384x4096, .f32⟩
  | .hbm, ⟨44, _⟩ => ⟨S1x4096, .f32⟩
  | .hbm, ⟨45, _⟩ => ⟨S4096, .f32⟩
  | .hbm, ⟨46, _⟩ => ⟨S1x1x4096, .f32⟩
  | .hbm, ⟨47, _⟩ => ⟨S2x16384x4096, .f32⟩
  | .hbm, ⟨48, _⟩ => ⟨S2x16384x4096, .f32⟩
  | .hbm, ⟨49, _⟩ => ⟨S2x16384x4096, .f32⟩
  | .hbm, ⟨50, _⟩ => ⟨S2x16384x4096, .f32⟩
  | .hbm, ⟨51, _⟩ => ⟨S1x4096, .f32⟩
  | .hbm, ⟨52, _⟩ => ⟨S4096, .f32⟩
  | .hbm, ⟨53, _⟩ => ⟨S1x1x4096, .f32⟩
  | .hbm, ⟨54, _⟩ => ⟨S2x16384x4096, .f32⟩
  | .hbm, ⟨55, _⟩ => ⟨S2x16384x4096, .f32⟩
  | .hbm, ⟨56, _⟩ => ⟨S2x16384x4096, .f32⟩
  | .hbm, ⟨57, _⟩ => ⟨S1x1x4096, .f32⟩
  | .hbm, ⟨58, _⟩ => ⟨S2x16384x4096, .f32⟩
  | .hbm, ⟨59, _⟩ => ⟨S2x16384x4096, .f32⟩
  | .hbm, ⟨60, _⟩ => ⟨S2x16384x4096, .f32⟩
  | .hbm, ⟨61, _⟩ => ⟨S2x16384x4096, .f32⟩
  | .hbm, ⟨62, _⟩ => ⟨S_, .f32⟩
  | .hbm, ⟨63, _⟩ => ⟨S2x16384x4096, .f32⟩
  | .hbm, ⟨64, _⟩ => ⟨S2x16384x4096, .f32⟩
  | .hbm, ⟨65, _⟩ => ⟨S_, .f32⟩
  | .hbm, ⟨66, _⟩ => ⟨S2x16384x4096, .f32⟩
  | .hbm, ⟨67, _⟩ => ⟨S2x16384x4096, .f32⟩
  | .hbm, ⟨68, _⟩ => ⟨S2x16384x4096, .f32⟩
  | .hbm, ⟨69, _⟩ => ⟨S2x16384x2x8x4, .f32⟩
  | .hbm, ⟨70, _⟩ => ⟨S2x8x4, .f32⟩
  | .hbm, ⟨71, _⟩ => ⟨S1x1x2x8x4, .f32⟩
  | .hbm, ⟨72, _⟩ => ⟨S2x16384x2x8x4, .f32⟩
  | .hbm, ⟨73, _⟩ => ⟨S2x16384x2x8x4, .f32⟩
  | .hbm, ⟨74, _⟩ => ⟨S_, .f32⟩
  | .hbm, ⟨75, _⟩ => ⟨S2x16384x2x8x4, .f32⟩
  | .hbm, ⟨76, _⟩ => ⟨S2x16384x2x8x4, .f32⟩
  | .hbm, ⟨77, _⟩ => ⟨S2x16384x2x8x4, .f32⟩
  | .hbm, ⟨78, _⟩ => ⟨S2x16384x2x8x4, .f32⟩
  | .hbm, ⟨79, _⟩ => ⟨S2x16384x2x8x4, .i1⟩
  | .hbm, ⟨80, _⟩ => ⟨S2x16384x2x8x4, .f32⟩
  | .hbm, ⟨81, _⟩ => ⟨S2x16384x2x8x4, .f32⟩
  | .hbm, ⟨82, _⟩ => ⟨S2x16384x2x8x4, .f32⟩
  | .hbm, ⟨83, _⟩ => ⟨S2x16384x2x8x4, .f32⟩
  | .hbm, ⟨84, _⟩ => ⟨S2x16384x2x8x4, .f32⟩
  | .hbm, ⟨85, _⟩ => ⟨S2x16384x2x8x4, .f32⟩
  | .hbm, ⟨86, _⟩ => ⟨S2x16384x2x8x4, .f32⟩
  | .hbm, ⟨87, _⟩ => ⟨S2x16384x2x8x4, .f32⟩
  | .hbm, ⟨88, _⟩ => ⟨S32768x64, .f32⟩
  | .hbm, ⟨89, _⟩ => ⟨S_, .i32⟩
  | .hbm, ⟨90, _⟩ => ⟨S_, .f32⟩
  | .hbm, ⟨91, _⟩ => ⟨S32768x128, .f32⟩
  | .hbm, ⟨92, _⟩ => ⟨S32768x4096, .f32⟩
  | .hbm, ⟨93, _⟩ => ⟨S32768x4096, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v57 : Ref sig .tc := ⟨.hbm, 87, rfl⟩
abbrev main_v58 : Ref sig .tc := ⟨.hbm, 88, rfl⟩
abbrev main_c_0 : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Proof.ScanIdeal.Indep.lean ====
/- The chunk loop of the scan stores into the `y` block but never reads it back: the pieces the loop's trips leave do not
   depend on what the `y` block held when the loop was entered. -/
module

public import proofs.«01_k».proof.Proof.Gen.KernelIdeal.Loops

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

variable {F : FTy → Type} [FloatOps F] [Named F]

/-- One chunk's pieces are the same whatever the `y` block holds before it. -/
theorem tripL_indep (𝒱 : Variants) (c : Dev nD) (bd : Option 𝒱.V) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f f' : BufTy.Contents (Elt F) arg8.view.ty) (s : BufTy.Contents (Elt F) arg10.view.ty) :
    tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 k f s = tripL_k0_t1 (F := F) 𝒱 c bd i arg2 harg2 arg3 harg3 arg4 harg4 arg5 harg5 arg6 harg6 arg7 harg7 arg8 harg8 arg9 harg9 arg10 harg10 X_arg2 X_arg3 X_arg4 X_arg5 X_arg6 k f' s := by
  unfold tripL_k0_t1 trip_k0_t1
  rfl

/-- The pieces of the first `n` chunks are the same whatever the `y` block held at loop entry. -/
theorem pb_indep (𝒱 : Variants) (c : Dev nD) (bd : Option 𝒱.V) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f f' : BufTy.Contents (Elt F) arg8.view.ty) (s : BufTy.Contents (Elt F) arg10.view.ty) (n : ℕ) :
    pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 f s n = pb_k0_t1 (F := F) 𝒱 c bd i arg2 harg2 arg3 harg3 arg4 harg4 arg5 harg5 arg6 harg6 arg7 harg7 arg8 harg8 arg9 harg9 arg10 harg10 X_arg2 X_arg3 X_arg4 X_arg5 X_arg6 f' s n := by
  induction n with
  | zero => rfl
  | succ n ih =>
    rw [pb_k0_t1.eq_2, pb_k0_t1.eq_2, ih]
    unfold pb_k0_t1Step
    split
    · rw [tripL_indep _ _ _ _ _ _ _ _ _ _ _ _ _ _ _ _ _ _ _ _ _ _ _ _ _ _ _ _ (arg8.view.writes (Elt F) f _) (arg8.view.writes (Elt F) f' _)]
    · rfl

end Cert.KernelIdeal.Scan

end
-- ==== Proof.ScanIdeal.RunA.lean ====
/- The run of one grid point of the scan, case A. -/
module

public import proofs.«01_k».proof.Proof.Gen.KernelIdeal.Frame.Runs
public import proofs.«01_k».proof.Proof.ScanIdeal.Indep

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case A (the first block of a sequence: the state is set to the initial state first): the pieces its stores leave in the `y` block, the final
    state's block and the carried state, with the proof that the body runs and leaves them. The pieces are read off the
    run; the chunk loop's are taken with an arbitrary `y` block at loop entry (`pb_indep`). -/
noncomputable def kernelRun0_A (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) :
    Σ' (L6 : List (View.Piece (Elt F) S512x2048 .bf16)), Σ' (L7 : List (View.Piece (Elt F) S1x8x128x256 .f32)), { LS0 : List (View.Piece (Elt F) S8x128x256 .f32) //
      ∀ (xi7 : Vec F S1x8x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, [], ?_, fun xi7 E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.KernelIdeal.Scan

end
-- ==== Proof.ScanIdeal.RunB.lean ====
/- The run of one grid point of the scan, case B. -/
module

public import proofs.«01_k».proof.Proof.Gen.KernelIdeal.Frame.Runs
public import proofs.«01_k».proof.Proof.ScanIdeal.Indep

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case B (a block in the middle of a sequence): the pieces its stores leave in the `y` block, the final
    state's block and the carried state, with the proof that the body runs and leaves them. The pieces are read off the
    run; the chunk loop's are taken with an arbitrary `y` block at loop entry (`pb_indep`). -/
noncomputable def kernelRun0_B (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) :
    Σ' (L6 : List (View.Piece (Elt F) S512x2048 .bf16)), Σ' (L7 : List (View.Piece (Elt F) S1x8x128x256 .f32)), { LS0 : List (View.Piece (Elt F) S8x128x256 .f32) //
      ∀ (xi7 : Vec F S1x8x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, [], ?_, fun xi7 E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0 | sl_exact hc1)
    sl_step
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.KernelIdeal.Scan

end
-- ==== Proof.ScanIdeal.RunC.lean ====
/- The run of one grid point of the scan, case C. -/
module

public import proofs.«01_k».proof.Proof.Gen.KernelIdeal.Frame.Runs
public import proofs.«01_k».proof.Proof.ScanIdeal.Indep

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case C (the last block of a sequence: the state is copied out last): the pieces its stores leave in the `y` block, the final
    state's block and the carried state, with the proof that the body runs and leaves them. The pieces are read off the
    run; the chunk loop's are taken with an arbitrary `y` block at loop entry (`pb_indep`). -/
noncomputable def kernelRun0_C (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) :
    Σ' (L6 : List (View.Piece (Elt F) S512x2048 .bf16)), Σ' (L7 : List (View.Piece (Elt F) S1x8x128x256 .f32)), { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    sl_unfold_words
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Scan

end
-- ==== Proof.ScanIdeal.Frame.lean ====
/- The frame of the scan: what its outputs and the carried state hold point by point, from the runs of the three cases. -/
module

public import proofs.«01_k».proof.Proof.ScanIdeal.RunA
public import proofs.«01_k».proof.Proof.ScanIdeal.RunB
public import proofs.«01_k».proof.Proof.ScanIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (32 stores of `S128x256`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (y : S512x2048.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S128x256.size (by sl_kernel_rfl) y

/-- What case A leaves in output 6's staging buffer: its pieces read back over junk. -/
def out0_A_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) : Vec F S512x2048 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) : Vec F S1x8x128x256 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)

/-- Case A's pieces for scratch `arg10`, which the kernel carries between points, cover it: one of them a store of the whole buffer (Lib/Ring.lean `sl_whole_mem`). -/
theorem scover0_A_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (y : S8x128x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 hc0 hc1 x0 x1 x2 x3 x4 x5).2.2.1 (by sl_whole_mem) y

/-- What case A leaves in scratch `arg10`: its pieces read back over junk. -/
def sout0_A_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) : Vec F S8x128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)

/-- Case B's pieces for output 6 tile its block (32 stores of `S128x256`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S512x2048.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S128x256.size (by sl_kernel_rfl) y

/-- What case B leaves in output 6's staging buffer: its pieces read back over junk. -/
def out0_B_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S512x2048 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S1x8x128x256 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xs0).2.1)

/-- Case B's pieces for scratch `arg10`, which the kernel carries between points, cover it: 32 pieces of `S1x128x256` tiling it (Lib/Ring.lean `Piece.tiledL`). -/
theorem scover0_B_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S8x128x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).2.2.1 S1x128x256.size (by sl_kernel_rfl) y

/-- What case B leaves in scratch `arg10`: its pieces read back over junk. -/
def sout0_B_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S8x128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.2.1)

/-- Case C's pieces for output 6 tile its block (32 stores of `S128x256`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S512x2048.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S128x256.size (by sl_kernel_rfl) y

/-- What case C leaves in output 6's staging buffer: its pieces read back over junk. -/
def out0_C_6 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S512x2048 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)

/-- Case C's pieces for output 7 tile its block (1 store of `S1x8x128x256`, checked by the kernel's evaluation: Lib/Ring.lean `Piece.tiledL`, linear in the pieces, through a loop's `@[irreducible]` trip theorem too), so they cover it. -/
theorem cover0_C_7 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S1x8x128x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S1x8x128x256.size (by sl_kernel_rfl) y

/-- What case C leaves in output 7's staging buffer: its pieces read back over junk. -/
def out0_C_7 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S1x8x128x256 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

/-- Case C's pieces for scratch `arg10`, which the kernel carries between points, cover it: 32 pieces of `S1x128x256` tiling it (Lib/Ring.lean `Piece.tiledL`). -/
theorem scover0_C_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S8x128x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S1x128x256.size (by sl_kernel_rfl) y

/-- What case C leaves in scratch `arg10`: its pieces read back over junk. -/
def sout0_C_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S8x128x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)

/-! ## What the outputs hold after each point -/

/-- The accumulation. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .bf16 × Vec F S1x8x128x256 .f32 × Vec F S8x128x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 32 = 0 then
      if h1 : (n + 1) % 32 = 31 then
        False.elim (by have hN : n + 1 < 64 := lt_of_lt_of_eq hn (show cfg0.N = 64 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 32 = 31 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 32 = 0) (h1 : ¬t.val % 32 = 31) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel carries between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · rw [PhiS_castSucc m c t, PhiS_pos m c _ _ hz]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: `Cert.quiescent_KernelIdeal`'s statement (Defs.lean) at any `F`,
    the frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Scan

end
-- ==== Proof.ScanIdeal.Value.lean ====
/- The run of the scan, read: its result arrays block by block. -/
module

public import proofs.«01_k».proof.Proof.ScanIdeal.Frame
public import Idealize.ShloMosaic.Lib.Pipeline.Value

@[expose] public section

noncomputable section

namespace Cert.KernelIdeal.Value

open Cert.KernelIdeal Cert.KernelIdeal.Gen Cert.KernelIdeal.Scan Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back to output window 6's array: the run's contents for that window after the body (`Scan.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's named term for the window (`Scan.out0_A_6`: the pieces
    its run found, read back) at the point's memrefs and input blocks, and for an output the case reads back what the point before left (`Scan.outsAt0` at `t - 1`) — by the frame's rewriting lemma for the case. -/
theorem flushed6_A (c : Dev nD) (t : Fin cfg0.N) (h0 : t.val % 32 = 0) (h1 : ¬t.val % 32 = 31) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

/-- … so at a point where case B runs, what its write-back would write is that case's named term for the window (`Scan.out0_B_6`: the pieces
    its run found, read back) at the point's memrefs and input blocks, and for an output the case reads back what the point before left (`Scan.outsAt0` at `t - 1`) — by the frame's rewriting lemma for the case. -/
theorem flushed6_B (c : Dev nD) (t : Fin cfg0.N) (h0 : ¬t.val % 32 = 0) (h1 : ¬t.val % 32 = 31) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed6, outsAt0_B m c t h0 h1]

/-- … so at a point where case C runs, what its write-back would write is that case's named term for the window (`Scan.out0_C_6`: the pieces
    its run found, read back) at the point's memrefs and input blocks, and for an output the case reads back what the point before left (`Scan.outsAt0` at `t - 1`) — by the frame's rewriting lemma for the case. -/
theorem flushed6_C (c : Dev nD) (t : Fin cfg0.N) (h0 : ¬t.val % 32 = 0) (h1 : t.val % 32 = 31) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed6, outsAt0_C m c t h0 h1]

/-- The index map sends distinct grid points to distinct block indices (decided over the 64 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S32768x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- What point `t` writes back to output window 7's array: the run's contents for that window after the body (`Scan.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's named term for the window (`Scan.out0_A_7`: the pieces
    its run found, read back) at the point's memrefs and input blocks, and for an output the case reads back what the point before left (`Scan.outsAt0` at `t - 1`) — by the frame's rewriting lemma for the case. -/
theorem flushed7_A (c : Dev nD) (t : Fin cfg0.N) (h0 : t.val % 32 = 0) (h1 : ¬t.val % 32 = 31) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed7, outsAt0_A m c t h0 h1]

/-- … so at a point where case B runs, what its write-back would write is that case's named term for the window (`Scan.out0_B_7`: the pieces
    its run found, read back) at the point's memrefs and input blocks, and for an output the case reads back what the point before left (`Scan.outsAt0` at `t - 1`) — by the frame's rewriting lemma for the case. -/
theorem flushed7_B (c : Dev nD) (t : Fin cfg0.N) (h0 : ¬t.val % 32 = 0) (h1 : ¬t.val % 32 = 31) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed7, outsAt0_B m c t h0 h1]

/-- … so at a point where case C runs, what its write-back would write is that case's named term for the window (`Scan.out0_C_7`: the pieces
    its run found, read back) at the point's memrefs and input blocks, and for an output the case reads back what the point before left (`Scan.outsAt0` at `t - 1`) — by the frame's rewriting lemma for the case. -/
theorem flushed7_C (c : Dev nD) (t : Fin cfg0.N) (h0 : ¬t.val % 32 = 0) (h1 : t.val % 32 = 31) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed7, outsAt0_C m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S2x8x128x256.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v7_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v7_1) = (dats m 0 c).arrAt 7 cfg0.N :=
  (h c).1 7

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run named — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Scan.sout0_κ_0`; anything else the case takes of the point
    before, another carried scratch or an output it reads back, stays `Scan.outsAt0`'s at `n - 1`); a case at the points ≡ 0 (mod 32)
    stores the scratch whole without reading what it held, and `acc` does not enter there (nor where no point meets the
    conditions: `acc`, never read). -/
def scAt0_0 (c : Dev nD) (n : ℕ) (hb : n < cfg0.N) (acc : Vec F S8x128x256 .f32) : Vec F S8x128x256 .f32 :=
  if h0 : n % 32 = 0 then
    if h1 : n % 32 = 31 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : n % 32 = 31 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- What the carried scratch holds after point `t`: the fold of its run up to `t`, from the reset at the run's first point
    `32·(t / 32)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (32 * (t.val / 32)) (t.val % 32)
      (by have h1 := t.isLt; have h2 := Nat.div_add_mod t.val 32; omega) :=
  Pipeline.eq_accAt_of_mod (fun n h => (outsAt0 m c n h).2.2) 32 (fun n h => scAt0_0 m c n h (VS0_0.read (Elt F) VS0_0.junk)) (scAt0_0 m c)
    (fun n h hn => by
      have hN := lt_of_lt_of_eq h (show cfg0.N = 64 from N_0)
      by_cases h0 : n % 32 = 0 <;> by_cases h1 : n % 32 = 31
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 64 from N_0)
      by_cases h0 : (n + 1) % 32 = 0 <;> by_cases h1 : (n + 1) % 32 = 31
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: nothing named, each named output's and carried scratch's buffer read at junk. No case
    computes from it: the first point's case stores what it names before reading; only an output that case leaves
    idle keeps its junk component. -/
def junk0 : Vec F S512x2048 .bf16 × Vec F S1x8x128x256 .f32 × Vec F S8x128x256 .f32 :=
  ((VO0_6.read (Elt F) VO0_6.junk, VO0_7.read (Elt F) VO0_7.junk, VS0_0.read (Elt F) VS0_0.junk) : Vec F S512x2048 .bf16 × Vec F S1x8x128x256 .f32 × Vec F S8x128x256 .f32)

/-- The step: what point `n` leaves in the named outputs and the carried scratch (`Scan.outsAt0`'s tuple), over what the
    point before left (`acc`) — `Scan.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x2048 .bf16 × Vec F S1x8x128x256 .f32 × Vec F S8x128x256 .f32) : Vec F S512x2048 .bf16 × Vec F S1x8x128x256 .f32 × Vec F S8x128x256 .f32 :=
  if h0 : n % 32 = 0 then
    if h1 : n % 32 = 31 then
      False.elim (by have hN : n < 64 := lt_of_lt_of_eq hb (show cfg0.N = 64 from N_0); omega)
    else
      (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    if h1 : n % 32 = 31 then
      (out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2)
    else
      (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2)

/-- `stAt0` at a point of case A: that case's contents. -/
theorem stAt0_A (c : Dev nD) (t : Fin cfg0.N) (acc : Vec F S512x2048 .bf16 × Vec F S1x8x128x256 .f32 × Vec F S8x128x256 .f32) (h0 : t.val % 32 = 0) (h1 : ¬t.val % 32 = 31) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) :=
  (dif_pos h0).trans ((dif_neg h1).trans rfl)

/-- `stAt0` at a point of case B: that case's contents, over `acc`. -/
theorem stAt0_B (c : Dev nD) (t : Fin cfg0.N) (acc : Vec F S512x2048 .bf16 × Vec F S1x8x128x256 .f32 × Vec F S8x128x256 .f32) (h0 : ¬t.val % 32 = 0) (h1 : ¬t.val % 32 = 31) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2) :=
  (dif_neg h0).trans ((dif_neg h1).trans rfl)

/-- `stAt0` at a point of case C: that case's contents, over `acc`. -/
theorem stAt0_C (c : Dev nD) (t : Fin cfg0.N) (acc : Vec F S512x2048 .bf16 × Vec F S1x8x128x256 .f32 × Vec F S8x128x256 .f32) (h0 : ¬t.val % 32 = 0) (h1 : t.val % 32 = 31) :
    stAt0 m c t.val t.isLt acc = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- What the named outputs and the carried scratch hold after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S32768x2048.Idx) : ℕ := 1 * ((i 0).val / 512 - 0) + 1 * ((i 1).val / 2048 - 0)
set_option backward.proofsInPublic true in
abbrev loc6Of (i : S32768x2048.Idx) : S512x2048.Idx := fun a => match a with
  | ⟨0, _⟩ => ⟨(i 0).val % 512, Nat.mod_lt _ (by decide)⟩
  | ⟨1, _⟩ => ⟨(i 1).val % 2048, Nat.mod_lt _ (by decide)⟩
abbrev pt6Of (i : S32768x2048.Idx) : ℕ := run6Of i

/-- What the array ends holding at index `i` inside the box the flushing blocks fill: output 6's component of the carried
    state's fold at the point that writes `i`'s block back, at `i`'s place in the block. `G6` states the array's contents
    only inside the box. -/
def G6 (c : Dev nD) : Buf (Elt F) ((c : Thread nD τ).loc main_v7_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 63
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is some flushing point's: `onto6Pt`, the point that writes back the block at place `q` of the box. -/
abbrev onto6Pt (q0 : Fin 64) (q1 : Fin 1) : Fin grid0.N :=
  ⟨1 * q0.val + 1 * q1.val, lt_of_lt_of_eq (by omega) N_0.symm⟩
theorem idx_onto6 : ∀ (q0 : Fin 64) (q1 : Fin 1), ∃ t : Fin cfg0.N, (cfg0.win 6).flush t = true ∧ win0_6.index t = ![q0.val + 0, q1.val + 0] :=
  fun q0 q1 => ⟨onto6Pt q0 q1, (by decide +kernel : ∀ (q0 : Fin 64) (q1 : Fin 1), win0_6.flush (onto6Pt q0 q1) = true ∧ win0_6.index (onto6Pt q0 q1) = ![q0.val + 0, q1.val + 0]) q0 q1⟩

/-- What a flushing point `t` writes back is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hr : run6Of (((cfg0.win 6).blk t).view.emb y) = t.val := by
    show 1 * ((((cfg0.win 6).blk t).view.emb y 0).val / 512 - 0) + 1 * ((((cfg0.win 6).blk t).view.emb y 1).val / 2048 - 0) = _
    rw [hb0, hb1]
    rw [show (win0_6.index t (0 : Fin 2) * 512 + 1 * (y 0).val) / 512 = win0_6.index t (0 : Fin 2) from by omega]; rw [show (win0_6.index t (1 : Fin 2) * 2048 + 1 * (y 1).val) / 2048 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 2048 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S32768x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v7_0).slice (win0_6.rect t)).set ↔ _
  rw [View.set_slice_whole, Rect.mem_set_unit]
  exact Iff.rfl

/-- The covered indices: in some flushing point's block iff inside the box those blocks fill. -/
theorem covered_iff6 (i : S32768x2048.Idx) :
    (∃ t : Fin cfg0.N, (cfg0.win 6).flush t = true ∧ i ∈ ((cfg0.win 6).blk t).view.set) ↔ 0 ≤ (i 0).val ∧ (i 0).val < 32768 ∧ 0 ≤ (i 1).val ∧ (i 1).val < 2048 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 2048 ≤ (i 1).val ∧ (i 1).val < win0_6.index t (1 : Fin 2) * 2048 + 2048 := hi 1
    obtain ⟨e0, e1, e2⟩ := idx_facts6 t
    omega
  · intro h
    have hi0 : (i 0).val < 32768 := (i 0).isLt
    have hi1 : (i 1).val < 2048 := (i 1).isLt
    obtain ⟨t, hft, ht⟩ := idx_onto6 ⟨(i 0).val / 512 - 0, by omega⟩ ⟨(i 1).val / 2048 - 0, by omega⟩
    have q0 : win0_6.index t (0 : Fin 2) = (i 0).val / 512 - 0 + 0 := congrFun ht 0
    have q1 : win0_6.index t (1 : Fin 2) = (i 1).val / 2048 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 2048 ≤ (i 1).val ∧ (i 1).val < win0_6.index t (1 : Fin 2) * 2048 + 2048; omega

/-- The array after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 32768 := (i 0).isLt; have h1 : (i 1).val < 2048 := (i 1).isLt; omega))

/-! ## Output window 7 -/

/-- The block of the array that holds index `i`, numbered in the order the points write the blocks back (one every 32 points),
    `i`'s place in it, and the point that writes it back (the last of its 32). -/
abbrev run7Of (i : S2x8x128x256.Idx) : ℕ := 1 * ((i 0).val / 1 - 0) + 1 * ((i 1).val / 8 - 0) + 1 * ((i 2).val / 128 - 0) + 1 * ((i 3).val / 256 - 0)
set_option backward.proofsInPublic true in
abbrev loc7Of (i : S2x8x128x256.Idx) : S1x8x128x256.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 128, Nat.mod_lt _ (by decide)⟩
  | ⟨3, _⟩ => ⟨(i 3).val % 256, Nat.mod_lt _ (by decide)⟩
abbrev pt7Of (i : S2x8x128x256.Idx) : ℕ := 32 * run7Of i + 31

/-- What the array ends holding at index `i` inside the box the flushing blocks fill: output 7's component of the carried
    state's fold at the point that writes `i`'s block back, at `i`'s place in the block. `G7` states the array's contents
    only inside the box. -/
def G7 (c : Dev nD) : Buf (Elt F) ((c : Thread nD τ).loc main_v7_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t / 32`). -/
theorem idx_facts7 : ∀ t : Fin cfg0.N, 0 ≤ win0_7.index t (0 : Fin 4) ∧ win0_7.index t (0 : Fin 4) ≤ 1
    ∧ 0 ≤ win0_7.index t (1 : Fin 4) ∧ win0_7.index t (1 : Fin 4) ≤ 0
    ∧ 0 ≤ win0_7.index t (2 : Fin 4) ∧ win0_7.index t (2 : Fin 4) ≤ 0
    ∧ 0 ≤ win0_7.index t (3 : Fin 4) ∧ win0_7.index t (3 : Fin 4) ≤ 0
    ∧ 1 * (win0_7.index t (0 : Fin 4) - 0) + 1 * (win0_7.index t (1 : Fin 4) - 0) + 1 * (win0_7.index t (2 : Fin 4) - 0) + 1 * (win0_7.index t (3 : Fin 4) - 0) = t.val / 32 :=
  (by decide +kernel : ∀ t : Fin grid0.N, _)

/-- Every block of the box is some flushing point's: `onto7Pt`, the point that writes back the block at place `q` of the box (the last point of its run). -/
abbrev onto7Pt (q0 : Fin 2) (q1 : Fin 1) (q2 : Fin 1) (q3 : Fin 1) : Fin grid0.N :=
  ⟨32 * (1 * q0.val + 1 * q1.val + 1 * q2.val + 1 * q3.val) + 31, lt_of_lt_of_eq (by omega) N_0.symm⟩
theorem idx_onto7 : ∀ (q0 : Fin 2) (q1 : Fin 1) (q2 : Fin 1) (q3 : Fin 1), ∃ t : Fin cfg0.N, (cfg0.win 7).flush t = true ∧ win0_7.index t = ![q0.val + 0, q1.val + 0, q2.val + 0, q3.val + 0] :=
  fun q0 q1 q2 q3 => ⟨onto7Pt q0 q1 q2 q3, (by decide +kernel : ∀ (q0 : Fin 2) (q1 : Fin 1) (q2 : Fin 1) (q3 : Fin 1), win0_7.flush (onto7Pt q0 q1 q2 q3) = true ∧ win0_7.index (onto7Pt q0 q1 q2 q3) = ![q0.val + 0, q1.val + 0, q2.val + 0, q3.val + 0]) q0 q1 q2 q3⟩

/-- What a flushing point `t` writes back is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 32 = 31 := (flush0_7 t).mp hf
  obtain ⟨e0, e1, e2, e3, e4⟩ := idx_facts7 t
  funext y
  have hy0 : (y 0).val < 1 := (y 0).isLt
  have hy1 : (y 1).val < 8 := (y 1).isLt
  have hy2 : (y 2).val < 128 := (y 2).isLt
  have hy3 : (y 3).val < 256 := (y 3).isLt
  have hb0 : (((cfg0.win 7).blk t).view.emb y 0).val = win0_7.index t (0 : Fin 4) * 1 + 1 * (y 0).val := rfl
  have hb1 : (((cfg0.win 7).blk t).view.emb y 1).val = win0_7.index t (1 : Fin 4) * 8 + 1 * (y 1).val := rfl
  have hb2 : (((cfg0.win 7).blk t).view.emb y 2).val = win0_7.index t (2 : Fin 4) * 128 + 1 * (y 2).val := rfl
  have hb3 : (((cfg0.win 7).blk t).view.emb y 3).val = win0_7.index t (3 : Fin 4) * 256 + 1 * (y 3).val := rfl
  have hr : run7Of (((cfg0.win 7).blk t).view.emb y) = t.val / 32 := by
    show 1 * ((((cfg0.win 7).blk t).view.emb y 0).val / 1 - 0) + 1 * ((((cfg0.win 7).blk t).view.emb y 1).val / 8 - 0) + 1 * ((((cfg0.win 7).blk t).view.emb y 2).val / 128 - 0) + 1 * ((((cfg0.win 7).blk t).view.emb y 3).val / 256 - 0) = _
    rw [hb0, hb1, hb2, hb3]
    rw [show (win0_7.index t (0 : Fin 4) * 1 + 1 * (y 0).val) / 1 = win0_7.index t (0 : Fin 4) from by omega]; rw [show (win0_7.index t (1 : Fin 4) * 8 + 1 * (y 1).val) / 8 = win0_7.index t (1 : Fin 4) from by omega]; rw [show (win0_7.index t (2 : Fin 4) * 128 + 1 * (y 2).val) / 128 = win0_7.index t (2 : Fin 4) from by omega]; rw [show (win0_7.index t (3 : Fin 4) * 256 + 1 * (y 3).val) / 256 = win0_7.index t (3 : Fin 4) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 8 = (y 1).val; rw [hb1]; omega
    | ⟨2, _⟩ => show (((cfg0.win 7).blk t).view.emb y 2).val % 128 = (y 2).val; rw [hb2]; omega
    | ⟨3, _⟩ => show (((cfg0.win 7).blk t).view.emb y 3).val % 256 = (y 3).val; rw [hb3]; omega
  have hp : pt7Of (((cfg0.win 7).blk t).view.emb y) = t.val := by
    show 32 * run7Of (((cfg0.win 7).blk t).view.emb y) + 31 = _
    rw [hr]; have := Nat.div_add_mod t.val 32; omega
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S2x8x128x256.Idx) :
    i ∈ ((cfg0.win 7).blk t).view.set ↔ ∀ a : Fin 4, win0_7.index t a * S1x8x128x256.size a ≤ (i a).val ∧ (i a).val < win0_7.index t a * S1x8x128x256.size a + S1x8x128x256.size a := by
  show i ∈ ((View.whole main_v7_1).slice (win0_7.rect t)).set ↔ _
  rw [View.set_slice_whole, Rect.mem_set_unit]
  exact Iff.rfl

/-- The covered indices: in some flushing point's block iff inside the box those blocks fill. -/
theorem covered_iff7 (i : S2x8x128x256.Idx) :
    (∃ t : Fin cfg0.N, (cfg0.win 7).flush t = true ∧ i ∈ ((cfg0.win 7).blk t).view.set) ↔ 0 ≤ (i 0).val ∧ (i 0).val < 2 ∧ 0 ≤ (i 1).val ∧ (i 1).val < 8 ∧ 0 ≤ (i 2).val ∧ (i 2).val < 128 ∧ 0 ≤ (i 3).val ∧ (i 3).val < 256 := by
  constructor
  · rintro ⟨t, -, hi⟩
    rw [mem_blk7] at hi
    have b0 : win0_7.index t (0 : Fin 4) * 1 ≤ (i 0).val ∧ (i 0).val < win0_7.index t (0 : Fin 4) * 1 + 1 := hi 0
    have b1 : win0_7.index t (1 : Fin 4) * 8 ≤ (i 1).val ∧ (i 1).val < win0_7.index t (1 : Fin 4) * 8 + 8 := hi 1
    have b2 : win0_7.index t (2 : Fin 4) * 128 ≤ (i 2).val ∧ (i 2).val < win0_7.index t (2 : Fin 4) * 128 + 128 := hi 2
    have b3 : win0_7.index t (3 : Fin 4) * 256 ≤ (i 3).val ∧ (i 3).val < win0_7.index t (3 : Fin 4) * 256 + 256 := hi 3
    obtain ⟨e0, e1, e2, e3, e4⟩ := idx_facts7 t
    omega
  · intro h
    have hi0 : (i 0).val < 2 := (i 0).isLt
    have hi1 : (i 1).val < 8 := (i 1).isLt
    have hi2 : (i 2).val < 128 := (i 2).isLt
    have hi3 : (i 3).val < 256 := (i 3).isLt
    obtain ⟨t, hft, ht⟩ := idx_onto7 ⟨(i 0).val / 1 - 0, by omega⟩ ⟨(i 1).val / 8 - 0, by omega⟩ ⟨(i 2).val / 128 - 0, by omega⟩ ⟨(i 3).val / 256 - 0, by omega⟩
    have q0 : win0_7.index t (0 : Fin 4) = (i 0).val / 1 - 0 + 0 := congrFun ht 0
    have q1 : win0_7.index t (1 : Fin 4) = (i 1).val / 8 - 0 + 0 := congrFun ht 1
    have q2 : win0_7.index t (2 : Fin 4) = (i 2).val / 128 - 0 + 0 := congrFun ht 2
    have q3 : win0_7.index t (3 : Fin 4) = (i 3).val / 256 - 0 + 0 := congrFun ht 3
    refine ⟨t, hft, ?_⟩
    rw [mem_blk7]
    intro a
    match a with
    | ⟨0, _⟩ => show win0_7.index t (0 : Fin 4) * 1 ≤ (i 0).val ∧ (i 0).val < win0_7.index t (0 : Fin 4) * 1 + 1; omega
    | ⟨1, _⟩ => show win0_7.index t (1 : Fin 4) * 8 ≤ (i 1).val ∧ (i 1).val < win0_7.index t (1 : Fin 4) * 8 + 8; omega
    | ⟨2, _⟩ => show win0_7.index t (2 : Fin 4) * 128 ≤ (i 2).val ∧ (i 2).val < win0_7.index t (2 : Fin 4) * 128 + 128; omega
    | ⟨3, _⟩ => show win0_7.index t (3 : Fin 4) * 256 ≤ (i 3).val ∧ (i 3).val < win0_7.index t (3 : Fin 4) * 256 + 256; omega

/-- The array after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 2 := (i 0).isLt; have h1 : (i 1).val < 8 := (i 1).isLt; have h2 : (i 2).val < 128 := (i 2).isLt; have h3 : (i 3).val < 256 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v7_0) = G6 m c
      ∧ r.2.mem ((c : Thread nD τ).loc main_v7_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c⟩)
    (run_main m ρ)

end Cert.KernelIdeal.Value

end
-- ==== Proof.ScanIdeal.Ops.lean ====
module

public import proofs.«01_k».proof.Proof.ScanIdeal.Value

/-!
# One chunk of one group of four heads, in the kernel's operations

The kernel spells out its eight groups one after the other; all eight are the functions below, at the group's number.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

variable {F : FTy → Type} [FloatOps F] [Named F]

theorem slices_col (o : ℕ) (h : o < 128) : S128x128.Slices ![0, o] S128x1 := by
  refine ⟨rfl, fun d => ?_⟩
  fin_cases d <;> simp <;> omega

theorem slices_row (o : ℕ) (h : o < 128) : S128x128.Slices ![o, 0] S1x128 := by
  refine ⟨rfl, fun d => ?_⟩
  fin_cases d <;> simp <;> omega

/-- Column `o`, repeated along the columns. -/
def colAt (M : FVec F S128x128 .f32) (o : ℕ) (h : o < 128) : FVec F S128x128 .f32 :=
  broadcastTo S128x128 (shapeCast S128x1 (extractStridedSlice S128x1 ![0, o] M (slices_col o h)) shapeCasts_S128x1_S128x1)
    broadcasts_S128x1_S128x128

/-- Row `o`, repeated along the rows. -/
def rowAt (M : FVec F S128x128 .f32) (o : ℕ) (h : o < 128) : FVec F S128x128 .f32 :=
  broadcastTo S128x128 (extractStridedSlice S1x128 ![o, 0] M (slices_row o h)) broadcasts_S1x128_S128x128

/-- The weights of one head: scores times masked decay times step sizes. -/
def part (cb ac act dtT : FVec F S128x128 .f32) (o : ℕ) (h : o < 128) : FVec F S128x128 .bf16 :=
  truncf .bf16 (mulf (mulf cb (exp (select k0_pay205 (subf (colAt ac o h) (rowAt act o h))
    (broadcast S128x128 (Named.named κ "mask" 0xF149F2CA#32))))) (rowAt dtT o h)) bitsLt_bf16_f32

/-- The first of two arrays in the left half of the lanes, the second in the right half. -/
def halves (u v : FVec F S128x128 .f32) : FVec F S128x128 .f32 :=
  select (broadcastTo S128x128 (shapeCast S1x128 k0_pay207 shapeCasts_S1x128_S1x128) broadcasts_S1x128_S128x128) u v

/-- A column for each of the four heads, each repeated over its 64 lanes. -/
def wide (u0 u1 u2 u3 : FVec F S128x128 .f32) : FVec F S128x256 .f32 :=
  concatenate S128x256 1 [⟨S128x128, halves u0 u1⟩, ⟨S128x128, halves u2 u3⟩] concatenates_S128x128_S128x128_S128x256_d1

/-- The lanes of head `hh`, zero elsewhere. -/
def only (x : FVec F S128x256 .bf16) (hh : BitVec 32) : FVec F S128x256 .bf16 :=
  select (broadcastTo S128x256 (shapeCast S1x256 (cmpi .eq k0_pay208 (broadcast S1x256 hh)) shapeCasts_S1x256_S1x256)
    broadcasts_S1x256_S128x256) x (broadcast S128x256 (FloatOps.ofBits .bf16 0x0000#16))

/-- The scores of one group: `C Bᵀ`. -/
def scores (b c : FVec F S128x128 .bf16) : FVec F S128x128 .f32 :=
  matmul dot_S128x128_S128x128_S128x128_1_0_0_1_n_n none c
    (truncf .bf16 (transpose S128x128 [1, 0] (extf .f32 b bitsLt_bf16_f32) transposes_S128x128_p1_0_S128x128) bitsLt_bf16_f32)
    (constant S128x128 .f32 0x00000000#32)

/-- The decays from the chunk's start, each over its head's lanes. -/
def fromStart (ac : FVec F S128x128 .f32) (g : Fin 8) : FVec F S128x256 .f32 :=
  wide (exp (colAt ac (4 * g.val + 0) (by omega))) (exp (colAt ac (4 * g.val + 1) (by omega)))
    (exp (colAt ac (4 * g.val + 2) (by omega))) (exp (colAt ac (4 * g.val + 3) (by omega)))

/-- Four arrays side by side times four arrays one below the other. -/
def runs (u0 u1 u2 u3 : FVec F S128x128 .bf16) (v0 v1 v2 v3 : FVec F S128x256 .bf16) : FVec F S128x256 .f32 :=
  matmul dot_S128x512_S512x256_S128x256_1_0_0_1_n_n none
    (concatenate S128x512 1 [⟨S128x128, u0⟩, ⟨S128x128, u1⟩, ⟨S128x128, u2⟩, ⟨S128x128, u3⟩]
      concatenates_S128x128_S128x128_S128x128_S128x128_S128x512_d1)
    (concatenate S512x256 0 [⟨S128x256, v0⟩, ⟨S128x256, v1⟩, ⟨S128x256, v2⟩, ⟨S128x256, v3⟩]
      concatenates_S128x256_S128x256_S128x256_S128x256_S512x256_d0)
    (constant S128x256 .f32 0x00000000#32)

/-- The outputs of one group in one chunk. -/
def yG (g : Fin 8) (dt : FVec F S128x128 .f32) (a : FVec F S1x128 .f32) (b c : FVec F S128x128 .bf16)
    (x : FVec F S128x256 .bf16) (s : FVec F S1x128x256 .f32) : FVec F S128x256 .bf16 :=
  truncf .bf16 (addf
    (runs (part (scores b c) (k0_pay2 k0_pay206 dt a) (k0_pay3 k0_pay206 dt a) (k0_pay4 dt) (4 * g.val + 0) (by omega))
      (part (scores b c) (k0_pay2 k0_pay206 dt a) (k0_pay3 k0_pay206 dt a) (k0_pay4 dt) (4 * g.val + 1) (by omega))
      (part (scores b c) (k0_pay2 k0_pay206 dt a) (k0_pay3 k0_pay206 dt a) (k0_pay4 dt) (4 * g.val + 2) (by omega))
      (part (scores b c) (k0_pay2 k0_pay206 dt a) (k0_pay3 k0_pay206 dt a) (k0_pay4 dt) (4 * g.val + 3) (by omega))
      (only x 0#32) (only x 1#32) (only x 2#32) (only x 3#32))
    (mulf (matmul dot_S128x128_S128x256_S128x256_1_0_0_1_n_n none c
        (truncf .bf16 (shapeCast S128x256 s shapeCasts_S1x128x256_S128x256) bitsLt_bf16_f32) (constant S128x256 .f32 0x00000000#32))
      (fromStart (k0_pay2 k0_pay206 dt a) g))) bitsLt_bf16_f32

/-- The state one group leaves after one chunk. -/
def stG (g : Fin 8) (dt : FVec F S128x128 .f32) (a : FVec F S1x128 .f32) (b : FVec F S128x128 .bf16)
    (x : FVec F S128x256 .bf16) (s : FVec F S1x128x256 .f32) : FVec F S1x128x256 .f32 :=
  shapeCast S1x128x256 (addf
    (mulf (shapeCast S128x256 s shapeCasts_S1x128x256_S128x256)
      (broadcastTo S128x256 (extractStridedSlice S1x256 ![127, 0] (fromStart (k0_pay2 k0_pay206 dt a) g) slices_S128x256_o127_0_S1x256)
        broadcasts_S1x256_S128x256))
    (matmul dot_S128x128_S128x256_S128x256_1_0_0_1_n_n none
      (truncf .bf16 (transpose S128x128 [1, 0] (extf .f32 b bitsLt_bf16_f32) transposes_S128x128_p1_0_S128x128) bitsLt_bf16_f32)
      (truncf .bf16 (mulf (extf .f32 x bitsLt_bf16_f32)
        (wide (colAt (k0_pay5 k0_pay206 dt a) (4 * g.val + 0) (by omega)) (colAt (k0_pay5 k0_pay206 dt a) (4 * g.val + 1) (by omega))
          (colAt (k0_pay5 k0_pay206 dt a) (4 * g.val + 2) (by omega)) (colAt (k0_pay5 k0_pay206 dt a) (4 * g.val + 3) (by omega)))) bitsLt_bf16_f32)
      (constant S128x256 .f32 0x00000000#32))) shapeCasts_S128x256_S1x128x256

end Cert.KernelIdeal.Scan

end
-- ==== Proof.ScanIdeal.Trip.lean ====
module

public import proofs.«01_k».proof.Proof.ScanIdeal.Ops

/-!
# One trip of the chunk loop is eight groups of `Ops.lean`
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

variable {F : FTy → Type} [FloatOps F] [Named F]

theorem inb3 (g : Fin 8) : ∀ d, (![g.val, 0, 0] : Fin 3 → ℕ) d + S1x128x256.size d ≤ S8x128x256.size d := by
  intro d; fin_cases d <;> simp <;> omega

/-- Where group `g` reads its rows of `B` and `C` in trip `k`. -/
def oB (k : Fin k0_t1_loop.trips) : Fin 8 → Fin 2 → ℕ
  | 0 => k0_off2 k | 1 => k0_off4 k | 2 => k0_off6 k | 3 => k0_off8 k
  | 4 => k0_off10 k | 5 => k0_off12 k | 6 => k0_off14 k | 7 => k0_off16 k

/-- Where group `g` reads `x` and stores its outputs in trip `k`. -/
def oX (k : Fin k0_t1_loop.trips) : Fin 8 → Fin 2 → ℕ
  | 0 => k0_off3 k | 1 => k0_off5 k | 2 => k0_off7 k | 3 => k0_off9 k
  | 4 => k0_off11 k | 5 => k0_off13 k | 6 => k0_off15 k | 7 => k0_off17 k

theorem oD_eq : ∀ (k : Fin k0_t1_loop.trips), k0_off1 k = ![128 * k.val, 0] := by
  decide +kernel

theorem oB_eq : ∀ (k : Fin k0_t1_loop.trips) (g : Fin 8), oB k g = ![128 * k.val, 128 * g.val] := by
  decide +kernel

theorem oX_eq : ∀ (k : Fin k0_t1_loop.trips) (g : Fin 8), oX k g = ![128 * k.val, 256 * g.val] := by
  decide +kernel

theorem oB_inb (k : Fin k0_t1_loop.trips) (g : Fin 8) : ∀ d, oB k g d + S128x128.size d ≤ S512x1024.size d := by
  revert k g
  decide +kernel

theorem oX_inb (k : Fin k0_t1_loop.trips) (g : Fin 8) : ∀ d, oX k g d + S128x256.size d ≤ S512x2048.size d := by
  revert k g
  decide +kernel

variable (arg2 : Memref sig .tc .vmem S512x2048 .bf16) (arg3 : Memref sig .tc .vmem S512x1024 .bf16) (arg4 : Memref sig .tc .vmem S512x1024 .bf16) (arg5 : Memref sig .tc .vmem S512x128 .f32) (arg6 : Memref sig .tc .vmem S1x128 .f32) (arg10 : Memref sig .tc .vmem S8x128x256 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (s : BufTy.Contents (Elt F) arg10.view.ty)

/-- The outputs group `g` stores in trip `k`. -/
def yP (k : Fin k0_t1_loop.trips) (g : Fin 8) : View.Piece (Elt F) S512x2048 .bf16 :=
  ⟨Rect.unit (s := S512x2048) (oX k g) S128x256.size (oX_inb k g),
    yG g (View.readAt (Elt F) arg5.view (Rect.unit (s := S512x128) (k0_off1 k) S128x128.size (k0_off1_inb k)).toLoadRect X5)
      (View.readAt (Elt F) arg6.view (Rect.unit (s := S1x128) ![0, 0] S1x128.size inb_S1x128_S1x128_0_0).toLoadRect X6)
      (View.readAt (Elt F) arg3.view (Rect.unit (s := S512x1024) (oB k g) S128x128.size (oB_inb k g)).toLoadRect X3)
      (View.readAt (Elt F) arg4.view (Rect.unit (s := S512x1024) (oB k g) S128x128.size (oB_inb k g)).toLoadRect X4)
      (View.readAt (Elt F) arg2.view (Rect.unit (s := S512x2048) (oX k g) S128x256.size (oX_inb k g)).toLoadRect X2)
      (View.readAt (Elt F) arg10.view (Rect.unit (s := S8x128x256) ![g.val, 0, 0] S1x128x256.size (inb3 g)).toLoadRect s)⟩

/-- The state group `g` stores in trip `k`. -/
def sP (k : Fin k0_t1_loop.trips) (g : Fin 8) : View.Piece (Elt F) S8x128x256 .f32 :=
  ⟨Rect.unit (s := S8x128x256) ![g.val, 0, 0] S1x128x256.size (inb3 g),
    stG g (View.readAt (Elt F) arg5.view (Rect.unit (s := S512x128) (k0_off1 k) S128x128.size (k0_off1_inb k)).toLoadRect X5)
      (View.readAt (Elt F) arg6.view (Rect.unit (s := S1x128) ![0, 0] S1x128.size inb_S1x128_S1x128_0_0).toLoadRect X6)
      (View.readAt (Elt F) arg3.view (Rect.unit (s := S512x1024) (oB k g) S128x128.size (oB_inb k g)).toLoadRect X3)
      (View.readAt (Elt F) arg2.view (Rect.unit (s := S512x2048) (oX k g) S128x256.size (oX_inb k g)).toLoadRect X2)
      (View.readAt (Elt F) arg10.view (Rect.unit (s := S8x128x256) ![g.val, 0, 0] S1x128x256.size (inb3 g)).toLoadRect s)⟩

/-- The groups, the one stored last first. -/
def groups : List (Fin 8) := [7, 6, 5, 4, 3, 2, 1, 0]

theorem mem_groups (g : Fin 8) : g ∈ groups := by
  revert g
  decide

/-- The pieces one trip leaves: the outputs of the eight groups, and their states. -/
theorem trip_eq (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (k : Fin k0_t1_loop.trips) (f : BufTy.Contents (Elt F) arg8.view.ty) (s : BufTy.Contents (Elt F) arg10.view.ty) :
    tripL_k0_t1 (F := F) Variants.none c none i arg2 harg2 arg3 harg3 arg4 harg4 arg5 harg5 arg6 harg6 arg7 harg7 arg8 harg8 arg9 harg9 arg10 harg10 X2 X3 X4 X5 X6 k f s =
      (groups.map (yP arg2 arg3 arg4 arg5 arg6 arg10 X2 X3 X4 X5 X6 s k),
       groups.map (sP arg2 arg3 arg5 arg6 arg10 X2 X3 X5 X6 s k)) := by
  unfold tripL_k0_t1 trip_k0_t1
  rfl

end Cert.KernelIdeal.Scan

end
-- ==== Proof.Ssd.lean ====
module

public import Idealize.ShloMosaic.Lib.Pointwise

/-!
# The chunked SSD recurrence, forward direction, written out over the extended reals

The sequence of each of the two batch entries is cut into 128 chunks of 128 positions.  `X` holds, per position, the
2048 columns of `x` (8 groups, 4 heads, 64 lanes), the 1024 columns of `B` and the 1024 columns of `C` (8 groups,
128 state entries each); `D` the step sizes, one lane per head; `A` the logarithms of the decay rates; `S` the state
entering the sequence.  These are the functions both programs are compared with.
-/

@[expose] public section

set_option maxRecDepth 16384

noncomputable section

open Idealize.ShloMosaic

namespace Cert.Ssd

/-- The packed `x`, `B`, `C` columns of all positions. -/
abbrev TX : Type := FVec Ideal ⟨2, ![32768, 4096]⟩ .bf16
/-- The step sizes. -/
abbrev TD : Type := FVec Ideal ⟨2, ![32768, 128]⟩ .f32
/-- The logarithms of the decay rates, per direction and head. -/
abbrev TA : Type := FVec Ideal ⟨2, ![2, 32]⟩ .f32
/-- The states, by batch entry, group, state entry and lane of the group's heads. -/
abbrev TS : Type := FVec Ideal ⟨4, ![2, 8, 128, 256]⟩ .f32

/-- The row of position `l` of chunk `c` of batch entry `b`. -/
def row (b : Fin 2) (c l : Fin 128) : Fin 32768 := ⟨b.val * 16384 + (c.val * 128 + l.val), by omega⟩
/-- The lane of head `h` of group `g`, forward direction. -/
def lane (g : Fin 8) (h : Fin 4) : Fin 128 := ⟨g.val * 4 + h.val, by omega⟩
/-- The head's number. -/
def head (g : Fin 8) (h : Fin 4) : Fin 32 := ⟨g.val * 4 + h.val, by omega⟩
/-- The column of lane `p` of head `h` of group `g`. -/
def xcol (g : Fin 8) (h : Fin 4) (p : Fin 64) : Fin 4096 := ⟨g.val * 256 + h.val * 64 + p.val, by omega⟩
/-- The column of entry `n` of group `g` of `B`. -/
def bcol (g : Fin 8) (n : Fin 128) : Fin 4096 := ⟨2048 + (g.val * 128 + n.val), by omega⟩
/-- The column of entry `n` of group `g` of `C`. -/
def ccol (g : Fin 8) (n : Fin 128) : Fin 4096 := ⟨3072 + (g.val * 128 + n.val), by omega⟩
/-- The lane of lane `p` of head `h` within its group. -/
def glane (h : Fin 4) (p : Fin 64) : Fin 256 := ⟨h.val * 64 + p.val, by omega⟩

/-- The output column of lane `p` of head `h` of group `g`. -/
def ycol (g : Fin 8) (h : Fin 4) (p : Fin 64) : Fin 2048 := ⟨g.val * 256 + h.val * 64 + p.val, by omega⟩

variable (X : TX) (D : TD) (A : TA) (S : TS)

/-- The step size at a position, for a head. -/
def dt (b : Fin 2) (c l : Fin 128) (g : Fin 8) (h : Fin 4) : EReal := D (ix2 (row b c l) (lane g h))
/-- The value at a position. -/
def xv (b : Fin 2) (c l : Fin 128) (g : Fin 8) (h : Fin 4) (p : Fin 64) : EReal := X (ix2 (row b c l) (xcol g h p))
/-- The input projection `B` at a position. -/
def bv (b : Fin 2) (c l : Fin 128) (g : Fin 8) (n : Fin 128) : EReal := X (ix2 (row b c l) (bcol g n))
/-- The output projection `C` at a position. -/
def cv (b : Fin 2) (c l : Fin 128) (g : Fin 8) (n : Fin 128) : EReal := X (ix2 (row b c l) (ccol g n))
/-- The logarithm of one position's decay. -/
def da (b : Fin 2) (c l : Fin 128) (g : Fin 8) (h : Fin 4) : EReal :=
  dt D b c l g h * -Ideal.exp (A (ix2 0 (head g h)))
/-- The running sum of the logarithms within a chunk. -/
def acum (b : Fin 2) (c l : Fin 128) (g : Fin 8) (h : Fin 4) : EReal :=
  ∑ s : Fin 128, if s.val ≤ l.val then da D A b c s g h else 0
/-- The decay from position `s` to position `l` of a chunk, zero unless `s ≤ l`. -/
def decay (b : Fin 2) (c l s : Fin 128) (g : Fin 8) (h : Fin 4) : EReal :=
  Ideal.exp (if s.val ≤ l.val then acum D A b c l g h - acum D A b c s g h else ⊥)
/-- The inner product of `C` at `l` and `B` at `s`. -/
def cb (b : Fin 2) (c l s : Fin 128) (g : Fin 8) : EReal := ∑ n : Fin 128, cv X b c l g n * bv X b c s g n
/-- What a chunk's own positions add to the output at `l`. -/
def ydiag (b : Fin 2) (c l : Fin 128) (g : Fin 8) (h : Fin 4) (p : Fin 64) : EReal :=
  ∑ s : Fin 128, (xv X b c s g h p * dt D b c s g h) * (cb X b c l s g * decay D A b c l s g h)
/-- What a chunk's own positions add to the state. -/
def cstate (b : Fin 2) (c : Fin 128) (g : Fin 8) (h : Fin 4) (p : Fin 64) (n : Fin 128) : EReal :=
  ∑ s : Fin 128, ((xv X b c s g h p * dt D b c s g h) * Ideal.exp (acum D A b c 127 g h - acum D A b c s g h)) * bv X b c s g n

/-- The state entering chunk `k` (the state entering the sequence at `k = 0`). -/
def state (b : Fin 2) (g : Fin 8) (h : Fin 4) (p : Fin 64) (n : Fin 128) : ℕ → EReal
  | 0 => S (ix4 b g n (glane h p))
  | k + 1 => if hk : k < 128 then
      Ideal.exp (acum D A b ⟨k, hk⟩ 127 g h) * state b g h p n k + cstate X D A b ⟨k, hk⟩ g h p n
    else state b g h p n k

/-- The output at a position. -/
def yv (b : Fin 2) (c l : Fin 128) (g : Fin 8) (h : Fin 4) (p : Fin 64) : EReal :=
  ydiag X D A b c l g h p
    + (∑ n : Fin 128, state X D A S b g h p n c.val * cv X b c l g n) * Ideal.exp (acum D A b c l g h)

/-- The comparison of two positions' numbers as machine words. -/
theorem cmp_sge : ∀ l s : Fin 128,
    IntOp.cmpi .sge (BitVec.ofNat 32 l.val) (BitVec.ofNat 32 s.val) = if s.val ≤ l.val then 1#1 else 0#1 := by
  decide +kernel

end Cert.Ssd
-- ==== Proof.ScanIdeal.Points.lean ====
module

public import proofs.«01_k».proof.Proof.ScanIdeal.Ops
public import proofs.«01_k».proof.Proof.Ssd

/-!
# One chunk of one group, read at an index
-/

@[expose] public section

set_option maxRecDepth 16384

noncomputable section

namespace Cert.KernelIdeal.Scan

open Idealize.ShloMosaic Idealize.ShloMosaic.TcCoe Idealize.ShloMosaic.Tactic
open Cert.KernelIdeal Cert.KernelIdeal.Gen

/-- The causal mask: position `s` does not come after position `l`. -/
theorem mask_at (l s : Fin 128) : k0_pay205 (ix2 l s) = if s ≤ l then 1#1 else 0#1 := by
  have h := Ssd.cmp_sge l s
  simp only [Fin.val_fin_le] at h
  rw [← h]
  pointwise [k0_pay205]

theorem sitofp_bit (P : Prop) [Decidable P] :
    (FloatOps.sitofp (F := Ideal) FTy.f32 (BitVec.setWidth 32 (if P then 1#1 else 0#1))) = if P then (1 : EReal) else 0 := by
  split
  · show (((((1#1 : BitVec 1).setWidth 32).toInt : ℝ)) : EReal) = 1
    norm_num
  · show (((((0#1 : BitVec 1).setWidth 32).toInt : ℝ)) : EReal) = 0
    norm_num

/-- The mask as numbers. -/
theorem tri_at (l s : Fin 128) : (k0_pay206 (F := Ideal)) (ix2 l s) = if s ≤ l then 1 else 0 := by
  pointwise [k0_pay206, mask_at]
  exact sitofp_bit _

/-- The left half of 128 lanes. -/
theorem lo_at (p : Fin 128) : k0_pay207 (ix2 0 p) = if p.val < 64 then 1#1 else 0#1 := by
  pointwise [k0_pay207]
  revert p
  decide +kernel

/-- The head a lane belongs to. -/
theorem head_at (h : Fin 4) (p : Fin 64) : k0_pay208 (ix2 0 (Ssd.glane h p)) = BitVec.ofNat 32 h.val := by
  pointwise [k0_pay208]
  revert h p
  decide +kernel

theorem colAt_at (M : FVec Ideal S128x128 .f32) (o : ℕ) (h : o < 128) (l s : Fin 128) : colAt M o h (ix2 l s) = M (ix2 l ⟨o, h⟩) := by
  pointwise [colAt]

theorem rowAt_at (M : FVec Ideal S128x128 .f32) (o : ℕ) (h : o < 128) (l s : Fin 128) : rowAt M o h (ix2 l s) = M (ix2 ⟨o, h⟩ s) := by
  pointwise [rowAt]

/-- The running sums of the decay rates, one column per head. -/
theorem ac_at (dt : FVec Ideal S128x128 .f32) (a : FVec Ideal S1x128 .f32) (l q : Fin 128) :
    k0_pay2 k0_pay206 dt a (ix2 l q) = ∑ s : Fin 128, if s.val ≤ l.val then dt (ix2 s q) * a (ix2 0 q) else 0 := by
  pointwise [k0_pay2, tri_at]
  refine Finset.sum_congr rfl fun s _ => ?_
  simp only [ite_mul, one_mul, zero_mul, Fin.le_def]

theorem act_at (dt : FVec Ideal S128x128 .f32) (a : FVec Ideal S1x128 .f32) (l q : Fin 128) :
    k0_pay3 (F := Ideal) k0_pay206 dt a (ix2 q l) = k0_pay2 (F := Ideal) k0_pay206 dt a (ix2 l q) := by
  pointwise [k0_pay3]

theorem dtT_at (dt : FVec Ideal S128x128 .f32) (l q : Fin 128) : k0_pay4 dt (ix2 q l) = dt (ix2 l q) := by
  pointwise [k0_pay4]

/-- The weights with which positions enter the chunk's final state. -/
theorem wall_at (dt : FVec Ideal S128x128 .f32) (a : FVec Ideal S1x128 .f32) (l q : Fin 128) :
    k0_pay5 (F := Ideal) k0_pay206 dt a (ix2 l q)
      = Ideal.exp (k0_pay2 (F := Ideal) k0_pay206 dt a (ix2 127 q) - k0_pay2 (F := Ideal) k0_pay206 dt a (ix2 l q)) * dt (ix2 l q) := by
  pointwise [k0_pay5]

theorem scores_at (b c : FVec Ideal S128x128 .bf16) (l s : Fin 128) :
    scores b c (ix2 l s) = ∑ n : Fin 128, c (ix2 l n) * b (ix2 s n) := by
  pointwise [scores]

/-- The masked entries' constant stands for minus infinity. -/
theorem mask_name : Named.named (F := Ideal) κ "mask" (φ := .f32) 0xF149F2CA#32 = (⊥ : EReal) :=
  IdealRules.named_const.ideal_named_scalar _ _ _ _ rfl

theorem sel_if {α : Type} (P : Prop) [Decidable P] (u v : α) : Scalar.select (if P then 1#1 else 0#1) u v = if P then u else v := by
  split <;> rfl

theorem part_at (cb ac act dtT : FVec Ideal S128x128 .f32) (o : ℕ) (h : o < 128) (l s : Fin 128) :
    part cb ac act dtT o h (ix2 l s)
      = (cb (ix2 l s) * Ideal.exp (if s ≤ l then ac (ix2 l ⟨o, h⟩) - act (ix2 ⟨o, h⟩ s) else ⊥)) * dtT (ix2 ⟨o, h⟩ s) := by
  pointwise [part, colAt_at, rowAt_at, mask_at, mask_name]
  rw [sel_if]

theorem cmp_head (k h : Fin 4) : IntOp.cmpi .eq (BitVec.ofNat 32 h.val) (BitVec.ofNat 32 k.val) = if h = k then 1#1 else 0#1 := by
  revert k h
  decide +kernel

theorem only_at (x : FVec Ideal S128x256 .bf16) (k h : Fin 4) (s : Fin 128) (p : Fin 64) :
    only x (BitVec.ofNat 32 k.val) (ix2 s (Ssd.glane h p)) = if h = k then x (ix2 s (Ssd.glane h p)) else 0 := by
  pointwise [only, head_at]
  rw [cmp_head, sel_if]

theorem wide_at (u : Fin 4 → FVec Ideal S128x128 .f32) (h : Fin 4) (s : Fin 128) (p : Fin 64)
    (hu : ∀ k s t, u k (ix2 s t) = u k (ix2 s 0)) :
    wide (u 0) (u 1) (u 2) (u 3) (ix2 s (Ssd.glane h p)) = u h (ix2 s 0) := by
  pointwise [wide, halves, lo_at, Ssd.glane]
  simp only [sel_if, hu]
  have hp := p.isLt
  fin_vals h with hh
  · rw [dif_pos (by omega), if_pos (by omega)]; exact congrArg (fun k => u k (ix2 s 0)) (Fin.ext hh.symm)
  · rw [dif_pos (by omega), if_neg (by omega)]; exact congrArg (fun k => u k (ix2 s 0)) (Fin.ext hh.symm)
  · rw [dif_neg (by omega), if_pos (by omega)]; exact congrArg (fun k => u k (ix2 s 0)) (Fin.ext hh.symm)
  · rw [dif_neg (by omega), if_neg (by omega)]; exact congrArg (fun k => u k (ix2 s 0)) (Fin.ext hh.symm)

/-- The column of head `h` of group `g`. -/
theorem fromStart_at (ac : FVec Ideal S128x128 .f32) (g : Fin 8) (h : Fin 4) (l : Fin 128) (p : Fin 64) :
    fromStart ac g (ix2 l (Ssd.glane h p)) = Ideal.exp (ac (ix2 l (Ssd.lane g h))) := by
  refine (wide_at (fun k => exp (colAt ac (4 * g.val + k.val) (by omega))) h l p ?_).trans ?_
  · intro k s t
    pointwise [colAt_at]
  · pointwise [colAt_at]
    exact congrArg (fun q => Ideal.exp (ac (ix2 l q))) (Fin.ext (by simp only [Ssd.lane]; omega))

/-- The weights into the final state, each over its head's lanes. -/
theorem wideCol_at (W : FVec Ideal S128x128 .f32) (g : Fin 8) (h : Fin 4) (l : Fin 128) (p : Fin 64) :
    wide (colAt W (4 * g.val) (by omega)) (colAt W (4 * g.val + 1) (by omega)) (colAt W (4 * g.val + 2) (by omega))
      (colAt W (4 * g.val + 3) (by omega)) (ix2 l (Ssd.glane h p)) = W (ix2 l (Ssd.lane g h)) := by
  refine (wide_at (fun k => colAt W (4 * g.val + k.val) (by omega)) h l p ?_).trans ?_
  · intro k s t
    pointwise [colAt_at]
  · pointwise [colAt_at]
    exact congrArg (fun q => W (ix2 l q)) (Fin.ext (by simp only [Ssd.lane]; omega))

/-- The state of one group after one chunk. -/
theorem stG_at (g : Fin 8) (dt : FVec Ideal S128x128 .f32) (a : FVec Ideal S1x128 .f32) (b : FVec Ideal S128x128 .bf16)
    (x : FVec Ideal S128x256 .bf16) (s : FVec Ideal S1x128x256 .f32) (n : Fin 128) (h : Fin 4) (p : Fin 64) :
    stG g dt a b x s (ix3 0 n (Ssd.glane h p))
      = s (ix3 0 n (Ssd.glane h p)) * Ideal.exp (k0_pay2 (F := Ideal) k0_pay206 dt a (ix2 127 (Ssd.lane g h)))
        + ∑ r : Fin 128, b (ix2 r n) * (x (ix2 r (Ssd.glane h p)) * k0_pay5 (F := Ideal) k0_pay206 dt a (ix2 r (Ssd.lane g h))) := by
  pointwise [stG, fromStart_at, wideCol_at]

/-- A sum over four runs of 128. -/
theorem sum_runs (f : Fin 512 → EReal) :
    ∑ x, f x = ∑ k : Fin 4, ∑ r : Fin 128, f ⟨128 * k.val + r.val, by omega⟩ := by
  rw [← Fintype.sum_prod_type' (f := fun (k : Fin 4) (r : Fin 128) => f ⟨128 * k.val + r.val, by omega⟩)]
  refine (Fintype.sum_equiv finProdFinEquiv (fun x : Fin 4 × Fin 128 => f ⟨128 * x.1.val + x.2.val, by omega⟩) f fun x => ?_).symm
  exact congrArg f (Fin.ext (by simp [finProdFinEquiv]; omega))

theorem beside_at (u : Fin 4 → FVec Ideal S128x128 .bf16) (l : Fin 128) (k : Fin 4) (r : Fin 128) :
    concatenate S128x512 1 [⟨S128x128, u 0⟩, ⟨S128x128, u 1⟩, ⟨S128x128, u 2⟩, ⟨S128x128, u 3⟩]
      concatenates_S128x128_S128x128_S128x128_S128x128_S128x512_d1 (ix2 l ⟨128 * k.val + r.val, by omega⟩) = u k (ix2 l r) := by
  pointwise []
  have hr := r.isLt
  fin_vals k with hk
  · rw [dif_pos (by omega)]
    exact congrArg₂ (fun k r => u k (ix2 l r)) (Fin.ext hk.symm) (Fin.ext (by dsimp only; omega))
  · rw [dif_neg (by omega), dif_pos (by omega)]
    exact congrArg₂ (fun k r => u k (ix2 l r)) (Fin.ext hk.symm) (Fin.ext (by dsimp only; omega))
  · rw [dif_neg (by omega), dif_neg (by omega), dif_pos (by omega)]
    exact congrArg₂ (fun k r => u k (ix2 l r)) (Fin.ext hk.symm) (Fin.ext (by dsimp only; omega))
  · rw [dif_neg (by omega), dif_neg (by omega), dif_neg (by omega)]
    exact congrArg₂ (fun k r => u k (ix2 l r)) (Fin.ext hk.symm) (Fin.ext (by dsimp only; omega))

theorem below_at (v : Fin 4 → FVec Ideal S128x256 .bf16) (q : Fin 256) (k : Fin 4) (r : Fin 128) :
    concatenate S512x256 0 [⟨S128x256, v 0⟩, ⟨S128x256, v 1⟩, ⟨S128x256, v 2⟩, ⟨S128x256, v 3⟩]
      concatenates_S128x256_S128x256_S128x256_S128x256_S512x256_d0 (ix2 ⟨128 * k.val + r.val, by omega⟩ q) = v k (ix2 r q) := by
  pointwise []
  have hr := r.isLt
  fin_vals k with hk
  · rw [dif_pos (by omega)]
    exact congrArg₂ (fun k r => v k (ix2 r q)) (Fin.ext hk.symm) (Fin.ext (by dsimp only; omega))
  · rw [dif_neg (by omega), dif_pos (by omega)]
    exact congrArg₂ (fun k r => v k (ix2 r q)) (Fin.ext hk.symm) (Fin.ext (by dsimp only; omega))
  · rw [dif_neg (by omega), dif_neg (by omega), dif_pos (by omega)]
    exact congrArg₂ (fun k r => v k (ix2 r q)) (Fin.ext hk.symm) (Fin.ext (by dsimp only; omega))
  · rw [dif_neg (by omega), dif_neg (by omega), dif_neg (by omega)]
    exact congrArg₂ (fun k r => v k (ix2 r q)) (Fin.ext hk.symm) (Fin.ext (by dsimp only; omega))

/-- The product of four arrays side by side with four arrays one below the other is the sum of the four products. -/
theorem runs_at (u : Fin 4 → FVec Ideal S128x128 .bf16) (v : Fin 4 → FVec Ideal S128x256 .bf16) (l : Fin 128) (q : Fin 256) :
    runs (u 0) (u 1) (u 2) (u 3) (v 0) (v 1) (v 2) (v 3) (ix2 l q) = ∑ k : Fin 4, ∑ r : Fin 128, u k (ix2 l r) * v k (ix2 r q) := by
  have hU := beside_at u l
  have hV := below_at v q
  unfold runs
  generalize concatenate S128x512 1 _ _ = U at hU ⊢
  generalize concatenate S512x256 0 _ _ = W at hV ⊢
  pointwise []
  rw [sum_runs]
  simp only [hU, hV]

/-- The outputs of one group in one chunk. -/
theorem yG_at (g : Fin 8) (dt : FVec Ideal S128x128 .f32) (a : FVec Ideal S1x128 .f32) (b c : FVec Ideal S128x128 .bf16)
    (x : FVec Ideal S128x256 .bf16) (s : FVec Ideal S1x128x256 .f32) (l : Fin 128) (h : Fin 4) (p : Fin 64) :
    yG g dt a b c x s (ix2 l (Ssd.glane h p))
      = (∑ r : Fin 128, (((∑ n : Fin 128, c (ix2 l n) * b (ix2 r n)) *
            Ideal.exp (if r ≤ l then k0_pay2 (F := Ideal) k0_pay206 dt a (ix2 l (Ssd.lane g h))
              - k0_pay2 (F := Ideal) k0_pay206 dt a (ix2 r (Ssd.lane g h)) else ⊥)) * dt (ix2 r (Ssd.lane g h))) *
            x (ix2 r (Ssd.glane h p)))
        + (∑ n : Fin 128, c (ix2 l n) * s (ix3 0 n (Ssd.glane h p)))
            * Ideal.exp (k0_pay2 (F := Ideal) k0_pay206 dt a (ix2 l (Ssd.lane g h))) := by
  have hM := runs_at (fun k => part (scores b c) (k0_pay2 k0_pay206 dt a) (k0_pay3 k0_pay206 dt a) (k0_pay4 dt) (4 * g.val + k.val) (by omega))
    (fun k => only x (BitVec.ofNat 32 k.val)) l (Ssd.glane h p)
  pointwise [yG, fromStart_at]
  congr 1
  refine Eq.trans ?_ (hM.trans ?_)
  · rfl
  rw [Finset.sum_eq_single h]
  · refine Finset.sum_congr rfl fun r _ => ?_
    have hq : (⟨4 * g.val + h.val, by omega⟩ : Fin 128) = Ssd.lane g h := Fin.ext (by simp only [Ssd.lane]; omega)
    simp only [part_at, scores_at, only_at, act_at, dtT_at, hq, if_true]
  · intro k _ hk
    refine Finset.sum_eq_zero fun r _ => ?_
    rw [only_at, if_neg (Ne.symm hk), mul_zero]
  · intro hh; exact absurd (Finset.mem_univ h) hh

end Cert.KernelIdeal.Scan

end
-- ==== Proof.ScanIdeal.Chunk.lean ====
module

public import proofs.«01_k».proof.Proof.ScanIdeal.Points

/-!
# One chunk of one group computes the recurrence's step

When the kernel's tiles hold the chunk's part of the arguments, the group's outputs and its new state are those of `Ssd.lean`.
-/

@[expose] public section

set_option maxRecDepth 16384

noncomputable section

namespace Cert.KernelIdeal.Scan

open Idealize.ShloMosaic Idealize.ShloMosaic.TcCoe Idealize.ShloMosaic.Tactic
open Cert.KernelIdeal Cert.KernelIdeal.Gen

/-- The tiles of chunk `ch` of batch entry `b`, for group `g`. -/
structure Tiles (X : Ssd.TX) (D : Ssd.TD) (A : Ssd.TA) (b : Fin 2) (ch : Fin 128) (g : Fin 8) (dt : FVec Ideal S128x128 .f32)
    (a : FVec Ideal S1x128 .f32) (bt ct : FVec Ideal S128x128 .bf16) (x : FVec Ideal S128x256 .bf16) : Prop where
  hd : ∀ l h, dt (ix2 l (Ssd.lane g h)) = Ssd.dt D b ch l g h
  ha : ∀ h, a (ix2 0 (Ssd.lane g h)) = -Ideal.exp (A (ix2 0 (Ssd.head g h)))
  hb : ∀ l n, bt (ix2 l n) = Ssd.bv X b ch l g n
  hc : ∀ l n, ct (ix2 l n) = Ssd.cv X b ch l g n
  hx : ∀ l h p, x (ix2 l (Ssd.glane h p)) = Ssd.xv X b ch l g h p

variable {X : Ssd.TX} {D : Ssd.TD} {A : Ssd.TA} (S : Ssd.TS) {b : Fin 2} {ch : Fin 128} {g : Fin 8} {dt : FVec Ideal S128x128 .f32}
    {a : FVec Ideal S1x128 .f32} {bt ct : FVec Ideal S128x128 .bf16} {x : FVec Ideal S128x256 .bf16} {s : FVec Ideal S1x128x256 .f32}

theorem acum_of (T : Tiles X D A b ch g dt a bt ct x) (l : Fin 128) (h : Fin 4) :
    k0_pay2 (F := Ideal) k0_pay206 dt a (ix2 l (Ssd.lane g h)) = Ssd.acum D A b ch l g h := by
  rw [ac_at]
  simp only [T.hd, T.ha]
  rfl

/-- The group's new state. -/
theorem stG_of (T : Tiles X D A b ch g dt a bt ct x)
    (hs : ∀ n h p, s (ix3 0 n (Ssd.glane h p)) = Ssd.state X D A S b g h p n ch.val) (n : Fin 128) (h : Fin 4) (p : Fin 64) :
    stG g dt a bt x s (ix3 0 n (Ssd.glane h p)) = Ssd.state X D A S b g h p n (ch.val + 1) := by
  rw [stG_at]
  simp only [wall_at, acum_of T, hs, T.hd, T.hb, T.hx]
  rw [Ssd.state, dif_pos ch.isLt, mul_comm]
  refine congrArg₂ (· + ·) rfl (Finset.sum_congr rfl fun r _ => ?_)
  simp only [mul_comm, mul_left_comm, mul_assoc]

/-- The group's outputs. -/
theorem yG_of (T : Tiles X D A b ch g dt a bt ct x)
    (hs : ∀ n h p, s (ix3 0 n (Ssd.glane h p)) = Ssd.state X D A S b g h p n ch.val) (l : Fin 128) (h : Fin 4) (p : Fin 64) :
    yG g dt a bt ct x s (ix2 l (Ssd.glane h p)) = Ssd.yv X D A S b ch l g h p := by
  rw [yG_at]
  simp only [acum_of T, hs, T.hd, T.hb, T.hc, T.hx]
  refine congrArg₂ (· + ·) (Finset.sum_congr rfl fun r _ => ?_) (congrArg (· * _) (Finset.sum_congr rfl fun n _ => mul_comm _ _))
  show Ssd.cb X b ch l r g * Ssd.decay D A b ch l r g h * _ * _ = _
  simp only [mul_comm, mul_left_comm, mul_assoc]

end Cert.KernelIdeal.Scan

end
-- ==== Proof.ScanIdeal.Fold.lean ====
module

public import proofs.«01_k».proof.Proof.ScanIdeal.Trip
public import proofs.«01_k».proof.Proof.ScanIdeal.Chunk
public import Idealize.ShloMosaic.Lib.WritesUnit
public import Idealize.ShloMosaic.Lib.Pipeline.ValueKit.Tiles

/-!
# The chunk loop at one grid point

Four chunks follow one another; the state read after `n` of them is the recurrence's state, and the rows of each are its outputs.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

/-- The row of position `l` of the block's chunk `k`. -/
def lrow (k : Fin 4) (l : Fin 128) : Fin 512 := ⟨128 * k.val + l.val, by omega⟩
/-- The column of entry `n` of group `g` in a block of `B` or `C`. -/
def lcol (g : Fin 8) (n : Fin 128) : Fin 1024 := ⟨g.val * 128 + n.val, by omega⟩
/-- The chunk's number in the sequence. -/
def chunk (j : Fin 32) (k : Fin 4) : Fin 128 := ⟨4 * j.val + k.val, by omega⟩

/-- The blocks of grid point `(b, j)`. -/
structure Blocks (X : Ssd.TX) (D : Ssd.TD) (A : Ssd.TA) (b : Fin 2) (j : Fin 32) (x0 : Vec Ideal S512x2048 .bf16) (x1 : Vec Ideal S512x1024 .bf16) (x2 : Vec Ideal S512x1024 .bf16) (x3 : Vec Ideal S512x128 .f32) (x4 : Vec Ideal S1x128 .f32) : Prop where
  hx : ∀ k l g h p, x0 (ix2 (lrow k l) (Ssd.ycol g h p)) = Ssd.xv X b (chunk j k) l g h p
  hb : ∀ k l g n, x1 (ix2 (lrow k l) (lcol g n)) = Ssd.bv X b (chunk j k) l g n
  hc : ∀ k l g n, x2 (ix2 (lrow k l) (lcol g n)) = Ssd.cv X b (chunk j k) l g n
  hd : ∀ k l g h, x3 (ix2 (lrow k l) (Ssd.lane g h)) = Ssd.dt D b (chunk j k) l g h
  ha : ∀ g h, x4 (ix2 0 (Ssd.lane g h)) = -Ideal.exp (A (ix2 0 (Ssd.head g h)))

/-- The groups' states written one after the other, read back. -/
theorem read_states {κ : Kind} {sp : Space} (v : View sig κ sp S8x128x256 .f32) (f : v.ty.Contents (Elt Ideal))
    (w : Fin 8 → FVec Ideal S1x128x256 .f32) (L : List (View.Piece (Elt Ideal) S8x128x256 .f32)) (g : Fin 8) (n : Fin 128) (q : Fin 256)
    (gs : List (Fin 8)) (hg : g ∈ gs) :
    v.read (Elt Ideal) (v.writes (Elt Ideal) f (gs.map (fun g => (⟨Rect.unit (s := S8x128x256) ![g.val, 0, 0] S1x128x256.size (inb3 g), w g⟩ :
      View.Piece (Elt Ideal) S8x128x256 .f32)) ++ L)) (ix3 g n q) = w g (ix3 0 n q) := by
  induction gs with
  | nil => exact absurd hg (List.not_mem_nil)
  | cons a gs ih =>
    rw [List.map_cons, List.cons_append]
    by_cases h : g = a
    · subst h
      exact View.read_writes_cons_unit_of_mem v f _ _ _ _ (ix3 0 n q) rfl (fun a => by fin_cases a <;> simp)
    · rw [View.read_writes_cons_unit_of_not_mem v f _ _ _ _ rfl (0 : Fin 3) (by
        have h' : g.val ≠ a.val := fun e => h (Fin.ext e)
        show g.val < a.val ∨ a.val + 1 ≤ g.val
        omega)]
      exact ih ((List.mem_cons.mp hg).resolve_left h)

/-- The groups' outputs written one after the other, read back in the chunk's rows. -/
theorem read_outs {κ : Kind} {sp : Space} (v : View sig κ sp S512x2048 .bf16) (f : v.ty.Contents (Elt Ideal)) (k : Fin k0_t1_loop.trips)
    (w : Fin 8 → FVec Ideal S128x256 .bf16) (L : List (View.Piece (Elt Ideal) S512x2048 .bf16)) (l : Fin 128) (g : Fin 8) (h : Fin 4) (p : Fin 64)
    (k' : Fin 4) (hk : k'.val = k.val) (gs : List (Fin 8)) (hg : g ∈ gs) :
    v.read (Elt Ideal) (v.writes (Elt Ideal) f (gs.map (fun g => (⟨Rect.unit (s := S512x2048) (oX k g) S128x256.size (oX_inb k g), w g⟩ :
      View.Piece (Elt Ideal) S512x2048 .bf16)) ++ L)) (ix2 (lrow k' l) (Ssd.ycol g h p)) = w g (ix2 l (Ssd.glane h p)) := by
  induction gs with
  | nil => exact absurd hg (List.not_mem_nil)
  | cons a gs ih =>
    rw [List.map_cons, List.cons_append]
    by_cases e : g = a
    · subst e
      refine View.read_writes_cons_unit_of_mem v f _ _ _ _ (ix2 l (Ssd.glane h p)) (oX_eq k g) (Fin.forall_fin_two.mpr ⟨?_, ?_⟩)
      · show 128 * k'.val + l.val = 128 * k.val + l.val
        omega
      · show g.val * 256 + h.val * 64 + p.val = 256 * g.val + (h.val * 64 + p.val)
        omega
    · rw [View.read_writes_cons_unit_of_not_mem v f _ _ _ _ (oX_eq k a) (1 : Fin 2) (by
        have h' : g.val ≠ a.val := fun e' => e (Fin.ext e')
        show g.val * 256 + h.val * 64 + p.val < 256 * a.val ∨ 256 * a.val + 256 ≤ g.val * 256 + h.val * 64 + p.val
        omega)]
      exact ih ((List.mem_cons.mp hg).resolve_left e)

/-- A chunk's writes leave the other chunks' rows. -/
theorem read_outs_other {κ : Kind} {sp : Space} (v : View sig κ sp S512x2048 .bf16) (f : v.ty.Contents (Elt Ideal)) (k : Fin k0_t1_loop.trips)
    (w : Fin 8 → FVec Ideal S128x256 .bf16) (L : List (View.Piece (Elt Ideal) S512x2048 .bf16)) (l : Fin 128) (q : Fin 2048)
    (k' : Fin 4) (hk : k'.val ≠ k.val) (gs : List (Fin 8)) :
    v.read (Elt Ideal) (v.writes (Elt Ideal) f (gs.map (fun g => (⟨Rect.unit (s := S512x2048) (oX k g) S128x256.size (oX_inb k g), w g⟩ :
      View.Piece (Elt Ideal) S512x2048 .bf16)) ++ L)) (ix2 (lrow k' l) q) = v.read (Elt Ideal) (v.writes (Elt Ideal) f L) (ix2 (lrow k' l) q) := by
  induction gs with
  | nil => rfl
  | cons a gs ih =>
    rw [List.map_cons, List.cons_append, View.read_writes_cons_unit_of_not_mem v f _ _ _ _ (oX_eq k a) (0 : Fin 2) (by
      have := l.isLt
      show 128 * k'.val + l.val < 128 * k.val ∨ 128 * k.val + 128 ≤ 128 * k'.val + l.val
      omega)]
    exact ih

variable {X : Ssd.TX} {D : Ssd.TD} {A : Ssd.TA} (S : Ssd.TS) {b : Fin 2} {j : Fin 32}
variable (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole)
variable {x0 : Vec Ideal S512x2048 .bf16} {x1 : Vec Ideal S512x1024 .bf16} {x2 : Vec Ideal S512x1024 .bf16} {x3 : Vec Ideal S512x128 .f32} {x4 : Vec Ideal S1x128 .f32}

/-- The tiles a trip reads are its chunk's. -/
theorem tiles_of (H : Blocks X D A b j x0 x1 x2 x3 x4) (k : Fin k0_t1_loop.trips) (k' : Fin 4) (hk : k'.val = k.val) (g : Fin 8) :
    Tiles X D A b (chunk j k') g
      (View.readAt (Elt Ideal) arg5.view (Rect.unit (s := S512x128) (k0_off1 k) S128x128.size (k0_off1_inb k)).toLoadRect (harg5.unread x3))
      (View.readAt (Elt Ideal) arg6.view (Rect.unit (s := S1x128) ![0, 0] S1x128.size inb_S1x128_S1x128_0_0).toLoadRect (harg6.unread x4))
      (View.readAt (Elt Ideal) arg3.view (Rect.unit (s := S512x1024) (oB k g) S128x128.size (oB_inb k g)).toLoadRect (harg3.unread x1))
      (View.readAt (Elt Ideal) arg4.view (Rect.unit (s := S512x1024) (oB k g) S128x128.size (oB_inb k g)).toLoadRect (harg4.unread x2))
      (View.readAt (Elt Ideal) arg2.view (Rect.unit (s := S512x2048) (oX k g) S128x256.size (oX_inb k g)).toLoadRect (harg2.unread x0)) := by
  have hB := oB_eq k g
  have hX := oX_eq k g
  have hD := oD_eq k
  simp only [View.readAt_eq_ld, Memref.IsWhole.read_unread]
  refine ⟨fun l h => ?_, fun h => ?_, fun l n => ?_, fun l n => ?_, fun l h p => ?_⟩
  · rw [← H.hd]
    refine View.ld_unit_apply_of _ _ _ _ _ _ (Fin.forall_fin_two.mpr ⟨?_, ?_⟩)
    · exact (show 128 * k'.val + l.val = 128 * k.val + l.val by omega).trans (congrArg (· + l.val) (congrFun hD 0)).symm
    · exact (Nat.zero_add _).symm.trans (congrArg (· + (Ssd.lane g h).val) (congrFun hD 1)).symm
  · rw [← H.ha]
    exact View.ld_unit_apply_of _ _ _ _ _ _ (Fin.forall_fin_two.mpr ⟨rfl, (Nat.zero_add _).symm⟩)
  · rw [← H.hb]
    refine View.ld_unit_apply_of _ _ _ _ _ _ (Fin.forall_fin_two.mpr ⟨?_, ?_⟩)
    · exact (show 128 * k'.val + l.val = 128 * k.val + l.val by omega).trans (congrArg (· + l.val) (congrFun hB 0)).symm
    · exact (show g.val * 128 + n.val = 128 * g.val + n.val by omega).trans (congrArg (· + n.val) (congrFun hB 1)).symm
  · rw [← H.hc]
    refine View.ld_unit_apply_of _ _ _ _ _ _ (Fin.forall_fin_two.mpr ⟨?_, ?_⟩)
    · exact (show 128 * k'.val + l.val = 128 * k.val + l.val by omega).trans (congrArg (· + l.val) (congrFun hB 0)).symm
    · exact (show g.val * 128 + n.val = 128 * g.val + n.val by omega).trans (congrArg (· + n.val) (congrFun hB 1)).symm
  · rw [← H.hx]
    refine View.ld_unit_apply_of _ _ _ _ _ _ (Fin.forall_fin_two.mpr ⟨?_, ?_⟩)
    · exact (show 128 * k'.val + l.val = 128 * k.val + l.val by omega).trans (congrArg (· + l.val) (congrFun hX 0)).symm
    · exact (show g.val * 256 + h.val * 64 + p.val = 256 * g.val + (h.val * 64 + p.val) by omega).trans (congrArg (· + (h.val * 64 + p.val)) (congrFun hX 1)).symm

/-- The state a trip reads for a group. -/
theorem ld_state (st : BufTy.Contents (Elt Ideal) arg10.view.ty) (g : Fin 8) (n : Fin 128) (q : Fin 256) :
    View.readAt (Elt Ideal) arg10.view (Rect.unit (s := S8x128x256) ![g.val, 0, 0] S1x128x256.size (inb3 g)).toLoadRect st (ix3 0 n q)
      = arg10.view.read (Elt Ideal) st (ix3 g n q) := by
  rw [View.readAt_eq_ld]
  exact View.ld_unit_apply_of _ _ _ _ _ _ (fun a => by fin_cases a <;> simp)

variable (f : BufTy.Contents (Elt Ideal) arg8.view.ty) (G : BufTy.Contents (Elt Ideal) arg10.view.ty)

/-- The state after `n` chunks. -/
theorem fold_state (H : Blocks X D A b j x0 x1 x2 x3 x4)
    (hG : ∀ g n h p, arg10.view.read (Elt Ideal) G (ix3 g n (Ssd.glane h p)) = Ssd.state X D A S b g h p n (4 * j.val))
    (N : ℕ) (hN : N ≤ k0_t1_loop.trips) (g : Fin 8) (n : Fin 128) (h : Fin 4) (p : Fin 64) :
    arg10.view.read (Elt Ideal) (arg10.view.writes (Elt Ideal) G (pb_k0_t1 (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) f G N).2) (ix3 g n (Ssd.glane h p))
      = Ssd.state X D A S b g h p n (4 * j.val + N) := by
  induction N generalizing g n h p with
  | zero => exact hG g n h p
  | succ N ih =>
    have ht : k0_t1_loop.trips = 4 := by decide +kernel
    have e := pb_k0_t1_succ (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) f G ⟨N, hN⟩
    rw [e, trip_eq]
    dsimp only
    have T := tiles_of arg2 harg2 arg3 harg3 arg4 harg4 arg5 harg5 arg6 harg6 H ⟨N, hN⟩ ⟨N, by omega⟩ rfl g
    refine (read_states arg10.view G (fun g => stG g _ _ _ _ _) _ g n (Ssd.glane h p) groups (mem_groups g)).trans ?_
    refine stG_of S T (fun n h p => ?_) n h p
    rw [ld_state]
    exact ih (by omega) g n h p

/-- The outputs of chunk `k`, once it has run. -/
theorem fold_out (H : Blocks X D A b j x0 x1 x2 x3 x4)
    (hG : ∀ g n h p, arg10.view.read (Elt Ideal) G (ix3 g n (Ssd.glane h p)) = Ssd.state X D A S b g h p n (4 * j.val))
    {κ : Kind} {sp : Space} (v : View sig κ sp S512x2048 .bf16) (f' : v.ty.Contents (Elt Ideal))
    (N : ℕ) (hN : N ≤ k0_t1_loop.trips) (k : Fin 4) (hk : k.val < N) (l : Fin 128) (g : Fin 8) (h : Fin 4) (p : Fin 64) :
    v.read (Elt Ideal) (v.writes (Elt Ideal) f' (pb_k0_t1 (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) f G N).1) (ix2 (lrow k l) (Ssd.ycol g h p))
      = Ssd.yv X D A S b (chunk j k) l g h p := by
  induction N with
  | zero => omega
  | succ N ih =>
    have ht : k0_t1_loop.trips = 4 := by decide +kernel
    have e := pb_k0_t1_succ (F := Ideal) Variants.none c none i arg2 harg2 arg3 harg3 arg4 harg4 arg5 harg5 arg6 harg6 arg7 harg7 arg8 harg8 arg9 harg9 arg10 harg10 (harg2.unread x0) (harg3.unread x1) (harg4.unread x2) (harg5.unread x3) (harg6.unread x4) f G ⟨N, hN⟩
    rw [e, trip_eq]
    dsimp only
    by_cases hkN : k.val = N
    · have T := tiles_of arg2 harg2 arg3 harg3 arg4 harg4 arg5 harg5 arg6 harg6 H ⟨N, hN⟩ k hkN g
      refine (read_outs v f' ⟨N, hN⟩ (fun g => yG g _ _ _ _ _ _) _ l g h p k hkN groups (mem_groups g)).trans ?_
      refine yG_of S T (fun n h p => ?_) l h p
      rw [ld_state]
      refine (fold_state S c i arg2 harg2 arg3 harg3 arg4 harg4 arg5 harg5 arg6 harg6 arg7 harg7 arg8 harg8 arg9 harg9 arg10 harg10 f G H hG N (by omega) g n h p).trans ?_
      exact congrArg _ (by show 4 * j.val + N = 4 * j.val + k.val; omega)
    · refine (read_outs_other v f' ⟨N, hN⟩ (fun g => yG g _ _ _ _ _ _) _ l _ k hkN groups).trans ?_
      exact ih (by omega) (by omega)

end Cert.KernelIdeal.Scan

end
-- ==== Proof.ScanIdeal.Pad.lean ====
module

public import proofs.«01_k».proof.KernelIdeal
public import Idealize.ShloMosaic.Lib.Pointwise
public import Idealize.ShloMosaic.Lib.Routing.OpsPair
public import Idealize.ShloMosaic.Lib.Routing.OpsSet

/-!
# The decay rates laid out in lanes

The host writes the 64 rates (two directions of 32 heads) into the first 64 of 128 lanes; lane `q` below 64 holds entry `q`.
-/

@[expose] public section

set_option maxRecDepth 16384

noncomputable section

namespace Cert.KernelIdeal.Scan

open Idealize.ShloMosaic Idealize.ShloMosaic.Routing
open Cert.KernelIdeal

variable [Facts₀]

/-- Where an update of `x.at[i : i + U].set(v)` lands. -/
theorem lands_window (idx : IVec S1 32) (k : Fin 64) (q : Fin 128) :
    scatter_S128_S1_S64_0_n_0_0.resultIdx? (ix1 k) idx = some (ix1 q) ↔ (idx (ix1 0)).toInt + (k.val : Int) = q.val := by
  have hstart : scatter_S128_S1_S64_0_n_0_0.start (ix1 k) idx 0 = (idx (ix1 0)).toInt := by
    have hsi : scatter_S128_S1_S64_0_n_0_0.siIdx (ix1 k) ⟨0, Nat.zero_lt_one⟩ = ix1 0 := by
      funext b
      match b with
      | ⟨0, _⟩ => exact Subsingleton.elim (α := Fin 1) _ _
    unfold ScatterDims.start
    rw [dif_pos (show (0 : Fin 1) ∈ scatter_S128_S1_S64_0_n_0_0.scatterDimsToOperandDims from List.mem_singleton.mpr rfl)]
    exact congrArg (fun t => (idx t).toInt) hsi
  have hwin : scatter_S128_S1_S64_0_n_0_0.window (ix1 k) 0 = k.val := by
    have hk : scatter_S128_S1_S64_0_n_0_0.sKept = [0] := rfl
    unfold ScatterDims.window
    rw [dif_pos (by rw [hk]; simp)]
    exact congrArg (fun t => ((ix1 k : S64.Idx) t).val) (Subsingleton.elim (α := Fin 1) _ 0)
  refine (resultIdx?_ix1 (N := 128) scatter_S128_S1_S64_0_n_0_0 (ix1 k) idx q).trans ?_
  rw [hstart, hwin]

/-- Lane `q` below 64 is written with entry `q`. -/
theorem pad_at {α : Type} (x : S128.Idx → α) (idx : IVec S1 32) (u : S64.Idx → α) (h0 : (idx (ix1 0)).toInt = 0) (q : Fin 128) (k : Fin 64)
    (hq : q.val = k.val) : Host.scatter scatter_S128_S1_S64_0_n_0_0 (fun _ b => b) x idx u (ix1 q) = u (ix1 k) := by
  refine scatter_set_hit _ x idx u _ _ (fun j hj => ?_) (ix1 k) ((lands_window idx k q).mpr (by rw [h0]; omega))
  have e := (lands_window idx (j 0) q).mp ((congrArg (fun t => scatter_S128_S1_S64_0_n_0_0.resultIdx? t idx) (eq_ix1 j).symm).trans hj)
  rw [h0] at e
  have : j 0 = k := Fin.ext (by have : ((j 0).val : Int) = q.val := by omega
                                omega)
  exact congrArg u ((eq_ix1 j).trans (congrArg ix1 this))

end Cert.KernelIdeal.Scan

end
-- ==== Proof.ScanIdeal.Grid.lean ====
module

public import proofs.«01_k».proof.Proof.ScanIdeal.Fold
public import proofs.«01_k».proof.Proof.ScanIdeal.Pad
public import Idealize.ShloMosaic.Lib.Pipeline.ValueKit

/-!
# The blocks of a grid point

Point `32 b + j` sees rows `512 j …` of batch entry `b`, the decay rates, and that entry's initial state.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

/-- The blocks' places, point by point. -/
theorem idx : ∀ t : Fin cfg0.N, win0_0.index t = ![t.val, 0] ∧ win0_1.index t = ![t.val, 2] ∧ win0_2.index t = ![t.val, 3]
    ∧ win0_3.index t = ![t.val, 0] ∧ win0_4.index t = ![0, 0] ∧ win0_5.index t = ![t.val / 32, 0, 0, 0] :=
  (by decide +kernel : ∀ t : Fin grid0.N, win0_0.index t = ![t.val, 0] ∧ win0_1.index t = ![t.val, 2] ∧ win0_2.index t = ![t.val, 3]
    ∧ win0_3.index t = ![t.val, 0] ∧ win0_4.index t = ![0, 0] ∧ win0_5.index t = ![t.val / 32, 0, 0, 0])

/-- The point of batch entry `b`'s rows `512 j …`. -/
def pt (b : Fin 2) (j : Fin 32) : Fin cfg0.N := ⟨32 * b.val + j.val, by have : cfg0.N = 64 := rfl; omega⟩

variable (m : (ℓ : Loc nD τ sig) → Buf (Elt Ideal) ℓ) (c : Dev nD)

/-- The first argument, as the core holds it. -/
abbrev X (m : (ℓ : Loc nD τ sig) → Buf (Elt Ideal) ℓ) (c : Dev nD) : Ssd.TX := m ((c : Thread nD τ).loc main_arg0)
/-- The second argument. -/
abbrev D (m : (ℓ : Loc nD τ sig) → Buf (Elt Ideal) ℓ) (c : Dev nD) : Ssd.TD := m ((c : Thread nD τ).loc main_arg1)
/-- The third argument. -/
abbrev A (m : (ℓ : Loc nD τ sig) → Buf (Elt Ideal) ℓ) (c : Dev nD) : Ssd.TA := m ((c : Thread nD τ).loc main_arg2)
/-- The fourth argument. -/
abbrev S (m : (ℓ : Loc nD τ sig) → Buf (Elt Ideal) ℓ) (c : Dev nD) : Ssd.TS := m ((c : Thread nD τ).loc main_arg3)

theorem pt_val (b : Fin 2) (j : Fin 32) : (pt b j).val = 32 * b.val + j.val := rfl

/-- A vector as the one row of a matrix. -/
theorem row_at (f : FVec Ideal S128 .f32) (q : Fin 128) : shapeCast S1x128 f shapeCasts_S128_S1x128 (ix2 0 q) = f (ix1 q) := by
  pointwise
/-- The rates laid out in one row, direction by direction. -/
theorem flat_at (f : FVec Ideal S2x32 .f32) (q : Fin 32) : shapeCast S64 f shapeCasts_S2x32_S64 (ix1 ⟨q.val, by omega⟩) = f (ix2 0 q) := by
  pointwise
  exact congrArg₂ (fun a b => f (ix2 a b)) (Fin.ext (Nat.div_eq_of_lt q.isLt)) (Fin.ext (Nat.mod_eq_of_lt q.isLt))

/-- The lanes of the decay rates. -/
theorem rates (g : Fin 8) (h : Fin 4) : V m c main_v6 (ix2 0 (Ssd.lane g h)) = -Ideal.exp (A m c (ix2 0 (Ssd.head g h))) := by
  entry_read
  refine (row_at _ _).trans ((pad_at _ _ _ (by decide +kernel) _ (⟨(Ssd.head g h).val, by omega⟩ : Fin 64) rfl).trans ?_)
  exact (flat_at _ _).trans rfl

theorem blocks (b : Fin 2) (j : Fin 32) :
    Blocks (X m c) (D m c) (A m c) b j (iblk m c 0 (pt b j)) (iblk m c 1 (pt b j)) (iblk m c 2 (pt b j)) (iblk m c 3 (pt b j)) (iblk m c 4 (pt b j)) := by
  obtain ⟨e0, e1, e2, e3, e4, e5⟩ := idx (pt b j)
  refine ⟨fun k l g h p => ?_, fun k l g n => ?_, fun k l g n => ?_, fun k l g h => ?_, fun g h => ?_⟩
  · unfold Ssd.xv
    blk_ext [iblk, V, e0, pt_val, lrow, Ssd.ycol, Ssd.row, Ssd.xcol, chunk]
  · unfold Ssd.bv
    blk_ext [iblk, V, e1, pt_val, lrow, lcol, Ssd.row, Ssd.bcol, chunk]
  · unfold Ssd.cv
    blk_ext [iblk, V, e2, pt_val, lrow, lcol, Ssd.row, Ssd.ccol, chunk]
  · unfold Ssd.dt
    blk_ext [iblk, V, e3, pt_val, lrow, Ssd.lane, Ssd.row, chunk]
  · rw [← rates]
    blk_ext [iblk, e4]

/-- The entry's initial state. -/
theorem block5 (b : Fin 2) (j : Fin 32) (g : Fin 8) (n : Fin 128) (q : Fin 256) :
    iblk m c 5 (pt b j) (ix4 0 g n q) = S m c (ix4 b g n q) := by
  obtain ⟨e0, e1, e2, e3, e4, e5⟩ := idx (pt b j)
  blk_ext [iblk, V, e5, pt_val]

end Cert.KernelIdeal.Scan

end
-- ==== Proof.ScanIdeal.Cases.lean ====
module

public import proofs.«01_k».proof.Proof.ScanIdeal.Fold

/-!
# What one grid point leaves

At the first point of a batch entry the state is the given one; later it is what the point before left; the last point also hands its state out.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

variable {X : Ssd.TX} {D : Ssd.TD} {A : Ssd.TA} (S : Ssd.TS) {b : Fin 2} {j : Fin 32}
variable (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole)
variable {x0 : Vec Ideal S512x2048 .bf16} {x1 : Vec Ideal S512x1024 .bf16} {x2 : Vec Ideal S512x1024 .bf16} {x3 : Vec Ideal S512x128 .f32} {x4 : Vec Ideal S1x128 .f32} {x5 : Vec Ideal S1x8x128x256 .f32} {xs0 : Vec Ideal S8x128x256 .f32}

/-- A state block as the scratch holds it. -/
theorem into_at (f : FVec Ideal S1x8x128x256 .f32) (g : Fin 8) (n : Fin 128) (q : Fin 256) :
    k0_pay204 (F := Ideal) f (ix3 g n q) = f (ix4 0 g n q) := by
  pointwise [k0_pay204]
/-- The scratch's state as the result's block holds it. -/
theorem out_at (f : FVec Ideal S8x128x256 .f32) (g : Fin 8) (n : Fin 128) (q : Fin 256) :
    k0_pay1 (F := Ideal) f (ix4 0 g n q) = f (ix3 g n q) := by
  pointwise [k0_pay1]

/-- The scratch after the given state has been stored. -/
theorem entry_state (f : BufTy.Contents (Elt Ideal) arg10.view.ty) (g : Fin 8) (n : Fin 128) (q : Fin 256) :
    View.read (Elt Ideal) arg10.view (arg10.view.writes (Elt Ideal) f
        [⟨Rect.unit ![0, 0, 0] S8x128x256.size inb_S8x128x256_S8x128x256_0_0_0,
            k0_pay204 (View.readAt (Elt Ideal) arg7.view
                (Rect.unit ![0, 0, 0, 0] S1x8x128x256.size inb_S1x8x128x256_S1x8x128x256_0_0_0_0).toLoadRect (harg7.unread x5))⟩]) (ix3 g n q)
      = x5 (ix4 0 g n q) := by
  refine (View.read_writes_cons_unit_of_mem arg10.view f _ _ _ _ (ix3 g n q) rfl (fun a => by fin_cases a <;> simp)).trans ?_
  refine (into_at _ g n q).trans ?_
  rw [View.readAt_eq_ld, Memref.IsWhole.read_unread]
  exact View.ld_unit_apply_of _ _ _ _ _ _ (fun a => by fin_cases a <;> simp)

theorem trips4 : k0_t1_loop.trips = 4 := by decide +kernel

/-- The outputs of case B. -/
theorem y_B (hc0 : ¬cond0_0 i) (hc1 : ¬cond0_1 i) (H : Blocks X D A b j x0 x1 x2 x3 x4)
    (hs : ∀ g n h p, xs0 (ix3 g n (Ssd.glane h p)) = Ssd.state X D A S b g h p n (4 * j.val)) (k : Fin 4) (l : Fin 128) (g : Fin 8) (h : Fin 4) (p : Fin 64) :
    out0_B_6 c i arg2 harg2 arg3 harg3 arg4 harg4 arg5 harg5 arg6 harg6 arg7 harg7 arg8 harg8 arg9 harg9 arg10 harg10 hc0 hc1 x0 x1 x2 x3 x4 x5 xs0 (ix2 (lrow k l) (Ssd.ycol g h p)) = Ssd.yv X D A S b (chunk j k) l g h p := by
  unfold out0_B_6 kernelRun0_B
  dsimp only
  sl_unfold_words
  refine fold_out S c i arg2 harg2 arg3 harg3 arg4 harg4 arg5 harg5 arg6 harg6 arg7 harg7 arg8 harg8 arg9 harg9 arg10 harg10 _ _ H (fun g n h p => ?_) VO0_6 _ _ (le_refl _) k (by rw [trips4]; exact k.isLt) l g h p
  rw [Memref.IsWhole.read_unread]
  exact hs g n h p

/-- The state of case B. -/
theorem s_B (hc0 : ¬cond0_0 i) (hc1 : ¬cond0_1 i) (H : Blocks X D A b j x0 x1 x2 x3 x4)
    (hs : ∀ g n h p, xs0 (ix3 g n (Ssd.glane h p)) = Ssd.state X D A S b g h p n (4 * j.val)) (g : Fin 8) (n : Fin 128) (h : Fin 4) (p : Fin 64) :
    sout0_B_0 c i arg2 harg2 arg3 harg3 arg4 harg4 arg5 harg5 arg6 harg6 arg7 harg7 arg8 harg8 arg9 harg9 arg10 harg10 hc0 hc1 x0 x1 x2 x3 x4 x5 xs0 (ix3 g n (Ssd.glane h p)) = Ssd.state X D A S b g h p n (4 * j.val + 4) := by
  unfold sout0_B_0
  rw [View.read_writes_of_cover VS0_0 _ arg10.view (harg10.unread xs0) _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  refine fold_state S c i arg2 harg2 arg3 harg3 arg4 harg4 arg5 harg5 arg6 harg6 arg7 harg7 arg8 harg8 arg9 harg9 arg10 harg10 _ _ H (fun g n h p => ?_) _ (le_refl _) g n h p
  rw [Memref.IsWhole.read_unread]
  exact hs g n h p

/-- The outputs of case C. -/
theorem y_C (hc0 : ¬cond0_0 i) (hc1 : cond0_1 i) (H : Blocks X D A b j x0 x1 x2 x3 x4)
    (hs : ∀ g n h p, xs0 (ix3 g n (Ssd.glane h p)) = Ssd.state X D A S b g h p n (4 * j.val)) (k : Fin 4) (l : Fin 128) (g : Fin 8) (h : Fin 4) (p : Fin 64) :
    out0_C_6 c i arg2 harg2 arg3 harg3 arg4 harg4 arg5 harg5 arg6 harg6 arg7 harg7 arg8 harg8 arg9 harg9 arg10 harg10 hc0 hc1 x0 x1 x2 x3 x4 x5 xs0 (ix2 (lrow k l) (Ssd.ycol g h p)) = Ssd.yv X D A S b (chunk j k) l g h p := by
  unfold out0_C_6 kernelRun0_C
  dsimp only
  sl_unfold_words
  refine fold_out S c i arg2 harg2 arg3 harg3 arg4 harg4 arg5 harg5 arg6 harg6 arg7 harg7 arg8 harg8 arg9 harg9 arg10 harg10 _ _ H (fun g n h p => ?_) VO0_6 _ _ (le_refl _) k (by rw [trips4]; exact k.isLt) l g h p
  rw [Memref.IsWhole.read_unread]
  exact hs g n h p

/-- The state of case C. -/
theorem s_C (hc0 : ¬cond0_0 i) (hc1 : cond0_1 i) (H : Blocks X D A b j x0 x1 x2 x3 x4)
    (hs : ∀ g n h p, xs0 (ix3 g n (Ssd.glane h p)) = Ssd.state X D A S b g h p n (4 * j.val)) (g : Fin 8) (n : Fin 128) (h : Fin 4) (p : Fin 64) :
    sout0_C_0 c i arg2 harg2 arg3 harg3 arg4 harg4 arg5 harg5 arg6 harg6 arg7 harg7 arg8 harg8 arg9 harg9 arg10 harg10 hc0 hc1 x0 x1 x2 x3 x4 x5 xs0 (ix3 g n (Ssd.glane h p)) = Ssd.state X D A S b g h p n (4 * j.val + 4) := by
  unfold sout0_C_0
  rw [View.read_writes_of_cover VS0_0 _ arg10.view (harg10.unread xs0) _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  refine fold_state S c i arg2 harg2 arg3 harg3 arg4 harg4 arg5 harg5 arg6 harg6 arg7 harg7 arg8 harg8 arg9 harg9 arg10 harg10 _ _ H (fun g n h p => ?_) _ (le_refl _) g n h p
  rw [Memref.IsWhole.read_unread]
  exact hs g n h p

/-- The state that case C hands out. -/
theorem f_C (hc0 : ¬cond0_0 i) (hc1 : cond0_1 i) (H : Blocks X D A b j x0 x1 x2 x3 x4)
    (hs : ∀ g n h p, xs0 (ix3 g n (Ssd.glane h p)) = Ssd.state X D A S b g h p n (4 * j.val)) (g : Fin 8) (n : Fin 128) (h : Fin 4) (p : Fin 64) :
    out0_C_7 c i arg2 harg2 arg3 harg3 arg4 harg4 arg5 harg5 arg6 harg6 arg7 harg7 arg8 harg8 arg9 harg9 arg10 harg10 hc0 hc1 x0 x1 x2 x3 x4 x5 xs0 (ix4 0 g n (Ssd.glane h p)) = Ssd.state X D A S b g h p n (4 * j.val + 4) := by
  unfold out0_C_7 kernelRun0_C
  dsimp only
  sl_unfold_words
  refine (View.read_writes_cons_unit_of_mem VO0_7 _ _ _ _ _ (ix4 0 g n (Ssd.glane h p)) rfl (fun a => by fin_cases a <;> simp)).trans ?_
  refine (out_at _ g n _).trans ?_
  rw [View.readAt_eq_ld]
  refine (View.ld_unit_apply_of _ _ _ _ _ (ix3 g n (Ssd.glane h p)) (fun a => by fin_cases a <;> simp)).trans ?_
  refine fold_state S c i arg2 harg2 arg3 harg3 arg4 harg4 arg5 harg5 arg6 harg6 arg7 harg7 arg8 harg8 arg9 harg9 arg10 harg10 _ _ H (fun g n h p => ?_) _ (le_refl _) g n h p
  rw [Memref.IsWhole.read_unread]
  exact hs g n h p

/-- The outputs of case A. -/
theorem y_A (hc0 : cond0_0 i) (hc1 : ¬cond0_1 i) (H : Blocks X D A b j x0 x1 x2 x3 x4)
    (hs : ∀ g n h p, x5 (ix4 0 g n (Ssd.glane h p)) = Ssd.state X D A S b g h p n (4 * j.val)) (k : Fin 4) (l : Fin 128) (g : Fin 8) (h : Fin 4) (p : Fin 64) :
    out0_A_6 c i arg2 harg2 arg3 harg3 arg4 harg4 arg5 harg5 arg6 harg6 arg7 harg7 arg8 harg8 arg9 harg9 arg10 harg10 hc0 hc1 x0 x1 x2 x3 x4 x5 (ix2 (lrow k l) (Ssd.ycol g h p)) = Ssd.yv X D A S b (chunk j k) l g h p := by
  unfold out0_A_6 kernelRun0_A
  dsimp only
  sl_unfold_words
  refine fold_out S c i arg2 harg2 arg3 harg3 arg4 harg4 arg5 harg5 arg6 harg6 arg7 harg7 arg8 harg8 arg9 harg9 arg10 harg10 _ _ H (fun g n h p => ?_) VO0_6 _ _ (le_refl _) k (by rw [trips4]; exact k.isLt) l g h p
  exact (entry_state arg7 harg7 arg10 _ g n _).trans (hs g n h p)

/-- The state of case A. -/
theorem s_A (hc0 : cond0_0 i) (hc1 : ¬cond0_1 i) (H : Blocks X D A b j x0 x1 x2 x3 x4)
    (hs : ∀ g n h p, x5 (ix4 0 g n (Ssd.glane h p)) = Ssd.state X D A S b g h p n (4 * j.val)) (g : Fin 8) (n : Fin 128) (h : Fin 4) (p : Fin 64) :
    sout0_A_0 c i arg2 harg2 arg3 harg3 arg4 harg4 arg5 harg5 arg6 harg6 arg7 harg7 arg8 harg8 arg9 harg9 arg10 harg10 hc0 hc1 x0 x1 x2 x3 x4 x5 (ix3 g n (Ssd.glane h p)) = Ssd.state X D A S b g h p n (4 * j.val + 4) := by
  unfold sout0_A_0
  rw [View.read_writes_of_cover VS0_0 _ arg10.view arg10.view.junk _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.writes_append]
  refine fold_state S c i arg2 harg2 arg3 harg3 arg4 harg4 arg5 harg5 arg6 harg6 arg7 harg7 arg8 harg8 arg9 harg9 arg10 harg10 _ _ H (fun g n h p => ?_) _ (le_refl _) g n h p
  exact (entry_state arg7 harg7 arg10 _ g n _).trans (hs g n h p)

end Cert.KernelIdeal.Scan

end
-- ==== Proof.ScanIdeal.State.lean ====
module

public import proofs.«01_k».proof.Proof.ScanIdeal.Grid
public import proofs.«01_k».proof.Proof.ScanIdeal.Cases

/-!
# What the grid points leave, one after the other

By induction over a batch entry's points: the scratch holds the recurrence's state, the blocks its outputs.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen

variable (m : (ℓ : Loc nD τ sig) → Buf (Elt Ideal) ℓ) (c : Dev nD)

theorem outsAt0_congr {n n' : ℕ} (e : n = n') (hn : n < cfg0.N) (hn' : n' < cfg0.N) : outsAt0 m c n hn = outsAt0 m c n' hn' := by
  subst e; rfl

/-- A batch entry's first point starts from the given state. -/
theorem first_in (b : Fin 2) (g : Fin 8) (n : Fin 128) (h : Fin 4) (p : Fin 64) :
    iblk m c 5 (pt b 0) (ix4 0 g n (Ssd.glane h p)) = Ssd.state (X m c) (D m c) (A m c) (S m c) b g h p n (4 * (0 : Fin 32).val) :=
  block5 m c b 0 g n _

theorem mod_pt (b : Fin 2) (j : Fin 32) : (pt b j).val % 32 = j.val := by
  show (32 * b.val + j.val) % 32 = j.val
  omega

/-- The state after a point. -/
theorem state_after (b : Fin 2) (j : ℕ) (hj : j < 32) : ∀ (g : Fin 8) (n : Fin 128) (h : Fin 4) (p : Fin 64),
    (outsAt0 m c (pt b ⟨j, hj⟩).val (pt b ⟨j, hj⟩).isLt).2.2 (ix3 g n (Ssd.glane h p))
      = Ssd.state (X m c) (D m c) (A m c) (S m c) b g h p n (4 * j + 4) := by
  induction j with
  | zero =>
    intro g n h p
    rw [outsAt0_A m c (pt b ⟨0, hj⟩) (mod_pt b _) (by rw [mod_pt]; show ¬(0 : ℕ) = 31; decide)]
    exact s_A (S m c) (j := 0) c _ _ _ _ _ _ _ _ _ _ _ _ _ _ _ _ _ _ _ _ _ (blocks m c b 0) (first_in m c b) g n h p
  | succ j ih =>
    intro g n h p
    have hin := ih (by omega)
    have e : (pt b ⟨j + 1, hj⟩).val - 1 = (pt b ⟨j, by omega⟩).val := rfl
    rw [← outsAt0_congr m c e (Nat.lt_of_le_of_lt (Nat.sub_le _ _) (pt b ⟨j + 1, hj⟩).isLt)] at hin
    have h0 : ¬(pt b ⟨j + 1, hj⟩).val % 32 = 0 := by rw [mod_pt]; exact Nat.succ_ne_zero j
    by_cases h1 : (pt b ⟨j + 1, hj⟩).val % 32 = 31
    · rw [outsAt0_C m c _ h0 h1]
      exact s_C (S m c) (j := ⟨j + 1, hj⟩) c _ _ _ _ _ _ _ _ _ _ _ _ _ _ _ _ _ _ _ _ _ (blocks m c b ⟨j + 1, hj⟩) hin g n h p
    · rw [outsAt0_B m c _ h0 h1]
      exact s_B (S m c) (j := ⟨j + 1, hj⟩) c _ _ _ _ _ _ _ _ _ _ _ _ _ _ _ _ _ _ _ _ _ (blocks m c b ⟨j + 1, hj⟩) hin g n h p

/-- The state a later point starts from. -/
theorem state_before (b : Fin 2) (j : Fin 32) (hj : j.val ≠ 0) (g : Fin 8) (n : Fin 128) (h : Fin 4) (p : Fin 64) :
    (outsAt0 m c ((pt b j).val - 1) (Nat.lt_of_le_of_lt (Nat.sub_le _ _) (pt b j).isLt)).2.2 (ix3 g n (Ssd.glane h p))
      = Ssd.state (X m c) (D m c) (A m c) (S m c) b g h p n (4 * j.val) := by
  have e : (pt b j).val - 1 = (pt b ⟨j.val - 1, by omega⟩).val := by
    show 32 * b.val + j.val - 1 = 32 * b.val + (j.val - 1)
    omega
  rw [outsAt0_congr m c e _ (pt b ⟨j.val - 1, by omega⟩).isLt, state_after m c b (j.val - 1) (by omega)]
  exact congrArg _ (by omega)

/-- The outputs a point leaves. -/
theorem outputs (b : Fin 2) (j : Fin 32) (k : Fin 4) (l : Fin 128) (g : Fin 8) (h : Fin 4) (p : Fin 64) :
    (outsAt0 m c (pt b j).val (pt b j).isLt).1 (ix2 (lrow k l) (Ssd.ycol g h p))
      = Ssd.yv (X m c) (D m c) (A m c) (S m c) b (chunk j k) l g h p := by
  by_cases hj : j.val = 0
  · obtain rfl : j = 0 := Fin.ext hj
    rw [outsAt0_A m c (pt b 0) (mod_pt b _) (by rw [mod_pt]; decide)]
    exact y_A (S m c) (j := 0) c _ _ _ _ _ _ _ _ _ _ _ _ _ _ _ _ _ _ _ _ _ (blocks m c b 0) (first_in m c b) k l g h p
  · have h0 : ¬(pt b j).val % 32 = 0 := by rw [mod_pt]; exact hj
    by_cases h1 : (pt b j).val % 32 = 31
    · rw [outsAt0_C m c _ h0 h1]
      exact y_C (S m c) c _ _ _ _ _ _ _ _ _ _ _ _ _ _ _ _ _ _ _ _ _ (blocks m c b j) (state_before m c b j hj) k l g h p
    · rw [outsAt0_B m c _ h0 h1]
      exact y_B (S m c) c _ _ _ _ _ _ _ _ _ _ _ _ _ _ _ _ _ _ _ _ _ (blocks m c b j) (state_before m c b j hj) k l g h p

/-- The state a batch entry's last point hands out, after all `N = 128` chunks. -/
theorem handed (b : Fin 2) (j : Fin 32) (hj : j.val = 31) (N : ℕ) (hN : N = 4 * j.val + 4) (g : Fin 8) (n : Fin 128) (h : Fin 4) (p : Fin 64) :
    (outsAt0 m c (pt b j).val (pt b j).isLt).2.1 (ix4 0 g n (Ssd.glane h p))
      = Ssd.state (X m c) (D m c) (A m c) (S m c) b g h p n N := by
  subst hN
  have h0 : ¬(pt b j).val % 32 = 0 := by rw [mod_pt, hj]; decide
  have hin := state_before m c b j (by omega)
  have e := f_C (S m c) c (grid0.coords (pt b j)) (ms0_0 (pt b j)) (hs0_0 (pt b j)) (ms0_1 (pt b j)) (hs0_1 (pt b j)) (ms0_2 (pt b j)) (hs0_2 (pt b j)) (ms0_3 (pt b j)) (hs0_3 (pt b j)) (ms0_4 (pt b j)) (hs0_4 (pt b j)) (ms0_5 (pt b j)) (hs0_5 (pt b j)) (ms0_6 (pt b j)) (hs0_6 (pt b j)) (ms0_7 (pt b j)) (hs0_7 (pt b j)) scM0_0 (Memref.isWhole_whole _) (fun h => h0 ((hcond0_0 (pt b j)).mp h)) ((hcond0_1 (pt b j)).mpr ((mod_pt b j).trans hj)) (x5 := iblk m c 5 (pt b j)) (blocks m c b j) hin g n h p
  rw [outsAt0_C m c (pt b j) h0 ((mod_pt b j).trans hj)]
  dsimp only
  exact e

end Cert.KernelIdeal.Scan

end
-- ==== Proof.ScanIdeal.Arrays.lean ====
module

public import proofs.«01_k».proof.Proof.ScanIdeal.State

/-!
# The result arrays, entry by entry

Row `512 (32 b + j) + 128 k + l` lies in the block of point `32 b + j`; batch entry `b`'s final state in that of its last point.
-/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.Sem
open Cert.KernelIdeal Cert.KernelIdeal.Gen Cert.KernelIdeal.Value

variable (m : (ℓ : Loc nD τ sig) → Buf (Elt Ideal) ℓ) (c : Dev nD)

/-- The output array. -/
theorem y_array (b : Fin 2) (ch l : Fin 128) (g : Fin 8) (h : Fin 4) (p : Fin 64) :
    G6 m c (ix2 (Ssd.row b ch l) (Ssd.ycol g h p)) = Ssd.yv (X m c) (D m c) (A m c) (S m c) b ch l g h p := by
  obtain ⟨j, k, rfl⟩ : ∃ (j : Fin 32) (k : Fin 4), ch = chunk j k :=
    ⟨⟨ch.val / 4, by omega⟩, ⟨ch.val % 4, by omega⟩, Fin.ext (by show ch.val = 4 * (ch.val / 4) + ch.val % 4; omega)⟩
  have hN : cfg0.N = 64 := N_0
  have e : pt6Of (ix2 (Ssd.row b (chunk j k) l) (Ssd.ycol g h p)) = (pt b j).val := by
    show 1 * ((b.val * 16384 + ((4 * j.val + k.val) * 128 + l.val)) / 512 - 0) + 1 * ((g.val * 256 + h.val * 64 + p.val) / 2048 - 0) = 32 * b.val + j.val
    omega
  have el : loc6Of (ix2 (Ssd.row b (chunk j k) l) (Ssd.ycol g h p)) = ix2 (lrow k l) (Ssd.ycol g h p) := by
    funext a
    match a with
    | ⟨0, _⟩ => exact Fin.ext (by show (b.val * 16384 + ((4 * j.val + k.val) * 128 + l.val)) % 512 = 128 * k.val + l.val; omega)
    | ⟨1, _⟩ => exact Fin.ext (by show (g.val * 256 + h.val * 64 + p.val) % 2048 = g.val * 256 + h.val * 64 + p.val; omega)
  unfold G6
  rw [dif_pos (by rw [e]; exact (pt b j).isLt), el, fold0_congr m c _ _ _ (by rw [Nat.zero_add]; exact (pt b j).isLt) e, ← outsAt0_sweep]
  exact outputs m c b j k l g h p

/-- The array of final states. -/
theorem s_array (b : Fin 2) (g : Fin 8) (n : Fin 128) (h : Fin 4) (p : Fin 64) :
    G7 m c (ix4 b g n (Ssd.glane h p)) = Ssd.state (X m c) (D m c) (A m c) (S m c) b g h p n 128 := by
  have hN : cfg0.N = 64 := N_0
  have e : pt7Of (ix4 b g n (Ssd.glane h p)) = (pt b 31).val := by
    show 32 * (1 * (b.val / 1 - 0) + 1 * (g.val / 8 - 0) + 1 * (n.val / 128 - 0) + 1 * ((h.val * 64 + p.val) / 256 - 0)) + 31 = 32 * b.val + 31
    omega
  have el : loc7Of (ix4 b g n (Ssd.glane h p)) = ix4 0 g n (Ssd.glane h p) := by
    funext a
    match a with
    | ⟨0, _⟩ => exact Fin.ext (by show b.val % 1 = 0; omega)
    | ⟨1, _⟩ => exact Fin.ext (by show g.val % 8 = g.val; omega)
    | ⟨2, _⟩ => exact Fin.ext (by show n.val % 128 = n.val; omega)
    | ⟨3, _⟩ => exact Fin.ext (by show (h.val * 64 + p.val) % 256 = h.val * 64 + p.val; omega)
  unfold G7
  rw [dif_pos (by rw [e]; exact (pt b 31).isLt), el, fold0_congr m c _ _ _ (by rw [Nat.zero_add]; exact (pt b 31).isLt) e, ← outsAt0_sweep]
  exact handed m c b 31 rfl 128 rfl g n h p

/-- Every row and column is one of these. -/
theorem y_ix (i : S32768x2048.Idx) : ∃ b ch l g h p, i = ix2 (Ssd.row b ch l) (Ssd.ycol g h p) := by
  obtain ⟨r, q, rfl⟩ : ∃ (r : Fin 32768) (q : Fin 2048), i = ix2 r q := ⟨i 0, i 1, eq_ix2 i⟩
  refine ⟨⟨r.val / 16384, by omega⟩, ⟨r.val % 16384 / 128, by omega⟩, ⟨r.val % 128, by omega⟩, ⟨q.val / 256, by omega⟩, ⟨q.val % 256 / 64, by omega⟩,
    ⟨q.val % 64, by omega⟩, congrArg₂ ix2 (Fin.ext ?_) (Fin.ext ?_)⟩
  · show r.val = r.val / 16384 * 16384 + (r.val % 16384 / 128 * 128 + r.val % 128)
    omega
  · show q.val = q.val / 256 * 256 + q.val % 256 / 64 * 64 + q.val % 64
    omega

theorem s_ix (i : S2x8x128x256.Idx) : ∃ b g n h p, i = ix4 b g n (Ssd.glane h p) := by
  obtain ⟨b, g, n, q, rfl⟩ : ∃ (b : Fin 2) (g : Fin 8) (n : Fin 128) (q : Fin 256), i = ix4 b g n q := ⟨i 0, i 1, i 2, i 3, eq_ix4 i⟩
  refine ⟨b, g, n, ⟨q.val / 64, by omega⟩, ⟨q.val % 64, by omega⟩, congrArg (ix4 b g n) (Fin.ext ?_)⟩
  show q.val = q.val / 64 * 64 + q.val % 64
  omega

end Cert.KernelIdeal.Scan

end
-- ==== Proof.Ref.Pre.lean ====
module

public import proofs.«01_k».proof.Proof.Gen.ReferenceIdeal.Step
public import proofs.«01_k».proof.Proof.Ssd

/-!
# What the reference computes before its loop, read at an index

Every array the reference hands its loop is one of the functions of `Ssd.lean`: the chunk's decay, what the chunk adds
to the state, the output projection, the part of the output the chunk's own positions make, and the decay since the
chunk's start.
-/

@[expose] public section

set_option maxRecDepth 16384

noncomputable section

open Idealize.ShloMosaic Cert.ReferenceIdeal Cert.ReferenceIdeal.Gen
open Cert.ReferenceIdeal.Step

namespace Cert.Ref

/-- Adding the terms of a list one after another is adding their sum. -/
theorem foldl_add_eq_sum (N : ℕ) (f : Fin N → EReal) (v : EReal) :
    (List.finRange N).foldl (fun r n => r + f n) v = v + ∑ n : Fin N, f n := by
  have h : ∀ (L : List (Fin N)) (v : EReal), L.foldl (fun r n => r + f n) v = v + (L.map f).sum := by
    intro L
    induction L with
    | nil => intro v; simp
    | cons a L ih => intro v; simp [ih, add_assoc]
  rw [h, ← List.ofFn_eq_map, List.sum_ofFn]

/-- Summing a window of 128 ending at `l`, padded with zeros below, is summing up to `l`. -/
theorem sum_window (y : Fin 128 → EReal) (l : Fin 128) :
    (∑ n : Fin 128, if h : 127 ≤ l.val + n.val ∧ l.val + n.val - 127 < 128 then y ⟨l.val + n.val - 127, h.2⟩ else 0)
      = ∑ s : Fin 128, if s.val ≤ l.val then y s else 0 := by
  rw [← Finset.sum_filter]
  symm
  refine Finset.sum_of_injOn (fun s : Fin 128 => (⟨(s.val + (127 - l.val)) % 128, Nat.mod_lt _ (by omega)⟩ : Fin 128)) ?_ ?_ ?_ ?_
  · intro s hs t ht hst
    simp at hs ht hst
    ext; omega
  · intro s hs; simp
  · intro n _ hn
    rw [dif_neg]
    rintro ⟨h1, h2⟩
    have hm : (⟨l.val + n.val - 127, h2⟩ : Fin 128).val ≤ l.val := by show l.val + n.val - 127 ≤ l.val; omega
    refine hn ⟨⟨l.val + n.val - 127, h2⟩, Finset.mem_coe.2 (Finset.mem_filter.2 ⟨Finset.mem_univ _, hm⟩), ?_⟩
    ext; dsimp only; omega
  · intro s hs
    simp at hs
    have h1 : (s.val + (127 - l.val)) % 128 = s.val + (127 - l.val) := by omega
    rw [dif_pos (by constructor <;> (simp only [h1]; omega))]
    congr 1
    ext; simp only [h1]; omega

/-- The reference's running sum along the positions of a chunk, read at an index. -/
theorem window_at (x : FVec Ideal S2x128x128x8x4 .f32) (z : FVec Ideal S_ .f32) (hz : z (Shape.Idx.first h_S_) = (0 : EReal))
    (b : Fin 2) (c l : Fin 128) (g : Fin 8) (h : Fin 4) :
    Host.reduceWindowAdd (F := Ideal) ![1, 1, 128, 1, 1] ![1, 1, 1, 1, 1] ![0, 0, 127, 0, 0] ![0, 0, 0, 0, 0] x z
      reduceWindows_S2x128x128x8x4_S2x128x128x8x4_w1s1p0_0_w1s1p0_0_w128s1p127_0_w1s1p0_0_w1s1p0_0 h_S_ (ix5 b c l g h)
    = ∑ s : Fin 128, if s.val ≤ l.val then (x (ix5 b c s g h) : EReal) else 0 := by
  unfold Host.reduceWindowAdd
  show Ideal.hostReduceWindowAdd _ _ _ _ _ x (z (Shape.Idx.first h_S_)) (ix5 b c l g h) = _
  unfold Ideal.hostReduceWindowAdd Host.reduceWindow
  dsimp only
  rw [foldl_add_eq_sum, hz, zero_add]
  rw [← sum_window (fun s => (x (ix5 b c s g h) : EReal)) l]
  rw [← Equiv.sum_comp (⟨5, ![1, 1, 128, 1, 1]⟩ : Shape).rowMajor]
  simp only [Equiv.symm_apply_apply]
  refine (Idealize.ShloMosaic.sum_idx5 _).trans ?_
  simp only [Fin.sum_univ_one, Finset.univ_unique, Finset.sum_singleton]
  refine Finset.sum_congr rfl fun n _ => ?_
  by_cases hn : 127 ≤ l.val + n.val ∧ l.val + n.val - 127 < 128
  · rw [dif_pos hn, dif_pos]
    · congr 1
      funext a
      fin_cases a <;> simp [ix5] <;> rfl
    · intro a
      fin_cases a <;> simp [ix5] <;> omega
  · rw [dif_neg hn, dif_neg]
    intro hall
    exact hn (by simpa [ix5] using hall 2)
variable (a0 : Ssd.TX) (a1 : Ssd.TD) (a2 : Ssd.TA) (a3 : Ssd.TS)

/-- The state entering the loop. -/
theorem v14_at (b : Fin 2) (g : Fin 8) (h : Fin 4) (p : Fin 64) (n : Fin 128) :
    A_main_v14 (F := Ideal) a0 a1 a2 a3 (ix5 b g h p n) = Ssd.state a0 a1 a2 a3 b g h p n 0 := by
  pointwise [A_main_v14, A_main_v13]
  rfl

/-- The logarithm of one position's decay. -/
theorem v26_at (b : Fin 2) (c l : Fin 128) (g : Fin 8) (h : Fin 4) :
    A_main_v26 (F := Ideal) a0 a1 a2 a3 (ix5 b c l g h) = Ssd.da a1 a2 b c l g h := by
  pointwise [A_main_v26, A_main_v25, A_main_v24, A_main_v23, A_main_v18, A_main_v17, A_main_v12, A_main_v11, A_main_v10, A_main_v16, A_main_v15, A_main_v9, A_main_v8]
  rfl

/-- The value times the step size. -/
theorem v22_at (b : Fin 2) (c l : Fin 128) (g : Fin 8) (h : Fin 4) (p : Fin 64):
    A_main_v22 (F := Ideal) a0 a1 a2 a3 (ix6 b c l g h p) = Ssd.xv a0 b c l g h p * Ssd.dt a1 b c l g h := by
  pointwise [A_main_v22, A_main_v21, A_main_v20, A_main_v19, A_main_v5, A_main_v2, A_main_v1, A_main_v0, A_main_v16, A_main_v15, A_main_v9, A_main_v8]
  rfl

/-- The input projection. -/
theorem v27_at (b : Fin 2) (c l : Fin 128) (g : Fin 8) (n : Fin 128) :
    A_main_v27 (F := Ideal) a0 a1 a2 a3 (ix5 b c l g n) = Ssd.bv a0 b c l g n := by
  pointwise [A_main_v27, A_main_v6, A_main_v3, A_main_v1, A_main_v0]
  rfl

/-- The output projection. -/
theorem v28_at (b : Fin 2) (c l : Fin 128) (g : Fin 8) (n : Fin 128) :
    A_main_v28 (F := Ideal) a0 a1 a2 a3 (ix5 b c l g n) = Ssd.cv a0 b c l g n := by
  pointwise [A_main_v28, A_main_v7, A_main_v4, A_main_v1, A_main_v0]
  rfl

/-- The running sum of the logarithms. -/
theorem v29_at (b : Fin 2) (c l : Fin 128) (g : Fin 8) (h : Fin 4) :
    A_main_v29 (F := Ideal) a0 a1 a2 a3 (ix5 b c l g h) = Ssd.acum a1 a2 b c l g h := by
  unfold A_main_v29
  have hz : (K_main_call0_call0_v0 (F := Ideal)) (Shape.Idx.first h_S_) = (0 : EReal) := by
    pointwise [K_main_call0_call0_v0, K_main_call0_call0_cst]
  refine (window_at _ _ hz b c l g h).trans ?_
  simp only [v26_at]
  rfl

/-- The lower triangle of a chunk's position pairs. -/
theorem mask_at (b : Fin 2) (c l s : Fin 128) (g : Fin 8) (h : Fin 4) :
    K_main_call2_v1 (F := Ideal) (ix6 b c l s g h) = if s.val ≤ l.val then 1#1 else 0#1 := by
  pointwise [K_main_call2_v1, K_main_v32, K_main_v31, K_main_call1_v5, K_main_call1_c_0, K_main_call1_v4, K_main_call1_v3, K_main_call1_v2, K_main_call1_v1, K_main_call1_c, K_main_call1_v0, K_main_v30, K_main_c]
  have h0 : IntOp.addi (BitVec.ofNat 32 l.val) 0#32 = BitVec.ofNat 32 l.val := by simp [IntOp.addi]
  rw [h0, Ssd.cmp_sge]
  by_cases hs : s.val ≤ l.val <;> simp [hs, Scalar.select]

/-- The pattern of minus infinity stands for minus infinity. -/
theorem ofBits_negInf : Ideal.ofBits .f32 0xFF800000#32 = ⊥ := by
  simp [Ideal.ofBits, Ideal.ieee]

/-- The decay between two positions. -/
theorem v39_at (b : Fin 2) (c l s : Fin 128) (g : Fin 8) (h : Fin 4) :
    A_main_v39 (F := Ideal) a0 a1 a2 a3 (ix6 b c l s g h) = Ssd.decay a1 a2 b c l s g h := by
  pointwise [A_main_v39, A_main_v38, A_main_v37, A_main_v36, A_main_v35, A_main_v34, A_main_v33, K_main_call2_v2, K_main_call2_v0, K_main_cst, mask_at, v29_at]
  unfold Ssd.decay
  by_cases hs : s.val ≤ l.val
  · simp [hs, Scalar.select]
  · simp [hs, Scalar.select]
    exact (congrArg Ideal.exp ofBits_negInf).trans (by simp)

/-- The weight of position `s` in the output at `l`. -/
theorem v44_at (b : Fin 2) (c l s : Fin 128) (g : Fin 8) (h : Fin 4) :
    A_main_v44 (F := Ideal) a0 a1 a2 a3 (ix6 b c l s g h) = Ssd.cb a0 b c l s g * Ssd.decay a1 a2 b c l s g h := by
  pointwise [A_main_v44, A_main_v43, A_main_v42, A_main_v41, A_main_v40, v39_at, v27_at, v28_at]
  unfold Ssd.cb
  refine congrArg (· * _) (Finset.sum_congr rfl fun n _ => mul_comm _ _)

/-- What the chunk's own positions add to the output. -/
theorem v46_at (b : Fin 2) (c l : Fin 128) (g : Fin 8) (h : Fin 4) (p : Fin 64) :
    A_main_v46 (F := Ideal) a0 a1 a2 a3 (ix6 b c l g h p) = Ssd.ydiag a0 a1 a2 b c l g h p := by
  pointwise [A_main_v46, A_main_v45, v44_at, v22_at]
  rfl

/-- What the chunk adds to the state. -/
theorem v54_at (b : Fin 2) (c : Fin 128) (g : Fin 8) (h : Fin 4) (p : Fin 64) (n : Fin 128) :
    A_main_v54 (F := Ideal) a0 a1 a2 a3 (ix6 b c g h p n) = Ssd.cstate a0 a1 a2 b c g h p n := by
  pointwise [A_main_v54, A_main_v53, A_main_v52, A_main_v51, A_main_v50, A_main_v49, A_main_v48, A_main_v47, v22_at, v27_at, v29_at]
  rfl

/-- The decay over a whole chunk. -/
theorem v59_at (b : Fin 2) (c : Fin 128) (g : Fin 8) (h : Fin 4) :
    A_main_v59 (F := Ideal) a0 a1 a2 a3 (ix4 c b g h) = Ideal.exp (Ssd.acum a1 a2 b c 127 g h) := by
  pointwise [A_main_v59, A_main_v57, A_main_v56, A_main_v55, v29_at]

/-- The decay since the chunk's start. -/
theorem v63_at (b : Fin 2) (c l : Fin 128) (g : Fin 8) (h : Fin 4) :
    A_main_v63 (F := Ideal) a0 a1 a2 a3 (ix5 c b l g h) = Ideal.exp (Ssd.acum a1 a2 b c l g h) := by
  pointwise [A_main_v63, A_main_v58, v29_at]

/-- What the chunk adds to the state, chunk first. -/
theorem v60_at (b : Fin 2) (c : Fin 128) (g : Fin 8) (h : Fin 4) (p : Fin 64) (n : Fin 128) :
    A_main_v60 (F := Ideal) a0 a1 a2 a3 (ix6 c b g h p n) = Ssd.cstate a0 a1 a2 b c g h p n := by
  pointwise [A_main_v60, v54_at]

/-- The output projection, chunk first. -/
theorem v61_at (b : Fin 2) (c l : Fin 128) (g : Fin 8) (n : Fin 128) :
    A_main_v61 (F := Ideal) a0 a1 a2 a3 (ix5 c b l g n) = Ssd.cv a0 b c l g n := by
  pointwise [A_main_v61, v28_at]

/-- What the chunk's own positions add to the output, chunk first. -/
theorem v62_at (b : Fin 2) (c l : Fin 128) (g : Fin 8) (h : Fin 4) (p : Fin 64) :
    A_main_v62 (F := Ideal) a0 a1 a2 a3 (ix6 c b l g h p) = Ssd.ydiag a0 a1 a2 b c l g h p := by
  pointwise [A_main_v62, v46_at]

end Cert.Ref
-- ==== Proof.Ref.Step.lean ====
module

public import proofs.«01_k».proof.Proof.Gen.ReferenceIdeal.Step
public import proofs.«01_k».proof.Proof.Ssd
public import proofs.«01_k».proof.Proof.Ref.Pre
public import Idealize.ShloMosaic.Lib.DynamicIndex
public import Idealize.ShloMosaic.Lib.Pipeline.Value

/-!
# The reference's loop, one chunk per trip

One trip updates the state and stores the chunk's outputs; after 128 trips the two results are the final state and all
outputs of `Ssd.lean`.
-/

@[expose] public section

set_option maxRecDepth 16384

noncomputable section

open Idealize.ShloMosaic Cert.ReferenceIdeal Cert.ReferenceIdeal.Gen
open Cert.ReferenceIdeal.Step

namespace Cert.Ref

/-- The chunk decay a trip reads is its own chunk's. -/
theorem b3_eq (j : ℕ) (hj : j < 128) (s : State Ideal) (h : S128x2x8x4.Slices ![j, 0, 0, 0] S1x2x8x4) :
    b3 (F := Ideal) j s = extractStridedSlice S1x2x8x4 ![j, 0, 0, 0] s.main_v65_0 h := by
  refine Host.dynamicSlice_eq_extractStridedSlice _ _ _ _ _ h fun a => ?_
  fin_cases a
  · exact toInt_ofNat_of_lt (by omega)
  all_goals rfl

/-- So is what the chunk adds to the state, -/
theorem b10_eq (j : ℕ) (hj : j < 128) (s : State Ideal) (h : S128x2x8x4x64x128.Slices ![j, 0, 0, 0, 0, 0] S1x2x8x4x64x128) :
    b10 (F := Ideal) j s = extractStridedSlice S1x2x8x4x64x128 ![j, 0, 0, 0, 0, 0] s.main_v65_1 h := by
  refine Host.dynamicSlice_eq_extractStridedSlice _ _ _ _ _ h fun a => ?_
  fin_cases a
  · exact toInt_ofNat_of_lt (by omega)
  all_goals rfl

/-- the output projection, -/
theorem b16_eq (j : ℕ) (hj : j < 128) (s : State Ideal) (h : S128x2x128x8x128.Slices ![j, 0, 0, 0, 0] S1x2x128x8x128) :
    b16 (F := Ideal) j s = extractStridedSlice S1x2x128x8x128 ![j, 0, 0, 0, 0] s.main_v65_2 h := by
  refine Host.dynamicSlice_eq_extractStridedSlice _ _ _ _ _ h fun a => ?_
  fin_cases a
  · exact toInt_ofNat_of_lt (by omega)
  all_goals rfl

/-- the part of the output of the chunk's own positions -/
theorem b23_eq (j : ℕ) (hj : j < 128) (s : State Ideal) (h : S128x2x128x8x4x64.Slices ![j, 0, 0, 0, 0, 0] S1x2x128x8x4x64) :
    b23 (F := Ideal) j s = extractStridedSlice S1x2x128x8x4x64 ![j, 0, 0, 0, 0, 0] s.main_v65_3 h := by
  refine Host.dynamicSlice_eq_extractStridedSlice _ _ _ _ _ h fun a => ?_
  fin_cases a
  · exact toInt_ofNat_of_lt (by omega)
  all_goals rfl

/-- and the decay since the chunk's start. -/
theorem b29_eq (j : ℕ) (hj : j < 128) (s : State Ideal) (h : S128x2x128x8x4.Slices ![j, 0, 0, 0, 0] S1x2x128x8x4) :
    b29 (F := Ideal) j s = extractStridedSlice S1x2x128x8x4 ![j, 0, 0, 0, 0] s.main_v65_4 h := by
  refine Host.dynamicSlice_eq_extractStridedSlice _ _ _ _ _ h fun a => ?_
  fin_cases a
  · exact toInt_ofNat_of_lt (by omega)
  all_goals rfl

/-- A trip stores its outputs in its own chunk. -/
theorem b47_eq (j : ℕ) (hj : j < 128) (s : State Ideal) (h : S128x2x128x8x4x64.Slices ![j, 0, 0, 0, 0, 0] S1x2x128x8x4x64) :
    b47 (F := Ideal) j s = updateSlice s.main_v65_7 (b41 j s) ![j, 0, 0, 0, 0, 0] h := by
  refine Host.dynamicUpdateSlice_eq_updateSlice _ _ _ _ _ (fun a => ?_) h
  fin_cases a
  · show (min (max ((BitVec.ofNat 32 j).toInt) 0) ((128 - 1 : ℕ) : Int)).toNat = j
    rw [toInt_ofNat_of_lt (by omega)]; omega
  all_goals rfl

/-- The state after a trip. -/
theorem b39_at (j : ℕ) (hj : j < 128) (s : State Ideal) (b : Fin 2) (g : Fin 8) (h : Fin 4) (p : Fin 64) (n : Fin 128) :
    b39 (F := Ideal) j s (ix5 b g h p n)
      = s.main_v65_0 (ix4 ⟨j, hj⟩ b g h) * s.main_v65_6 (ix5 b g h p n) + s.main_v65_1 (ix6 ⟨j, hj⟩ b g h p n) := by
  have h1 : S128x2x8x4.Slices ![j, 0, 0, 0] S1x2x8x4 := ⟨rfl, fun a => by fin_cases a <;> simp <;> omega⟩
  have h2 : S128x2x8x4x64x128.Slices ![j, 0, 0, 0, 0, 0] S1x2x8x4x64x128 := ⟨rfl, fun a => by fin_cases a <;> simp <;> omega⟩
  unfold b39 b38 b37 b36 b11 b4
  rw [b3_eq j hj s h1, b10_eq j hj s h2]
  pointwise

/-- The outputs after a trip. -/
theorem b47_at (j : ℕ) (hj : j < 128) (s : State Ideal) (c : Fin 128) (b : Fin 2) (l : Fin 128) (g : Fin 8) (h : Fin 4) (p : Fin 64) :
    b47 (F := Ideal) j s (ix6 c b l g h p)
      = if c.val = j then s.main_v65_3 (ix6 c b l g h p) + (∑ n : Fin 128, s.main_v65_6 (ix5 b g h p n) * s.main_v65_2 (ix5 c b l g n)) * s.main_v65_4 (ix5 c b l g h)
        else s.main_v65_7 (ix6 c b l g h p) := by
  have h1 : S128x2x128x8x4x64.Slices ![j, 0, 0, 0, 0, 0] S1x2x128x8x4x64 := ⟨rfl, fun a => by fin_cases a <;> simp <;> omega⟩
  have h2 : S128x2x128x8x4.Slices ![j, 0, 0, 0, 0] S1x2x128x8x4 := ⟨rfl, fun a => by fin_cases a <;> simp <;> omega⟩
  have h3 : S128x2x128x8x128.Slices ![j, 0, 0, 0, 0] S1x2x128x8x128 := ⟨rfl, fun a => by fin_cases a <;> simp <;> omega⟩
  rw [b47_eq j hj s h1]
  unfold b41 b40 b35 b34 b33 b32 b31 b30 b24 b17
  rw [b16_eq j hj s h3, b23_eq j hj s h1, b29_eq j hj s h2]
  pointwise
  by_cases hc : c.val = j
  · subst hc
    rw [if_pos rfl, dif_pos (by omega)]
  · rw [if_neg hc, dif_neg (by omega)]

/-- The first result is the outputs, position by position. -/
theorem R69_at (s : State Ideal) (b : Fin 2) (c l : Fin 128) (g : Fin 8) (h : Fin 4) (p : Fin 64) :
    R_main_v69 (F := Ideal) s (ix2 (Ssd.row b c l) (Ssd.ycol g h p)) = s.main_v65_7 (ix6 c b l g h p) := by
  pointwise [R_main_v69]
  have e1 : (⟨(Ssd.row b c l).val / 128 % 128, by omega⟩ : Fin 128) = c := by ext; simp only [Ssd.row]; omega
  have e2 : (⟨(Ssd.row b c l).val / 16384, by omega⟩ : Fin 2) = b := by ext; simp only [Ssd.row]; omega
  have e3 : (⟨(Ssd.row b c l).val % 128, by omega⟩ : Fin 128) = l := by ext; simp only [Ssd.row]; omega
  have e4 : (⟨(Ssd.ycol g h p).val / 256, by omega⟩ : Fin 8) = g := by ext; simp only [Ssd.ycol]; omega
  have e5 : (⟨(Ssd.ycol g h p).val / 64 % 4, by omega⟩ : Fin 4) = h := by ext; simp only [Ssd.ycol]; omega
  have e6 : (⟨(Ssd.ycol g h p).val % 64, by omega⟩ : Fin 64) = p := by ext; simp only [Ssd.ycol]; omega
  rw [e1, e2, e3, e4, e5, e6]

/-- The second result is the final state. -/
theorem R71_at (s : State Ideal) (b : Fin 2) (g : Fin 8) (h : Fin 4) (p : Fin 64) (n : Fin 128) :
    R_main_v71 (F := Ideal) s (ix4 b g n (Ssd.glane h p)) = s.main_v65_6 (ix5 b g h p n) := by
  pointwise [R_main_v71]
  have e1 : (⟨(Ssd.glane h p).val / 64, by omega⟩ : Fin 4) = h := by ext; simp only [Ssd.glane]; omega
  have e2 : (⟨(Ssd.glane h p).val % 64, by omega⟩ : Fin 64) = p := by ext; simp only [Ssd.glane]; omega
  rw [e1, e2]

/-- The loop's constants, the state and the outputs of the chunks done, after `k` trips. -/
theorem iter (a0 : Ssd.TX) (a1 : Ssd.TD) (a2 : Ssd.TA) (a3 : Ssd.TS) (it : ℕ → State Ideal)
    (h0 : it 0 = init a0 a1 a2 a3) (hs : ∀ n, it (n + 1) = step n (it n)) (k : ℕ) (hk : k ≤ 128) :
    ((it k).main_v65_0 = A_main_v59 a0 a1 a2 a3 ∧ (it k).main_v65_1 = A_main_v60 a0 a1 a2 a3
      ∧ (it k).main_v65_2 = A_main_v61 a0 a1 a2 a3 ∧ (it k).main_v65_3 = A_main_v62 a0 a1 a2 a3
      ∧ (it k).main_v65_4 = A_main_v63 a0 a1 a2 a3)
    ∧ (∀ b g h p n, (it k).main_v65_6 (ix5 b g h p n) = Ssd.state a0 a1 a2 a3 b g h p n k)
    ∧ ∀ (c : Fin 128) b l g h p, c.val < k → (it k).main_v65_7 (ix6 c b l g h p) = Ssd.yv a0 a1 a2 a3 b c l g h p := by
  induction k with
  | zero =>
    rw [h0]
    exact ⟨⟨rfl, rfl, rfl, rfl, rfl⟩, fun b g h p n => v14_at a0 a1 a2 a3 b g h p n, fun c _ _ _ _ _ hc => absurd hc (by omega)⟩
  | succ k ih =>
    obtain ⟨⟨e0, e1, e2, e3, e4⟩, hst, hy⟩ := ih (by omega)
    have hk' : k < 128 := by omega
    rw [hs k]
    refine ⟨⟨e0, e1, e2, e3, e4⟩, fun b g h p n => ?_, fun c b l g h p hc => ?_⟩
    · refine (b39_at k hk' (it k) b g h p n).trans ?_
      rw [e0, e1, hst, v59_at, v60_at]
      simp only [Ssd.state, dif_pos hk']
    · refine (b47_at k hk' (it k) c b l g h p).trans ?_
      by_cases hck : c.val = k
      · rw [if_pos hck, e2, e3, e4, v62_at, v63_at]
        simp only [hst, v61_at]
        unfold Ssd.yv
        rw [hck]
      · rw [if_neg hck]
        exact hy c b l g h p (by omega)

/-- The outputs the reference returns. -/
theorem y_at (a0 : Ssd.TX) (a1 : Ssd.TD) (a2 : Ssd.TA) (a3 : Ssd.TS) (it : ℕ → State Ideal)
    (h0 : it 0 = init a0 a1 a2 a3) (hs : ∀ n, it (n + 1) = step n (it n))
    (b : Fin 2) (c l : Fin 128) (g : Fin 8) (h : Fin 4) (p : Fin 64) :
    R_main_v69 (F := Ideal) (it 128) (ix2 (Ssd.row b c l) (Ssd.ycol g h p)) = Ssd.yv a0 a1 a2 a3 b c l g h p :=
  (R69_at _ b c l g h p).trans ((iter a0 a1 a2 a3 it h0 hs 128 le_rfl).2.2 c b l g h p c.isLt)

/-- The final state the reference returns. -/
theorem sf_at (a0 : Ssd.TX) (a1 : Ssd.TD) (a2 : Ssd.TA) (a3 : Ssd.TS) (it : ℕ → State Ideal)
    (h0 : it 0 = init a0 a1 a2 a3) (hs : ∀ n, it (n + 1) = step n (it n))
    (b : Fin 2) (g : Fin 8) (h : Fin 4) (p : Fin 64) (n : Fin 128) :
    R_main_v71 (F := Ideal) (it 128) (ix4 b g n (Ssd.glane h p)) = Ssd.state a0 a1 a2 a3 b g h p n 128 :=
  (R71_at _ b g h p n).trans ((iter a0 a1 a2 a3 it h0 hs 128 le_rfl).2.1 b g h p n)

end Cert.Ref
-- ==== Proof.Ref.Run.lean ====
/- The reference's run over its loop's step. A valuation HOLDS a state when the carried buffers, the loop's set-up values and the
   counter are that state's and the trip's number. What the operations before the loop leave holds the initial state; one
   trip of the loop takes holding to holding with `step` applied. So the run's results are the fields of `step` iterated
   128 times from `init`. -/
module

public import proofs.«01_k».proof.Proof.Gen.ReferenceIdeal.Run
public import proofs.«01_k».proof.Proof.Gen.ReferenceIdeal.Step

@[expose] public section

noncomputable section

namespace Cert.Ref.Run

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v65_6) = s.main_v65_6
  f_7 : V0 (Proc.devRef .tc main_v65_7) = s.main_v65_7
  f_0 : V0 (Proc.devRef .tc main_v65_0) = s.main_v65_0
  f_1 : V0 (Proc.devRef .tc main_v65_1) = s.main_v65_1
  f_2 : V0 (Proc.devRef .tc main_v65_2) = s.main_v65_2
  f_3 : V0 (Proc.devRef .tc main_v65_3) = s.main_v65_3
  f_4 : V0 (Proc.devRef .tc main_v65_4) = s.main_v65_4
  n_5 : V0 (Proc.devRef .tc main_v65_5) = constantI S_ 32 (BitVec.ofNat 32 j)

variable {V0 s j}

/-! One trip's step of the carried values is `step`, field by field; the counter steps to the next number. -/

theorem step_6 (h : Holds V0 s j) : step_main_v65_6 V0 = (step j s).main_v65_6 := by
  unfold step_main_v65_6
  rw [h.f_0, h.f_1, h.f_6, h.n_5]
  rfl

theorem step_7 (h : Holds V0 s j) : step_main_v65_7 V0 = (step j s).main_v65_7 := by
  unfold step_main_v65_7
  rw [h.f_7, h.f_6, h.f_2, h.f_3, h.f_4, h.n_5]
  rfl

theorem step_5 (h : Holds V0 s j) : step_main_v65_5 V0 = constantI S_ 32 (BitVec.ofNat 32 (j + 1)) := by
  unfold step_main_v65_5
  rw [h.n_5]
  funext i
  show BitVec.ofNat 32 j + 1#32 = BitVec.ofNat 32 (j + 1)
  simp only [BitVec.ofNat_add]

set_option maxRecDepth 8192 in
theorem out_main_v69_holds (h : Holds V0 s j) : out_main_v69 V0 = Cert.ReferenceIdeal.Step.R_main_v69 s := by
  unfold out_main_v69 Cert.ReferenceIdeal.Step.R_main_v69
  rw [h.f_7]
  try rfl

set_option maxRecDepth 8192 in
theorem out_main_v71_holds (h : Holds V0 s j) : out_main_v71 V0 = Cert.ReferenceIdeal.Step.R_main_v71 s := by
  unfold out_main_v71 Cert.ReferenceIdeal.Step.R_main_v71
  rw [h.f_6]
  try rfl

/-- One trip keeps the valuation holding: `step` of the state, the same set-up values, the next number. -/
theorem holds_step (h : Holds V0 s j) : Holds (STEP V0) (step j s) (j + 1) where
  f_6 := (STEP_main_v65_6 V0).trans (step_6 h)
  f_7 := (STEP_main_v65_7 V0).trans (step_7 h)
  n_5 := (STEP_main_v65_5 V0).trans (step_5 h)
  f_0 := (STEP_main_v65_0 V0).trans h.f_0
  f_1 := (STEP_main_v65_1 V0).trans h.f_1
  f_2 := (STEP_main_v65_2 V0).trans h.f_2
  f_3 := (STEP_main_v65_3 V0).trans h.f_3
  f_4 := (STEP_main_v65_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v69) = Cert.ReferenceIdeal.Step.R_main_v69 (it c 128)
      ∧ r.2.mem ((c.tc : Thread nD τ).loc main_v71) = Cert.ReferenceIdeal.Step.R_main_v71 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 128
    ⟨(h c).1.trans (out_main_v69_holds hk), (h c).2.1.trans (out_main_v71_holds hk), (h c).2.2.1, (h c).2.2.2.1, (h c).2.2.2.2.1, (h c).2.2.2.2.2⟩) (Value.run m ρ)

end Cert.Ref.Run

end
-- ==== Proof.Equation.lean ====
module

public import proofs.«01_k».proof.Proof.ScanIdeal.Arrays
public import proofs.«01_k».proof.Proof.Ref.Step
public import proofs.«01_k».proof.Proof.Ref.Run
public import proofs.«01_k».proof.Defs

/-!
# Kernel and reference end with the same arrays

Both end with the outputs and the final states of the recurrence of `Ssd.lean`, which is written over the four arguments alone.
-/

@[expose] public section

set_option maxRecDepth 16384

noncomputable section

namespace Cert.Equation

open Idealize.ShloMosaic Idealize.ShloMosaic.TcCoe Idealize.SL.Sem
open Cert.ReferenceIdeal.Step

/-- The reference's state after `n` chunks. -/
def iter (a0 : Ssd.TX) (a1 : Ssd.TD) (a2 : Ssd.TA) (a3 : Ssd.TS) : ℕ → State Ideal
  | 0 => init a0 a1 a2 a3
  | n + 1 => step n (iter a0 a1 a2 a3 n)

variable (m : (ℓ : Loc Cert.KernelIdeal.nD Cert.KernelIdeal.τ Cert.KernelIdeal.sig) → Buf (Elt Ideal) ℓ) (c : Dev Cert.KernelIdeal.nD)

open Cert.KernelIdeal.Scan in
/-- The outputs agree. -/
theorem y_eq : R_main_v69 (F := Ideal) (iter (X m c) (D m c) (A m c) (S m c) 128) = Cert.KernelIdeal.Value.G6 m c := by
  funext i
  obtain ⟨b, ch, l, g, h, p, rfl⟩ := y_ix i
  exact (Ref.y_at _ _ _ _ (iter _ _ _ _) rfl (fun _ => rfl) b ch l g h p).trans (y_array m c b ch l g h p).symm

open Cert.KernelIdeal.Scan in
/-- The final states agree. -/
theorem s_eq : R_main_v71 (F := Ideal) (iter (X m c) (D m c) (A m c) (S m c) 128) = Cert.KernelIdeal.Value.G7 m c := by
  funext i
  obtain ⟨b, g, n, h, p, rfl⟩ := s_ix i
  exact (Ref.sf_at _ _ _ _ (iter _ _ _ _) rfl (fun _ => rfl) b g h p n).trans (s_array m c b g n h p).symm

end Cert.Equation

end
-- ==== Proof.Ffn.Ops.lean ====
module

public import proofs.«01_k».proof.Proof.Gen.Kernel2Ideal.Frame

/-!
# The half-step feed-forward of one block of rows, in the kernel's operations

The kernel spells out its eleven chunks of 256 hidden columns one after the other; each is `chunk` below, and the two
stored blocks are `stepped` and `normed`.
-/

@[expose] public section

set_option maxRecDepth 16384

noncomputable section

namespace Cert.Kernel2Ideal.Ffn

open Idealize.ShloMosaic Idealize.ShloMosaic.TcCoe
open Cert.Kernel2Ideal Cert.Kernel2Ideal.Gen

variable {F : FTy → Type} [FloatOps F]

/-- The columns of chunk `c` of the two widening matrices. -/
abbrev wide (c : Fin 11) : Rect S1024x2816 :=
  Rect.unit (s := S1024x2816) ![0, 256 * c.val] S1024x256.size (by intro d; fin_cases d <;> simp <;> omega)

/-- The rows of chunk `c` of the narrowing matrix. -/
abbrev tall (c : Fin 11) : Rect S2816x1024 :=
  Rect.unit (s := S2816x1024) ![256 * c.val, 0] S256x1024.size (by intro d; fin_cases d <;> simp <;> omega)

/-- The rows times one chunk of a widening matrix. -/
def up (h : FVec F S512x1024 .bf16) (W : Vec F S1024x256 .bf16) : FVec F S512x256 .f32 :=
  matmul dot_S512x1024_S1024x256_S512x256_1_0_0_1_n_n none h (shapeCast S1024x256 W shapeCasts_S1024x256_S1024x256)
    (constant S512x256 .f32 0x00000000#32)

/-- The gate of the hidden columns. -/
def act (g u : FVec F S512x256 .f32) : FVec F S512x256 .bf16 :=
  truncf .bf16 (mulf (mulf g (divf (broadcast S512x256 (Scalar.ofBits .f32 0x3F800000#32))
    (addf (broadcast S512x256 (Scalar.ofBits .f32 0x3F800000#32)) (exp (subf (broadcast S512x256 (Scalar.ofBits .f32 0x00000000#32)) g))))) u)
    bitsLt_bf16_f32

/-- What one chunk of hidden columns adds. -/
def chunk (h : FVec F S512x1024 .bf16) (G U : Vec F S1024x256 .bf16) (D : Vec F S256x1024 .bf16) : FVec F S512x1024 .f32 :=
  matmul dot_S512x256_S256x1024_S512x1024_1_0_0_1_n_n none (act (up h G) (up h U)) (shapeCast S256x1024 D shapeCasts_S256x1024_S256x1024)
    (constant S512x1024 .f32 0x00000000#32)

/-- The chunks in the order they are added. -/
def chunks : List (Fin 11) := [0, 1, 2, 3, 4, 5, 6, 7, 8, 9, 10]

/-- All chunks, added one after the other. -/
def acc (h : FVec F S512x1024 .bf16) (G U : Vec F S1024x2816 .bf16) (D : Vec F S2816x1024 .bf16) : FVec F S512x1024 .f32 :=
  chunks.foldl (fun a c => addf a (chunk h (View.ld G (wide c)) (View.ld U (wide c)) (View.ld D (tall c))))
    (broadcast S512x1024 (Scalar.ofBits .f32 0x00000000#32))

/-- The rows, normalised by their root mean square, scaled and shifted. -/
def normed (x : FVec F S512x1024 .f32) (sh sc : FVec F S1x1024 .f32) (g : Vec F S1x1024 .f32) : FVec F S512x1024 .bf16 :=
  truncf .bf16 (addf (mulf (mulf (mulf x (broadcastTo S512x1024 (rsqrt (addf
      (divf (shapeCast S512x1 (multiReduction .add [1] S512 (mulf x x) 0x00000000#32 reduces_S512x1024_S512 (.inl rfl) rfl) shapeCasts_S512_S512x1)
        (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024))
    (broadcastTo S512x1024 (addf (broadcast S1x1024 (Scalar.ofBits .f32 0x3F800000#32)) sc) broadcasts_S1x1024_S512x1024))
    (broadcastTo S512x1024 sh broadcasts_S1x1024_S512x1024)) bitsLt_bf16_f32

/-- The rows plus half the gated sum. -/
def stepped (x : FVec F S512x1024 .f32) (gate : FVec F S1x1024 .f32) (a : FVec F S512x1024 .f32) : FVec F S512x1024 .f32 :=
  addf x (mulf (broadcastTo S512x1024 (mulf (broadcast S1x1024 (Scalar.ofBits .f32 0x3F000000#32)) gate) broadcasts_S1x1024_S512x1024) a)

/-- Row `k` of the modulation. -/
def mrow (M : Vec F S1x9x1024 .f32) (k : Fin 9) : FVec F S1x1024 .f32 :=
  shapeCast S1x1024 (View.ld M (Rect.unit (s := S1x9x1024) ![0, k.val, 0] S1x1x1024.size (by intro d; fin_cases d <;> simp <;> omega)))
    shapeCasts_S1x1x1024_S1x1024

variable (x0 : Vec F S512x1024 .f32) (x1 : Vec F S1x9x1024 .f32) (x2 : Vec F S1x1024 .f32) (x3 x4 : Vec F S1024x2816 .bf16)
  (x5 : Vec F S2816x1024 .bf16) (x6 : Vec F S1x1024 .f32)

/-- The rows after the half step; its shift, scale and gate are the modulation's rows `e 0`, `e 1`, `e 2`. -/
def yB (e : Fin 9 → Fin 9) : FVec F S512x1024 .f32 :=
  stepped (View.ld x0 r0_0) (mrow x1 (e 2)) (acc (normed (View.ld x0 r0_0) (mrow x1 (e 0)) (mrow x1 (e 1)) (View.ld x2 r0_4)) x3 x4 x5)

/-- What the first result's buffer holds after the body. -/
theorem out7 : out0_7 x0 x1 x2 x3 x4 x5 x6 = View.canon [⟨r0_0, yB x0 x1 x2 x3 x4 x5 id⟩] := by
  rfl

/-- What the second result's buffer holds after the body. -/
theorem out8 : out0_8 x0 x1 x2 x3 x4 x5 x6
    = View.canon [⟨r0_0, normed (yB x0 x1 x2 x3 x4 x5 id) (mrow x1 3) (mrow x1 4) (View.ld x6 r0_4)⟩] := by
  rfl

end Cert.Kernel2Ideal.Ffn

end
-- ==== Proof.Ffn.Math.lean ====
module

public import Idealize.ShloMosaic.Lib.Pointwise

/-!
# The half-step feed-forward of one row, written out over the extended reals

A row `v` of 1024 entries is normalised by its root mean square, scaled and shifted; it is widened to 2816 hidden columns
twice, one product gating the other; the gated columns are narrowed back, and half of that, gated once more, is added to
the row.  `M` holds the nine modulation rows of the row's batch entry: shift, scale and gate of this half step, then shift
and scale of what follows.  These are the functions both programs are compared with.
-/

@[expose] public section

noncomputable section

open Idealize.ShloMosaic

namespace Cert.Ffn

/-- One over the root mean square of a row. -/
def inv (v : Fin 1024 → EReal) : EReal :=
  Ideal.rsqrt (Ideal.div (∑ k, v k * v k) (Ideal.ofBits .f32 0x44800000#32) + Ideal.ofBits .f32 0x358637BD#32)

/-- The row normalised, with a gain, then scaled and shifted. -/
def norm (v g sc sh : Fin 1024 → EReal) (k : Fin 1024) : EReal := v k * inv v * g k * (1 + sc k) + sh k

/-- A hidden column: the first product times its own logistic, times the second. -/
def act (p u : EReal) : EReal := p * Ideal.div 1 (1 + Ideal.exp (-p)) * u

variable (v : Fin 1024 → EReal) (M : Fin 9 → Fin 1024 → EReal) (N : Fin 1024 → EReal) (G U : Fin 1024 → Fin 2816 → EReal)
  (D : Fin 2816 → Fin 1024 → EReal) (N2 : Fin 1024 → EReal)

/-- The hidden columns of a normalised row. -/
def hid (h : Fin 1024 → EReal) (j : Fin 2816) : EReal := act (∑ k, h k * G k j) (∑ k, h k * U k j)

/-- The row after the half step. -/
def y (q : Fin 1024) : EReal :=
  v q + Ideal.ofBits .f32 0x3F000000#32 * M 2 q * ∑ j, hid G U (norm v N (M 1) (M 0)) j * D j q

/-- That row, normalised and modulated for what follows. -/
def h (q : Fin 1024) : EReal := norm (y v M N G U D) N2 (M 4) (M 3) q

/-- Column `i` of chunk `c` of the hidden columns. -/
def col (c : Fin 11) (i : Fin 256) : Fin 2816 := ⟨256 * c.val + i.val, by omega⟩

/-- Summing the chunks one after the other is summing over all hidden columns. -/
theorem sum_chunks (f : Fin 2816 → EReal) : ∑ c : Fin 11, ∑ i : Fin 256, f (col c i) = ∑ j, f j := by
  rw [← Fintype.sum_prod_type', ← Equiv.sum_comp (finProdFinEquiv : Fin 11 × Fin 256 ≃ Fin 2816)]
  refine Finset.sum_congr rfl fun x _ => congrArg f (Fin.ext ?_)
  show 256 * x.1.val + x.2.val = x.2.val + 256 * x.1.val
  omega

end Cert.Ffn

end
-- ==== Proof.Ffn.Block.lean ====
module

public import proofs.«01_k».proof.Proof.Ffn.Ops
public import proofs.«01_k».proof.Proof.Ffn.Math

/-!
# The kernel's operations on one block of rows, read at an index
-/

@[expose] public section

set_option maxRecDepth 16384

noncomputable section

namespace Cert.Kernel2Ideal.Ffn

open Idealize.ShloMosaic Idealize.ShloMosaic.TcCoe
open Cert.Kernel2Ideal Cert.Kernel2Ideal.Gen

theorem up_at (h : FVec Ideal S512x1024 .bf16) (W : FVec Ideal S1024x256 .bf16) (r : Fin 512) (i : Fin 256) :
    up h W (ix2 r i) = ∑ k : Fin 1024, h (ix2 r k) * W (ix2 k i) := by
  pointwise [up]

theorem act_at (g u : FVec Ideal S512x256 .f32) (r : Fin 512) (i : Fin 256) :
    act g u (ix2 r i) = Cert.Ffn.act (g (ix2 r i)) (u (ix2 r i)) := by
  pointwise [act]
  rw [zero_sub]
  rfl

theorem chunk_at (h : FVec Ideal S512x1024 .bf16) (G U : FVec Ideal S1024x256 .bf16) (D : FVec Ideal S256x1024 .bf16) (r : Fin 512) (q : Fin 1024) :
    chunk h G U D (ix2 r q) = ∑ i : Fin 256, Cert.Ffn.act (∑ k : Fin 1024, h (ix2 r k) * G (ix2 k i)) (∑ k : Fin 1024, h (ix2 r k) * U (ix2 k i)) * D (ix2 i q) := by
  pointwise [chunk, act_at, up_at]

theorem wide_at (W : Vec Ideal S1024x2816 .bf16) (c : Fin 11) (k : Fin 1024) (i : Fin 256) :
    View.ld W (wide c) (ix2 k i) = W (ix2 k (Cert.Ffn.col c i)) := by
  pointwise
  rfl

theorem tall_at (D : Vec Ideal S2816x1024 .bf16) (c : Fin 11) (i : Fin 256) (q : Fin 1024) :
    View.ld D (tall c) (ix2 i q) = D (ix2 (Cert.Ffn.col c i) q) := by
  pointwise
  rfl

/-- The chunks add up to the sum over all hidden columns. -/
theorem acc_at (h : FVec Ideal S512x1024 .bf16) (G U : FVec Ideal S1024x2816 .bf16) (D : FVec Ideal S2816x1024 .bf16) (r : Fin 512) (q : Fin 1024) :
    acc h G U D (ix2 r q) = ∑ j, Cert.Ffn.hid (fun k j => G (ix2 k j)) (fun k j => U (ix2 k j)) (fun k => h (ix2 r k)) j * D (ix2 j q) := by
  rw [← Cert.Ffn.sum_chunks]
  have e : ∀ c : Fin 11, chunk h (View.ld G (wide c)) (View.ld U (wide c)) (View.ld D (tall c)) (ix2 r q)
      = ∑ i : Fin 256, Cert.Ffn.hid (fun k j => G (ix2 k j)) (fun k j => U (ix2 k j)) (fun k => h (ix2 r k)) (Cert.Ffn.col c i) * D (ix2 (Cert.Ffn.col c i) q) := by
    intro c
    refine (chunk_at _ _ _ _ r q).trans ?_
    exact Finset.sum_congr rfl fun i _ => congrArg₂ (· * ·)
      (congrArg₂ Cert.Ffn.act (Finset.sum_congr rfl fun k _ => congrArg (h (ix2 r k) * ·) (wide_at G c k i))
        (Finset.sum_congr rfl fun k _ => congrArg (h (ix2 r k) * ·) (wide_at U c k i)))
      (tall_at D c i q)
  have f : ∀ (L : List (Fin 11)) (a : FVec Ideal S512x1024 .f32),
      (L.foldl (fun a c => addf a (chunk h (View.ld G (wide c)) (View.ld U (wide c)) (View.ld D (tall c)))) a) (ix2 r q)
        = a (ix2 r q) + (L.map fun c => chunk h (View.ld G (wide c)) (View.ld U (wide c)) (View.ld D (tall c)) (ix2 r q)).sum := by
    intro L
    induction L with
    | nil => intro a; simp
    | cons c L ih =>
      intro a
      refine (ih _).trans ?_
      rw [List.map_cons, List.sum_cons, ← add_assoc]
      rfl
  refine (f _ _).trans ?_
  have z : (broadcast S512x1024 (Scalar.ofBits .f32 0x00000000#32) : FVec Ideal S512x1024 .f32) (ix2 r q) = (0 : EReal) := by
    pointwise
  rw [z, zero_add, show chunks = List.finRange 11 from rfl, ← List.ofFn_eq_map, List.sum_ofFn]
  exact Finset.sum_congr rfl fun c _ => e c

theorem normed_at (x : FVec Ideal S512x1024 .f32) (sh sc : FVec Ideal S1x1024 .f32) (g : FVec Ideal S1x1024 .f32) (r : Fin 512) (k : Fin 1024) :
    normed x sh sc g (ix2 r k)
      = Cert.Ffn.norm (fun k => x (ix2 r k)) (fun k => g (ix2 0 k)) (fun k => sc (ix2 0 k)) (fun k => sh (ix2 0 k)) k := by
  pointwise [normed]
  rfl

theorem stepped_at (x : FVec Ideal S512x1024 .f32) (g : FVec Ideal S1x1024 .f32) (a : FVec Ideal S512x1024 .f32) (r : Fin 512) (q : Fin 1024) :
    stepped x g a (ix2 r q) = x (ix2 r q) + Ideal.ofBits .f32 0x3F000000#32 * g (ix2 0 q) * a (ix2 r q) := by
  pointwise [stepped]

theorem mrow_at (M : FVec Ideal S1x9x1024 .f32) (n : Fin 9) (k : Fin 1024) :
    mrow M n (ix2 0 k) = M (ix3 0 n k) := by
  pointwise [mrow]

variable (x0 : Vec Ideal S512x1024 .f32) (x1 : Vec Ideal S1x9x1024 .f32) (x2 : Vec Ideal S1x1024 .f32) (x3 x4 : Vec Ideal S1024x2816 .bf16)
  (x5 : Vec Ideal S2816x1024 .bf16) (x6 : Vec Ideal S1x1024 .f32)

theorem ld_rows (r : Fin 512) (k : Fin 1024) : View.ld x0 r0_0 (ix2 r k) = x0 (ix2 r k) := by
  pointwise

theorem ld_gain (k : Fin 1024) : View.ld x2 r0_4 (ix2 0 k) = x2 (ix2 0 k) := by
  pointwise

/-- The rows after the half step. -/
theorem yB_at (e : Fin 9 → Fin 9) (r : Fin 512) (q : Fin 1024) :
    yB x0 x1 x2 x3 x4 x5 e (ix2 r q) = Cert.Ffn.y (fun k => x0 (ix2 r k)) (fun n k => x1 (ix3 0 (e n) k)) (fun k => x2 (ix2 0 k))
      (fun k j => x3 (ix2 k j)) (fun k j => x4 (ix2 k j)) (fun j k => x5 (ix2 j k)) q := by
  refine (stepped_at _ _ _ r q).trans ?_
  rw [acc_at, mrow_at, funext fun k => normed_at _ _ _ _ r k,
    show (fun k => mrow x1 (e 0) (ix2 0 k)) = fun k => x1 (ix3 0 (e 0) k) from funext fun k => mrow_at x1 (e 0) k,
    show (fun k => mrow x1 (e 1) (ix2 0 k)) = fun k => x1 (ix3 0 (e 1) k) from funext fun k => mrow_at x1 (e 1) k,
    show (fun k => View.ld x0 r0_0 (ix2 r k)) = fun k => x0 (ix2 r k) from funext fun k => ld_rows x0 r k,
    show (fun k => View.ld x2 r0_4 (ix2 0 k)) = fun k => x2 (ix2 0 k) from funext fun k => ld_gain x2 k]
  exact congrArg (· + _) (ld_rows x0 r q)

/-- Those rows, normalised and modulated for what follows. -/
theorem hB_at (r : Fin 512) (q : Fin 1024) :
    normed (yB x0 x1 x2 x3 x4 x5 id) (mrow x1 3) (mrow x1 4) (View.ld x6 r0_4) (ix2 r q)
      = Cert.Ffn.h (fun k => x0 (ix2 r k)) (fun n k => x1 (ix3 0 n k)) (fun k => x2 (ix2 0 k))
      (fun k j => x3 (ix2 k j)) (fun k j => x4 (ix2 k j)) (fun j k => x5 (ix2 j k)) (fun k => x6 (ix2 0 k)) q := by
  refine (normed_at _ _ _ _ r q).trans ?_
  rw [funext fun k => yB_at x0 x1 x2 x3 x4 x5 id r k,
    show (fun k => mrow x1 3 (ix2 0 k)) = fun k => x1 (ix3 0 3 k) from funext fun k => mrow_at x1 3 k,
    show (fun k => mrow x1 4 (ix2 0 k)) = fun k => x1 (ix3 0 4 k) from funext fun k => mrow_at x1 4 k,
    show (fun k => View.ld x6 r0_4 (ix2 0 k)) = fun k => x6 (ix2 0 k) from funext fun k => ld_gain x6 k]
  rfl

end Cert.Kernel2Ideal.Ffn

end
-- ==== Proof.Ffn.Array.lean ====
module

public import proofs.«01_k».proof.Proof.Ffn.Block
public import proofs.«01_k».proof.Proof.Gen.Kernel2Ideal.Value
public import Idealize.ShloMosaic.Lib.Pipeline.ValueKit

/-!
# The half step's result arrays, entry by entry

Point `32 b + j` sees rows `512 j …` of batch entry `b`, that entry's nine modulation rows, and the gains and matrices whole.
-/

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.Sem
open Cert.Kernel2Ideal Cert.Kernel2Ideal.Gen Cert.Kernel2Ideal.Value

/-- The blocks' places, point by point. -/
theorem idx : ∀ t : Fin cfg0.N, win0_0.index t = ![t.val, 0] ∧ win0_1.index t = ![t.val / 32, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, win0_0.index t = ![t.val, 0] ∧ win0_1.index t = ![t.val / 32, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0])

/-- Every point writes both its blocks back. -/
theorem flushes : ∀ t : Fin cfg0.N, (cfg0.win 7).flush t = true ∧ (cfg0.win 8).flush t = true :=
  (by decide +kernel : ∀ t : Fin grid0.N, (cfg0.win 7).flush t = true ∧ (cfg0.win 8).flush t = true)

/-- The point of batch entry `b`'s rows `512 j …`. -/
def pt (b : Fin 2) (j : Fin 32) : Fin cfg0.N := ⟨32 * b.val + j.val, by have : cfg0.N = 64 := rfl; omega⟩

theorem pt_val (b : Fin 2) (j : Fin 32) : (pt b j).val = 32 * b.val + j.val := rfl

/-- Row `r` of that block, among all rows. -/
def brow (b : Fin 2) (j : Fin 32) (r : Fin 512) : Fin 32768 := ⟨b.val * 16384 + (512 * j.val + r.val), by omega⟩

/-- Batch entry `b`'s place among the modulation's three. -/
def bmod (b : Fin 2) : Fin 3 := ⟨b.val, by omega⟩

variable (m : (ℓ : Loc nD τ sig) → Buf (Elt Ideal) ℓ) (c : Dev nD)

theorem block0 (b : Fin 2) (j : Fin 32) (r : Fin 512) (k : Fin 1024) :
    iblk m c 0 (pt b j) (ix2 r k) = m ((c : Thread nD τ).loc main_arg0) (ix2 (brow b j r) k) := by
  obtain ⟨e0, e1, e2, e3, e4, e5, e6, e7, e8⟩ := idx (pt b j)
  blk_ext [iblk, V, e0, pt_val, brow]

theorem block1 (b : Fin 2) (j : Fin 32) (n : Fin 9) (k : Fin 1024) :
    iblk m c 1 (pt b j) (ix3 0 n k) = m ((c : Thread nD τ).loc main_arg1) (ix3 (bmod b) n k) := by
  obtain ⟨e0, e1, e2, e3, e4, e5, e6, e7, e8⟩ := idx (pt b j)
  blk_ext [iblk, V, e1, pt_val, bmod]

theorem row_at (f : FVec Ideal S1024 .f32) (k : Fin 1024) : shapeCast S1x1024 f shapeCasts_S1024_S1x1024 (ix2 0 k) = f (ix1 k) := by
  pointwise

theorem block2 (b : Fin 2) (j : Fin 32) (k : Fin 1024) :
    iblk m c 2 (pt b j) (ix2 0 k) = m ((c : Thread nD τ).loc main_arg2) (ix1 k) := by
  obtain ⟨e0, e1, e2, e3, e4, e5, e6, e7, e8⟩ := idx (pt b j)
  trans V m c (Pipeline.arrRef spec0 2) (ix2 0 k)
  · blk_ext [iblk, e2]
  · entry_read
    exact row_at _ k

theorem block3 (b : Fin 2) (j : Fin 32) (k : Fin 1024) (i : Fin 2816) :
    iblk m c 3 (pt b j) (ix2 k i) = m ((c : Thread nD τ).loc main_arg3) (ix2 k i) := by
  obtain ⟨e0, e1, e2, e3, e4, e5, e6, e7, e8⟩ := idx (pt b j)
  trans V m c (Pipeline.arrRef spec0 3) (ix2 k i)
  · blk_ext [iblk, e3]
  · entry_read
    rfl

theorem block4 (b : Fin 2) (j : Fin 32) (k : Fin 1024) (i : Fin 2816) :
    iblk m c 4 (pt b j) (ix2 k i) = m ((c : Thread nD τ).loc main_arg4) (ix2 k i) := by
  obtain ⟨e0, e1, e2, e3, e4, e5, e6, e7, e8⟩ := idx (pt b j)
  trans V m c (Pipeline.arrRef spec0 4) (ix2 k i)
  · blk_ext [iblk, e4]
  · entry_read
    rfl

theorem block5 (b : Fin 2) (j : Fin 32) (i : Fin 2816) (k : Fin 1024) :
    iblk m c 5 (pt b j) (ix2 i k) = m ((c : Thread nD τ).loc main_arg5) (ix2 i k) := by
  obtain ⟨e0, e1, e2, e3, e4, e5, e6, e7, e8⟩ := idx (pt b j)
  trans V m c (Pipeline.arrRef spec0 5) (ix2 i k)
  · blk_ext [iblk, e5]
  · entry_read
    rfl

theorem block6 (b : Fin 2) (j : Fin 32) (k : Fin 1024) :
    iblk m c 6 (pt b j) (ix2 0 k) = m ((c : Thread nD τ).loc main_arg6) (ix1 k) := by
  obtain ⟨e0, e1, e2, e3, e4, e5, e6, e7, e8⟩ := idx (pt b j)
  trans V m c (Pipeline.arrRef spec0 6) (ix2 0 k)
  · blk_ext [iblk, e6]
  · entry_read
    exact row_at _ k

/-- Block `(b, j)` of the first result's array is its rows `512 j …` of batch entry `b`. -/
theorem read7 (A : FVec Ideal S32768x1024 .f32) (b : Fin 2) (j : Fin 32) (r : Fin 512) (q : Fin 1024) :
    ((cfg0.win 7).blk (pt b j)).view.read (Elt Ideal) A (ix2 r q) = A (ix2 (brow b j r) q) := by
  obtain ⟨e0, e1, e2, e3, e4, e5, e6, e7, e8⟩ := idx (pt b j)
  blk_ext [e7, pt_val, brow]

/-- So with the second's. -/
theorem read8 (A : FVec Ideal S32768x1024 .bf16) (b : Fin 2) (j : Fin 32) (r : Fin 512) (q : Fin 1024) :
    ((cfg0.win 8).blk (pt b j)).view.read (Elt Ideal) A (ix2 r q) = A (ix2 (brow b j r) q) := by
  obtain ⟨e0, e1, e2, e3, e4, e5, e6, e7, e8⟩ := idx (pt b j)
  blk_ext [e8, pt_val, brow]

theorem zero2 : (![0, 0] : Fin 2 → ℕ) = fun _ => 0 := by
  funext a; fin_cases a <;> rfl

/-- One row of the result, from the arguments. -/
abbrev yRow (b : Fin 2) (p : Fin 32768) : Fin 1024 → EReal :=
  Cert.Ffn.y (fun k => m ((c : Thread nD τ).loc main_arg0) (ix2 p k)) (fun n k => m ((c : Thread nD τ).loc main_arg1) (ix3 (bmod b) n k))
    (fun k => m ((c : Thread nD τ).loc main_arg2) (ix1 k)) (fun k i => m ((c : Thread nD τ).loc main_arg3) (ix2 k i))
    (fun k i => m ((c : Thread nD τ).loc main_arg4) (ix2 k i)) (fun i k => m ((c : Thread nD τ).loc main_arg5) (ix2 i k))

/-- The array of the rows after the half step. -/
theorem y_array (b : Fin 2) (j : Fin 32) (r : Fin 512) (q : Fin 1024) :
    (dats m 0 c).arrAt 7 cfg0.N (ix2 (brow b j r) q) = yRow m c b (brow b j r) q := by
  refine (read7 _ b j r q).symm.trans ((congrFun (blocks7 m c (pt b j) (flushes _).1) (ix2 r q)).trans ?_)
  rw [flushed7, out7, View.canon_unit_zero zero2]
  refine Eq.trans (b := yB (iblk m c 0 (pt b j)) (iblk m c 1 (pt b j)) (iblk m c 2 (pt b j)) (iblk m c 3 (pt b j)) (iblk m c 4 (pt b j))
    (iblk m c 5 (pt b j)) id (ix2 r q)) rfl ?_
  rw [yB_at]
  simp only [block0, block1, block2, block3, block4, block5, id_eq]

/-- One row of the second result. -/
abbrev hRow (b : Fin 2) (p : Fin 32768) : Fin 1024 → EReal :=
  Cert.Ffn.h (fun k => m ((c : Thread nD τ).loc main_arg0) (ix2 p k)) (fun n k => m ((c : Thread nD τ).loc main_arg1) (ix3 (bmod b) n k))
    (fun k => m ((c : Thread nD τ).loc main_arg2) (ix1 k)) (fun k i => m ((c : Thread nD τ).loc main_arg3) (ix2 k i))
    (fun k i => m ((c : Thread nD τ).loc main_arg4) (ix2 k i)) (fun i k => m ((c : Thread nD τ).loc main_arg5) (ix2 i k))
    (fun k => m ((c : Thread nD τ).loc main_arg6) (ix1 k))

/-- The array of those rows, normalised and modulated for what follows. -/
theorem h_array (b : Fin 2) (j : Fin 32) (r : Fin 512) (q : Fin 1024) :
    (dats m 0 c).arrAt 8 cfg0.N (ix2 (brow b j r) q) = hRow m c b (brow b j r) q := by
  refine (read8 _ b j r q).symm.trans ((congrFun (blocks8 m c (pt b j) (flushes _).2) (ix2 r q)).trans ?_)
  rw [flushed8, out8, View.canon_unit_zero zero2]
  refine Eq.trans (b := normed (yB (iblk m c 0 (pt b j)) (iblk m c 1 (pt b j)) (iblk m c 2 (pt b j)) (iblk m c 3 (pt b j)) (iblk m c 4 (pt b j))
    (iblk m c 5 (pt b j)) id) (mrow (iblk m c 1 (pt b j)) 3) (mrow (iblk m c 1 (pt b j)) 4) (View.ld (iblk m c 6 (pt b j)) r0_4) (ix2 r q)) rfl ?_
  rw [hB_at]
  simp only [block0, block1, block2, block3, block4, block5, block6]

/-- Every row is row `r` of some block. -/
theorem brow_of (b : Fin 2) (l : Fin 16384) : ∃ j r, (⟨b.val * 16384 + l.val, by omega⟩ : Fin 32768) = brow b j r :=
  ⟨⟨l.val / 512, by omega⟩, ⟨l.val % 512, by omega⟩, Fin.ext (by show b.val * 16384 + l.val = b.val * 16384 + (512 * (l.val / 512) + l.val % 512); omega)⟩

end Cert.Kernel2Ideal.Ffn

end
-- ==== Proof.Ffn.Ref.lean ====
module

public import proofs.«01_k».proof.Proof.Gen.Reference2Ideal.Run
public import proofs.«01_k».proof.Proof.Ffn.Math

/-!
# The reference's half-step feed-forward, read at an index

The arrays the reference computes on the way, named, and each read at an index as a function of `Math.lean`.
-/

@[expose] public section

set_option maxRecDepth 16384

noncomputable section

namespace Cert.Reference2Ideal.Ffn

open Idealize.ShloMosaic Idealize.ShloMosaic.TcCoe
open Cert.Reference2Ideal Cert.Reference2Ideal.Gen Cert.Reference2Ideal.Value

variable {F : FTy → Type} [FloatOps F]

/-- The rows, batch entry by batch entry. -/
def rows (a0 : FVec F S32768x1024 .f32) : FVec F S2x16384x1024 .f32 := shapeCast _ a0 shapeCasts_S32768x1024_S2x16384x1024

theorem slices_row (k : Fin 9) : S3x9x1024.Slices ![0, k.val, 0] S2x1x1024 := by
  refine ⟨rfl, fun d => ?_⟩
  fin_cases d <;> simp <;> omega

/-- Modulation row `k` of the two batch entries. -/
def mrow (a1 : FVec F S3x9x1024 .f32) (k : Fin 9) : FVec F S2x1x1024 .f32 :=
  broadcastInDim S2x1x1024 ![0, 2] bcast_S2x1024_S2x1x1024_0_2
    (shapeCast S2x1024 (extractStridedSlice S2x1x1024 ![0, k.val, 0] a1 (slices_row k)) shapeCasts_S2x1x1024_S2x1024)

/-- Every row normalised by its root mean square, with a gain, then scaled and shifted. -/
def normed (x : FVec F S2x16384x1024 .f32) (g : FVec F S1024 .f32) (sc sh : FVec F S2x1x1024 .f32) : FVec F S2x16384x1024 .f32 :=
  addf (mulf (mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S2x1x1024_S2x16384x1024_0_1_2
      (addf (broadcastInDim S2x1x1024 ![] bcast_S_S2x1x1024 (constant S_ .f32 0x3F800000#32)) sc)))
    (broadcastInDim S2x16384x1024 ![0, 1, 2] bcast_S2x1x1024_S2x16384x1024_0_1_2 sh)

/-- The rows times a widening matrix. -/
def up (h : FVec F S2x16384x1024 .f32) (W : FVec F S1024x2816 .f32) : FVec F S2x16384x2816 .f32 :=
  Host.dotGeneral dot_S2x16384x1024_S1024x2816_S2x16384x2816_2_0_01_1_n_n none h W

/-- The gate of the hidden columns. -/
def act (p u : FVec F S2x16384x2816 .f32) : FVec F S2x16384x2816 .f32 :=
  mulf (mulf p (Host.divf (broadcastInDim S2x16384x2816 ![] bcast_S_S2x16384x2816 (constant S_ .f32 0x3F800000#32))
    (addf (broadcastInDim S2x16384x2816 ![] bcast_S_S2x16384x2816 (constant S_ .f32 0x3F800000#32)) (Host.exp (Host.negf p))))) u

/-- The rows plus half the gated sum. -/
def stepped (x : FVec F S2x16384x1024 .f32) (gate : FVec F S2x1x1024 .f32) (a : FVec F S2x16384x2816 .f32) (D : FVec F S2816x1024 .f32) :
    FVec F S2x16384x1024 .f32 :=
  addf x (mulf (broadcastInDim S2x16384x1024 ![0, 1, 2] bcast_S2x1x1024_S2x16384x1024_0_1_2
      (mulf (broadcastInDim S2x1x1024 ![] bcast_S_S2x1x1024 (constant S_ .f32 0x3F000000#32)) gate))
    (Host.dotGeneral dot_S2x16384x2816_S2816x1024_S2x16384x1024_2_0_01_1_n_n none a D))

variable (a0 : FVec F S32768x1024 .f32) (a1 : FVec F S3x9x1024 .f32) (a2 : FVec F S1024 .f32) (a3 a4 : FVec F S1024x2816 .f32)
  (a5 : FVec F S2816x1024 .f32) (a6 : FVec F S1024 .f32)

/-- The normalised rows the half step widens; its shift, scale and gate are the modulation's rows `e 0`, `e 1`, `e 2`. -/
def hin (e : Fin 9 → Fin 9) : FVec F S2x16384x1024 .f32 := normed (rows a0) a2 (mrow a1 (e 1)) (mrow a1 (e 0))

/-- The rows after the half step. -/
def ymid (e : Fin 9 → Fin 9) : FVec F S2x16384x1024 .f32 :=
  stepped (rows a0) (mrow a1 (e 2)) (act (up (hin a0 a1 a2 e) a3) (up (hin a0 a1 a2 e) a4)) a5

theorem res0 (m : (ℓ : Loc nD τ sig) → Buf (Elt F) ℓ) (c : Dev nD) :
    res_main_v64 m c = shapeCast S32768x1024 (ymid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) id) shapeCasts_S2x16384x1024_S32768x1024 := by
  rfl

theorem res1 (m : (ℓ : Loc nD τ sig) → Buf (Elt F) ℓ) (c : Dev nD) :
    res_main_v66 m c = truncf .bf16 (shapeCast S32768x1024 (normed (ymid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) id) (m ((c.tc : Thread nD τ).loc main_arg6)) (mrow (m ((c.tc : Thread nD τ).loc main_arg1)) 4)
      (mrow (m ((c.tc : Thread nD τ).loc main_arg1)) 3)) shapeCasts_S2x16384x1024_S32768x1024) bitsLt_bf16_f32 := by
  rfl

end Cert.Reference2Ideal.Ffn

namespace Cert.Reference2Ideal.Ffn

open Idealize.ShloMosaic Idealize.ShloMosaic.TcCoe
open Cert.Reference2Ideal Cert.Reference2Ideal.Gen Cert.Reference2Ideal.Value

/-- The row of position `l` of batch entry `b`. -/
def row (b : Fin 2) (l : Fin 16384) : Fin 32768 := ⟨b.val * 16384 + l.val, by omega⟩

/-- Batch entry `b`'s place among the modulation's three. -/
def bmod (b : Fin 2) : Fin 3 := ⟨b.val, by omega⟩

theorem rows_at (a0 : FVec Ideal S32768x1024 .f32) (b : Fin 2) (l : Fin 16384) (k : Fin 1024) :
    rows a0 (ix3 b l k) = a0 (ix2 (row b l) k) := by
  pointwise [rows]
  rfl

theorem mrow_at (a1 : FVec Ideal S3x9x1024 .f32) (n : Fin 9) (b : Fin 2) (k : Fin 1024) :
    mrow a1 n (ix3 b 0 k) = a1 (ix3 (bmod b) n k) := by
  pointwise [mrow]
  rfl

theorem normed_at (x : FVec Ideal S2x16384x1024 .f32) (g : FVec Ideal S1024 .f32) (sc sh : FVec Ideal S2x1x1024 .f32) (b : Fin 2) (l : Fin 16384)
    (k : Fin 1024) :
    normed x g sc sh (ix3 b l k)
      = Cert.Ffn.norm (fun k => x (ix3 b l k)) (fun k => g (ix1 k)) (fun k => sc (ix3 b 0 k)) (fun k => sh (ix3 b 0 k)) k := by
  pointwise [normed]
  rfl

theorem up_at (h : FVec Ideal S2x16384x1024 .f32) (W : FVec Ideal S1024x2816 .f32) (b : Fin 2) (l : Fin 16384) (j : Fin 2816) :
    up h W (ix3 b l j) = ∑ k : Fin 1024, h (ix3 b l k) * W (ix2 k j) := by
  pointwise [up]

theorem act_at (p u : FVec Ideal S2x16384x2816 .f32) (b : Fin 2) (l : Fin 16384) (j : Fin 2816) :
    act p u (ix3 b l j) = Cert.Ffn.act (p (ix3 b l j)) (u (ix3 b l j)) := by
  pointwise [act]
  rfl

theorem stepped_at (x : FVec Ideal S2x16384x1024 .f32) (gate : FVec Ideal S2x1x1024 .f32) (a : FVec Ideal S2x16384x2816 .f32)
    (D : FVec Ideal S2816x1024 .f32) (b : Fin 2) (l : Fin 16384) (q : Fin 1024) :
    stepped x gate a D (ix3 b l q)
      = x (ix3 b l q) + Ideal.ofBits .f32 0x3F000000#32 * gate (ix3 b 0 q) * ∑ j : Fin 2816, a (ix3 b l j) * D (ix2 j q) := by
  pointwise [stepped]

variable (a0 : FVec Ideal S32768x1024 .f32) (a1 : FVec Ideal S3x9x1024 .f32) (a2 : FVec Ideal S1024 .f32) (a3 a4 : FVec Ideal S1024x2816 .f32)
  (a5 : FVec Ideal S2816x1024 .f32) (a6 : FVec Ideal S1024 .f32)

/-- The rows after the half step. -/
theorem ymid_at (e : Fin 9 → Fin 9) (b : Fin 2) (l : Fin 16384) (q : Fin 1024) :
    ymid a0 a1 a2 a3 a4 a5 e (ix3 b l q) = Cert.Ffn.y (fun k => a0 (ix2 (row b l) k)) (fun n k => a1 (ix3 (bmod b) (e n) k)) (fun k => a2 (ix1 k))
      (fun k j => a3 (ix2 k j)) (fun k j => a4 (ix2 k j)) (fun j k => a5 (ix2 j k)) q := by
  refine (stepped_at _ _ _ _ b l q).trans ?_
  simp only [rows_at, mrow_at, act_at, up_at, hin, normed_at]
  rfl

/-- Those rows, normalised and modulated for what follows. -/
theorem hmid_at (b : Fin 2) (l : Fin 16384) (q : Fin 1024) :
    normed (ymid a0 a1 a2 a3 a4 a5 id) a6 (mrow a1 4) (mrow a1 3) (ix3 b l q)
      = Cert.Ffn.h (fun k => a0 (ix2 (row b l) k)) (fun n k => a1 (ix3 (bmod b) n k)) (fun k => a2 (ix1 k))
      (fun k j => a3 (ix2 k j)) (fun k j => a4 (ix2 k j)) (fun j k => a5 (ix2 j k)) (fun k => a6 (ix1 k)) q := by
  refine (normed_at _ _ _ _ b l q).trans ?_
  simp only [ymid_at, mrow_at]
  rfl

/-- Rows laid out one batch entry after the other. -/
theorem flat_at (x : FVec Ideal S2x16384x1024 .f32) (b : Fin 2) (l : Fin 16384) (q : Fin 1024) :
    shapeCast S32768x1024 x shapeCasts_S2x16384x1024_S32768x1024 (ix2 (row b l) q) = x (ix3 b l q) := by
  unfold row
  pointwise

/-- Rounding changes nothing here. -/
theorem flat_round_at (x : FVec Ideal S2x16384x1024 .f32) (b : Fin 2) (l : Fin 16384) (q : Fin 1024) :
    truncf (F := Ideal) .bf16 (shapeCast S32768x1024 x shapeCasts_S2x16384x1024_S32768x1024) bitsLt_bf16_f32 (ix2 (row b l) q) = x (ix3 b l q) :=
  flat_at x b l q

end Cert.Reference2Ideal.Ffn

end
-- ==== Proof.Ffn.Equation.lean ====
module

public import proofs.«01_k».proof.Proof.Ffn.Array
public import proofs.«01_k».proof.Proof.Ffn.Ref

/-!
# Kernel and reference end the half step with the same arrays
-/

@[expose] public section

set_option maxRecDepth 16384

noncomputable section

namespace Cert.FfnEquation

open Idealize.ShloMosaic Idealize.ShloMosaic.TcCoe Idealize.SL.Sem
open Cert.Kernel2Ideal (nD τ sig main_arg0 main_arg1 main_arg2 main_arg3 main_arg4 main_arg5 main_arg6)
open Cert.Reference2Ideal.Ffn (row ymid mrow normed)

variable (m : (ℓ : Loc nD τ sig) → Buf (Elt Ideal) ℓ) (c : Dev nD)

/-- Every index lies in a row of one of the two batch entries. -/
theorem ix_of (i : (⟨2, ![32768, 1024]⟩ : Shape).Idx) : ∃ b l q, i = ix2 (row b l) q := by
  obtain ⟨p, q, rfl⟩ : ∃ (p : Fin 32768) (q : Fin 1024), i = ix2 p q := ⟨i 0, i 1, eq_ix2 i⟩
  exact ⟨⟨p.val / 16384, by omega⟩, ⟨p.val % 16384, by omega⟩, q, congrArg (ix2 · q) (Fin.ext (by show p.val = p.val / 16384 * 16384 + p.val % 16384; omega))⟩

/-- The rows after the half step agree. -/
theorem y_eq : shapeCast (⟨2, ![32768, 1024]⟩ : Shape) (ymid (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) id) Cert.Reference2Ideal.Gen.shapeCasts_S2x16384x1024_S32768x1024
    = (Cert.Kernel2Ideal.Gen.dats m 0 c).arrAt 7 Cert.Kernel2Ideal.cfg0.N := by
  funext i
  obtain ⟨b, l, q, rfl⟩ := ix_of i
  obtain ⟨j, r, e⟩ := Cert.Kernel2Ideal.Ffn.brow_of b l
  rw [Cert.Reference2Ideal.Ffn.flat_at, Cert.Reference2Ideal.Ffn.ymid_at, show row b l = Cert.Kernel2Ideal.Ffn.brow b j r from e]
  exact (Cert.Kernel2Ideal.Ffn.y_array m c b j r q).symm

/-- What follows is handed the same rows. -/
theorem h_eq : truncf .bf16 (shapeCast (⟨2, ![32768, 1024]⟩ : Shape) (normed (ymid (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) id) (m ((c : Thread nD τ).loc main_arg6))
      (mrow (m ((c : Thread nD τ).loc main_arg1)) 4) (mrow (m ((c : Thread nD τ).loc main_arg1)) 3))
      Cert.Reference2Ideal.Gen.shapeCasts_S2x16384x1024_S32768x1024) Cert.Reference2Ideal.Gen.bitsLt_bf16_f32
    = (Cert.Kernel2Ideal.Gen.dats m 0 c).arrAt 8 Cert.Kernel2Ideal.cfg0.N := by
  funext i
  obtain ⟨b, l, q, rfl⟩ := ix_of i
  obtain ⟨j, r, e⟩ := Cert.Kernel2Ideal.Ffn.brow_of b l
  rw [Cert.Reference2Ideal.Ffn.flat_round_at, Cert.Reference2Ideal.Ffn.hmid_at, show row b l = Cert.Kernel2Ideal.Ffn.brow b j r from e]
  exact (Cert.Kernel2Ideal.Ffn.h_array m c b j r q).symm

end Cert.FfnEquation

end
-- ==== Proof.Ffn.Late.lean ====
module

public import proofs.«01_k».proof.Proof.Ffn.Array
public import proofs.«01_k».proof.Proof.Ffn.Ref
public import proofs.«01_k».proof.Proof.Ffn.Equation

/-!
# The half step after the mixer: what differs from the one before it

It is the same half step with the last three of the nine modulation rows, and the last layer's ends with a norm that has a
gain and nothing else.
-/

@[expose] public section

set_option maxRecDepth 16384

noncomputable section

namespace Cert.Ffn

open Idealize.ShloMosaic Idealize.ShloMosaic.TcCoe

/-- The modulation rows of the half step after the mixer. -/
def late (n : Fin 9) : Fin 9 := n + 6

/-- A row normalised by its root mean square, with a gain. -/
def gained (v g : Fin 1024 → EReal) (k : Fin 1024) : EReal := v k * inv v * g k

end Cert.Ffn

namespace Cert.Kernel2Ideal.Ffn

open Idealize.ShloMosaic Idealize.ShloMosaic.TcCoe
open Cert.Kernel2Ideal Cert.Kernel2Ideal.Gen

/-- The kernel's last norm of a block of rows. -/
def gained {F : FTy → Type} [FloatOps F] (x : FVec F S512x1024 .f32) (g : Vec F S1x1024 .f32) : FVec F S512x1024 .f32 :=
  mulf (mulf x (broadcastTo S512x1024 (rsqrt (addf
      (divf (shapeCast S512x1 (multiReduction .add [1] S512 (mulf x x) 0x00000000#32 reduces_S512x1024_S512 (.inl rfl) rfl) shapeCasts_S512_S512x1)
        (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

theorem gained_at (x : FVec Ideal S512x1024 .f32) (g : FVec Ideal S1x1024 .f32) (r : Fin 512) (k : Fin 1024) :
    gained x g (ix2 r k) = Cert.Ffn.gained (fun k => x (ix2 r k)) (fun k => g (ix2 0 k)) k := by
  pointwise [gained]
  rfl

end Cert.Kernel2Ideal.Ffn

namespace Cert.Reference2Ideal.Ffn

open Idealize.ShloMosaic Idealize.ShloMosaic.TcCoe
open Cert.Reference2Ideal Cert.Reference2Ideal.Gen

/-- The reference's last norm of every row. -/
def gained {F : FTy → Type} [FloatOps F] (x : FVec F S2x16384x1024 .f32) (g : FVec F S1024 .f32) : FVec F S2x16384x1024 .f32 :=
  mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

theorem gained_at (x : FVec Ideal S2x16384x1024 .f32) (g : FVec Ideal S1024 .f32) (b : Fin 2) (l : Fin 16384) (k : Fin 1024) :
    gained x g (ix3 b l k) = Cert.Ffn.gained (fun k => x (ix3 b l k)) (fun k => g (ix1 k)) k := by
  pointwise [gained]
  rfl

end Cert.Reference2Ideal.Ffn

end
-- ==== Proof.Ffn.Plain.lean ====
module

public import proofs.«01_k».proof.Proof.Ffn.Late
public import proofs.«01_k».proof.Proof.Gen.Kernel4Ideal.Value
public import proofs.«01_k».proof.Proof.Gen.Reference4Ideal.Run
public import Idealize.ShloMosaic.Lib.Pipeline.ValueKit

/-!
# The half step after the first layer's mixer

The blocks and the arrays of this call, on both sides, in the operations of the half step before the mixer.
-/

@[expose] public section

set_option maxRecDepth 16384

noncomputable section

namespace Cert.Kernel4Ideal.Ffn

open Idealize.ShloMosaic Idealize.ShloMosaic.TcCoe Idealize.ShloMosaic.Tactic
open Idealize.SL Idealize.SL.RA Idealize.SL.Sem
open Cert.Kernel4Ideal Cert.Kernel4Ideal.Gen Cert.Kernel4Ideal.Value
open Cert.Ffn (late)
open Cert.Kernel2Ideal.Ffn (yB yB_at brow bmod row_at zero2 brow_of)

/-- What the result's buffer holds after the body. -/
theorem out {F : FTy → Type} [FloatOps F] (x0 : Vec F S512x1024 .f32) (x1 : Vec F S1x9x1024 .f32) (x2 : Vec F S1x1024 .f32)
    (x3 x4 : Vec F S1024x2816 .bf16) (x5 : Vec F S2816x1024 .bf16) :
    out0_6 x0 x1 x2 x3 x4 x5 = View.canon [⟨r0_0, yB x0 x1 x2 x3 x4 x5 late⟩] := by
  rfl

/-- The blocks' places, point by point. -/
theorem idx : ∀ t : Fin cfg0.N, win0_0.index t = ![t.val, 0] ∧ win0_1.index t = ![t.val / 32, 0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, win0_0.index t = ![t.val, 0] ∧ win0_1.index t = ![t.val / 32, 0, 0] ∧ win0_2.index t = ![0, 0] ∧ win0_3.index t = ![0, 0]
    ∧ win0_4.index t = ![0, 0] ∧ win0_5.index t = ![0, 0] ∧ win0_6.index t = ![t.val, 0])

/-- Every point writes its block back. -/
theorem flushes : ∀ t : Fin cfg0.N, (cfg0.win 6).flush t = true :=
  (by decide +kernel : ∀ t : Fin grid0.N, (cfg0.win 6).flush t = true)

/-- The point of batch entry `b`'s rows `512 j …`. -/
def pt (b : Fin 2) (j : Fin 32) : Fin cfg0.N := ⟨32 * b.val + j.val, by have : cfg0.N = 64 := rfl; omega⟩

theorem pt_val (b : Fin 2) (j : Fin 32) : (pt b j).val = 32 * b.val + j.val := rfl

variable (m : (ℓ : Loc nD τ sig) → Buf (Elt Ideal) ℓ) (c : Dev nD)

theorem block0 (b : Fin 2) (j : Fin 32) (r : Fin 512) (k : Fin 1024) :
    iblk m c 0 (pt b j) (ix2 r k) = m ((c : Thread nD τ).loc main_arg0) (ix2 (brow b j r) k) := by
  obtain ⟨e0, e1, e2, e3, e4, e5, e6⟩ := idx (pt b j)
  blk_ext [iblk, V, e0, pt_val, brow]

theorem block1 (b : Fin 2) (j : Fin 32) (n : Fin 9) (k : Fin 1024) :
    iblk m c 1 (pt b j) (ix3 0 n k) = m ((c : Thread nD τ).loc main_arg1) (ix3 (bmod b) n k) := by
  obtain ⟨e0, e1, e2, e3, e4, e5, e6⟩ := idx (pt b j)
  blk_ext [iblk, V, e1, pt_val, bmod]

theorem block2 (b : Fin 2) (j : Fin 32) (k : Fin 1024) :
    iblk m c 2 (pt b j) (ix2 0 k) = m ((c : Thread nD τ).loc main_arg2) (ix1 k) := by
  obtain ⟨e0, e1, e2, e3, e4, e5, e6⟩ := idx (pt b j)
  trans V m c (Pipeline.arrRef spec0 2) (ix2 0 k)
  · blk_ext [iblk, e2]
  · entry_read
    exact row_at _ k

theorem block3 (b : Fin 2) (j : Fin 32) (k : Fin 1024) (i : Fin 2816) :
    iblk m c 3 (pt b j) (ix2 k i) = m ((c : Thread nD τ).loc main_arg3) (ix2 k i) := by
  obtain ⟨e0, e1, e2, e3, e4, e5, e6⟩ := idx (pt b j)
  trans V m c (Pipeline.arrRef spec0 3) (ix2 k i)
  · blk_ext [iblk, e3]
  · entry_read
    rfl

theorem block4 (b : Fin 2) (j : Fin 32) (k : Fin 1024) (i : Fin 2816) :
    iblk m c 4 (pt b j) (ix2 k i) = m ((c : Thread nD τ).loc main_arg4) (ix2 k i) := by
  obtain ⟨e0, e1, e2, e3, e4, e5, e6⟩ := idx (pt b j)
  trans V m c (Pipeline.arrRef spec0 4) (ix2 k i)
  · blk_ext [iblk, e4]
  · entry_read
    rfl

theorem block5 (b : Fin 2) (j : Fin 32) (i : Fin 2816) (k : Fin 1024) :
    iblk m c 5 (pt b j) (ix2 i k) = m ((c : Thread nD τ).loc main_arg5) (ix2 i k) := by
  obtain ⟨e0, e1, e2, e3, e4, e5, e6⟩ := idx (pt b j)
  trans V m c (Pipeline.arrRef spec0 5) (ix2 i k)
  · blk_ext [iblk, e5]
  · entry_read
    rfl

/-- Block `(b, j)` of the result's array is its rows `512 j …` of batch entry `b`. -/
theorem read6 (A : FVec Ideal S32768x1024 .f32) (b : Fin 2) (j : Fin 32) (r : Fin 512) (q : Fin 1024) :
    ((cfg0.win 6).blk (pt b j)).view.read (Elt Ideal) A (ix2 r q) = A (ix2 (brow b j r) q) := by
  obtain ⟨e0, e1, e2, e3, e4, e5, e6⟩ := idx (pt b j)
  blk_ext [e6, pt_val, brow]

/-- One row after the half step, from the arguments. -/
abbrev yRow (b : Fin 2) (p : Fin 32768) : Fin 1024 → EReal :=
  Cert.Ffn.y (fun k => m ((c : Thread nD τ).loc main_arg0) (ix2 p k)) (fun n k => m ((c : Thread nD τ).loc main_arg1) (ix3 (bmod b) (late n) k))
    (fun k => m ((c : Thread nD τ).loc main_arg2) (ix1 k)) (fun k i => m ((c : Thread nD τ).loc main_arg3) (ix2 k i))
    (fun k i => m ((c : Thread nD τ).loc main_arg4) (ix2 k i)) (fun i k => m ((c : Thread nD τ).loc main_arg5) (ix2 i k))

/-- One row of a block after the half step. -/
theorem block_row (b : Fin 2) (j : Fin 32) (r : Fin 512) (q : Fin 1024) :
    yB (iblk m c 0 (pt b j)) (iblk m c 1 (pt b j)) (iblk m c 2 (pt b j)) (iblk m c 3 (pt b j)) (iblk m c 4 (pt b j)) (iblk m c 5 (pt b j)) late (ix2 r q)
      = yRow m c b (brow b j r) q := by
  rw [yB_at]
  simp only [block0, block1, block2, block3, block4, block5]

/-- The array of the result. -/
theorem array (b : Fin 2) (j : Fin 32) (r : Fin 512) (q : Fin 1024) :
    (dats m 0 c).arrAt 6 cfg0.N (ix2 (brow b j r) q) = yRow m c b (brow b j r) q := by
  refine (read6 _ b j r q).symm.trans ((congrFun (blocks6 m c (pt b j) (flushes _)) (ix2 r q)).trans ?_)
  rw [flushed6, out, View.canon_unit_zero zero2]
  refine Eq.trans (b := yB (iblk m c 0 (pt b j)) (iblk m c 1 (pt b j)) (iblk m c 2 (pt b j)) (iblk m c 3 (pt b j)) (iblk m c 4 (pt b j))
    (iblk m c 5 (pt b j)) late (ix2 r q)) rfl ?_
  exact block_row m c b j r q

end Cert.Kernel4Ideal.Ffn

namespace Cert.Reference4Ideal.Ffn

open Idealize.ShloMosaic Idealize.ShloMosaic.TcCoe Idealize.SL.Sem
open Cert.Reference4Ideal Cert.Reference4Ideal.Gen Cert.Reference4Ideal.Value
open Cert.Ffn (late)
open Cert.Reference2Ideal.Ffn (ymid)

theorem res {F : FTy → Type} [FloatOps F] (m : (ℓ : Loc nD τ sig) → Buf (Elt F) ℓ) (c : Dev nD) :
    res_out0 m c = shapeCast S32768x1024 (ymid (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) late) shapeCasts_S2x16384x1024_S32768x1024 := by
  rfl

end Cert.Reference4Ideal.Ffn

namespace Cert.FfnEquation

open Idealize.ShloMosaic Idealize.ShloMosaic.TcCoe Idealize.SL.Sem
open Cert.Kernel4Ideal (nD τ sig main_arg0 main_arg1 main_arg2 main_arg3 main_arg4 main_arg5)
open Cert.Reference2Ideal.Ffn (row ymid)
open Cert.Ffn (late)

variable (m : (ℓ : Loc nD τ sig) → Buf (Elt Ideal) ℓ) (c : Dev nD)

/-- Kernel and reference end with the same array. -/
theorem y_eq4 : shapeCast (⟨2, ![32768, 1024]⟩ : Shape) (ymid (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) late) Cert.Reference2Ideal.Gen.shapeCasts_S2x16384x1024_S32768x1024
    = (Cert.Kernel4Ideal.Gen.dats m 0 c).arrAt 6 Cert.Kernel4Ideal.cfg0.N := by
  funext i
  obtain ⟨b, l, q, rfl⟩ := ix_of i
  obtain ⟨j, r, e⟩ := Cert.Kernel2Ideal.Ffn.brow_of b l
  rw [Cert.Reference2Ideal.Ffn.flat_at, Cert.Reference2Ideal.Ffn.ymid_at, show row b l = Cert.Kernel2Ideal.Ffn.brow b j r from e]
  exact (Cert.Kernel4Ideal.Ffn.array m c b j r q).symm

end Cert.FfnEquation

end
-- ==== Proof.Ffn.Final.lean ====
module

public import proofs.«01_k».proof.Proof.Ffn.Late
public import proofs.«01_k».proof.Proof.Gen.Kernel5Ideal.Value
public import proofs.«01_k».proof.Proof.Gen.Reference5Ideal.Run
public import Idealize.ShloMosaic.Lib.Pipeline.ValueKit

/-!
# The half step after the last layer's mixer, and the last norm

The blocks and the arrays of this call, on both sides, in the operations of the half step before the mixer.
-/

@[expose] public section

set_option maxRecDepth 16384

noncomputable section

namespace Cert.Kernel5Ideal.Ffn

open Idealize.ShloMosaic Idealize.ShloMosaic.TcCoe Idealize.ShloMosaic.Tactic
open Idealize.SL Idealize.SL.RA Idealize.SL.Sem
open Cert.Kernel5Ideal Cert.Kernel5Ideal.Gen Cert.Kernel5Ideal.Value
open Cert.Ffn (late)
open Cert.Kernel2Ideal.Ffn (yB yB_at brow bmod row_at zero2 brow_of gained gained_at)

/-- What the result's buffer holds after the body. -/
theorem out {F : FTy → Type} [FloatOps F] (x0 : Vec F S512x1024 .f32) (x1 : Vec F S1x9x1024 .f32) (x2 : Vec F S1x1024 .f32)
    (x3 x4 : Vec F S1024x2816 .bf16) (x5 : Vec F S2816x1024 .bf16) (x6 : Vec F S1x1024 .f32) :
    out0_7 x0 x1 x2 x3 x4 x5 x6 = View.canon [⟨r0_0, gained (yB x0 x1 x2 x3 x4 x5 late) (View.ld x6 r0_4)⟩] := by
  rfl

/-- The blocks' places, point by point. -/
theorem idx : ∀ t : Fin cfg0.N, win0_0.index t = ![t.val, 0] ∧ win0_1.index t = ![t.val / 32, 0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, win0_0.index t = ![t.val, 0] ∧ win0_1.index t = ![t.val / 32, 0, 0] ∧ win0_2.index t = ![0, 0] ∧ win0_3.index t = ![0, 0]
    ∧ win0_4.index t = ![0, 0] ∧ win0_5.index t = ![0, 0] ∧ win0_6.index t = ![0, 0] ∧ win0_7.index t = ![t.val, 0])

/-- Every point writes its block back. -/
theorem flushes : ∀ t : Fin cfg0.N, (cfg0.win 7).flush t = true :=
  (by decide +kernel : ∀ t : Fin grid0.N, (cfg0.win 7).flush t = true)

/-- The point of batch entry `b`'s rows `512 j …`. -/
def pt (b : Fin 2) (j : Fin 32) : Fin cfg0.N := ⟨32 * b.val + j.val, by have : cfg0.N = 64 := rfl; omega⟩

theorem pt_val (b : Fin 2) (j : Fin 32) : (pt b j).val = 32 * b.val + j.val := rfl

variable (m : (ℓ : Loc nD τ sig) → Buf (Elt Ideal) ℓ) (c : Dev nD)

theorem block0 (b : Fin 2) (j : Fin 32) (r : Fin 512) (k : Fin 1024) :
    iblk m c 0 (pt b j) (ix2 r k) = m ((c : Thread nD τ).loc main_arg0) (ix2 (brow b j r) k) := by
  obtain ⟨e0, e1, e2, e3, e4, e5, e6, e7⟩ := idx (pt b j)
  blk_ext [iblk, V, e0, pt_val, brow]

theorem block1 (b : Fin 2) (j : Fin 32) (n : Fin 9) (k : Fin 1024) :
    iblk m c 1 (pt b j) (ix3 0 n k) = m ((c : Thread nD τ).loc main_arg1) (ix3 (bmod b) n k) := by
  obtain ⟨e0, e1, e2, e3, e4, e5, e6, e7⟩ := idx (pt b j)
  blk_ext [iblk, V, e1, pt_val, bmod]

theorem block2 (b : Fin 2) (j : Fin 32) (k : Fin 1024) :
    iblk m c 2 (pt b j) (ix2 0 k) = m ((c : Thread nD τ).loc main_arg2) (ix1 k) := by
  obtain ⟨e0, e1, e2, e3, e4, e5, e6, e7⟩ := idx (pt b j)
  trans V m c (Pipeline.arrRef spec0 2) (ix2 0 k)
  · blk_ext [iblk, e2]
  · entry_read
    exact row_at _ k

theorem block3 (b : Fin 2) (j : Fin 32) (k : Fin 1024) (i : Fin 2816) :
    iblk m c 3 (pt b j) (ix2 k i) = m ((c : Thread nD τ).loc main_arg3) (ix2 k i) := by
  obtain ⟨e0, e1, e2, e3, e4, e5, e6, e7⟩ := idx (pt b j)
  trans V m c (Pipeline.arrRef spec0 3) (ix2 k i)
  · blk_ext [iblk, e3]
  · entry_read
    rfl

theorem block4 (b : Fin 2) (j : Fin 32) (k : Fin 1024) (i : Fin 2816) :
    iblk m c 4 (pt b j) (ix2 k i) = m ((c : Thread nD τ).loc main_arg4) (ix2 k i) := by
  obtain ⟨e0, e1, e2, e3, e4, e5, e6, e7⟩ := idx (pt b j)
  trans V m c (Pipeline.arrRef spec0 4) (ix2 k i)
  · blk_ext [iblk, e4]
  · entry_read
    rfl

theorem block5 (b : Fin 2) (j : Fin 32) (i : Fin 2816) (k : Fin 1024) :
    iblk m c 5 (pt b j) (ix2 i k) = m ((c : Thread nD τ).loc main_arg5) (ix2 i k) := by
  obtain ⟨e0, e1, e2, e3, e4, e5, e6, e7⟩ := idx (pt b j)
  trans V m c (Pipeline.arrRef spec0 5) (ix2 i k)
  · blk_ext [iblk, e5]
  · entry_read
    rfl

theorem block6 (b : Fin 2) (j : Fin 32) (k : Fin 1024) :
    iblk m c 6 (pt b j) (ix2 0 k) = m ((c : Thread nD τ).loc main_arg6) (ix1 k) := by
  obtain ⟨e0, e1, e2, e3, e4, e5, e6, e7⟩ := idx (pt b j)
  trans V m c (Pipeline.arrRef spec0 6) (ix2 0 k)
  · blk_ext [iblk, e6]
  · entry_read
    exact row_at _ k

/-- Block `(b, j)` of the result's array is its rows `512 j …` of batch entry `b`. -/
theorem read7 (A : FVec Ideal S32768x1024 .f32) (b : Fin 2) (j : Fin 32) (r : Fin 512) (q : Fin 1024) :
    ((cfg0.win 7).blk (pt b j)).view.read (Elt Ideal) A (ix2 r q) = A (ix2 (brow b j r) q) := by
  obtain ⟨e0, e1, e2, e3, e4, e5, e6, e7⟩ := idx (pt b j)
  blk_ext [e7, pt_val, brow]

/-- One row after the half step, from the arguments. -/
abbrev yRow (b : Fin 2) (p : Fin 32768) : Fin 1024 → EReal :=
  Cert.Ffn.y (fun k => m ((c : Thread nD τ).loc main_arg0) (ix2 p k)) (fun n k => m ((c : Thread nD τ).loc main_arg1) (ix3 (bmod b) (late n) k))
    (fun k => m ((c : Thread nD τ).loc main_arg2) (ix1 k)) (fun k i => m ((c : Thread nD τ).loc main_arg3) (ix2 k i))
    (fun k i => m ((c : Thread nD τ).loc main_arg4) (ix2 k i)) (fun i k => m ((c : Thread nD τ).loc main_arg5) (ix2 i k))

/-- One row of a block after the half step. -/
theorem block_row (b : Fin 2) (j : Fin 32) (r : Fin 512) (q : Fin 1024) :
    yB (iblk m c 0 (pt b j)) (iblk m c 1 (pt b j)) (iblk m c 2 (pt b j)) (iblk m c 3 (pt b j)) (iblk m c 4 (pt b j)) (iblk m c 5 (pt b j)) late (ix2 r q)
      = yRow m c b (brow b j r) q := by
  rw [yB_at]
  simp only [block0, block1, block2, block3, block4, block5]

/-- The array of the result. -/
theorem array (b : Fin 2) (j : Fin 32) (r : Fin 512) (q : Fin 1024) :
    (dats m 0 c).arrAt 7 cfg0.N (ix2 (brow b j r) q) = Cert.Ffn.gained (yRow m c b (brow b j r)) (fun k => m ((c : Thread nD τ).loc main_arg6) (ix1 k)) q := by
  refine (read7 _ b j r q).symm.trans ((congrFun (blocks7 m c (pt b j) (flushes _)) (ix2 r q)).trans ?_)
  rw [flushed7, out, View.canon_unit_zero zero2]
  refine Eq.trans (b := gained (yB (iblk m c 0 (pt b j)) (iblk m c 1 (pt b j)) (iblk m c 2 (pt b j)) (iblk m c 3 (pt b j)) (iblk m c 4 (pt b j))
    (iblk m c 5 (pt b j)) late) (View.ld (iblk m c 6 (pt b j)) r0_4) (ix2 r q)) rfl ?_
  rw [gained_at, funext fun k => block_row m c b j r k,
    show (fun k => View.ld (iblk m c 6 (pt b j)) r0_4 (ix2 0 k)) = fun k => m ((c : Thread nD τ).loc main_arg6) (ix1 k) from
      funext fun k => (Cert.Kernel2Ideal.Ffn.ld_gain _ k).trans (block6 m c b j k)]

end Cert.Kernel5Ideal.Ffn

namespace Cert.Reference5Ideal.Ffn

open Idealize.ShloMosaic Idealize.ShloMosaic.TcCoe Idealize.SL.Sem
open Cert.Reference5Ideal Cert.Reference5Ideal.Gen Cert.Reference5Ideal.Value
open Cert.Ffn (late)
open Cert.Reference2Ideal.Ffn (ymid gained)

theorem res {F : FTy → Type} [FloatOps F] (m : (ℓ : Loc nD τ sig) → Buf (Elt F) ℓ) (c : Dev nD) :
    res_out0 m c = shapeCast S32768x1024 (gained (ymid (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) late)
      (m ((c.tc : Thread nD τ).loc main_arg6))) shapeCasts_S2x16384x1024_S32768x1024 := by
  rfl

end Cert.Reference5Ideal.Ffn

namespace Cert.FfnEquation

open Idealize.ShloMosaic Idealize.ShloMosaic.TcCoe Idealize.SL.Sem
open Cert.Kernel5Ideal (nD τ sig main_arg0 main_arg1 main_arg2 main_arg3 main_arg4 main_arg5 main_arg6)
open Cert.Reference2Ideal.Ffn (row ymid gained)
open Cert.Ffn (late)

variable (m : (ℓ : Loc nD τ sig) → Buf (Elt Ideal) ℓ) (c : Dev nD)

/-- Kernel and reference end with the same array. -/
theorem y_eq5 : shapeCast (⟨2, ![32768, 1024]⟩ : Shape) (gained (ymid (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) late)
      (m ((c : Thread nD τ).loc main_arg6))) Cert.Reference2Ideal.Gen.shapeCasts_S2x16384x1024_S32768x1024
    = (Cert.Kernel5Ideal.Gen.dats m 0 c).arrAt 7 Cert.Kernel5Ideal.cfg0.N := by
  funext i
  obtain ⟨b, l, q, rfl⟩ := ix_of i
  obtain ⟨j, r, e⟩ := Cert.Kernel2Ideal.Ffn.brow_of b l
  rw [Cert.Reference2Ideal.Ffn.flat_at, Cert.Reference2Ideal.Ffn.gained_at, funext fun k => Cert.Reference2Ideal.Ffn.ymid_at _ _ _ _ _ _ late b l k,
    show row b l = Cert.Kernel2Ideal.Ffn.brow b j r from e]
  exact (Cert.Kernel5Ideal.Ffn.array m c b j r q).symm

end Cert.FfnEquation

end
-- ==== Proof.Merge.Ops.lean ====
module

public import proofs.«01_k».proof.Proof.Gen.Kernel3Ideal.Frame
public import Idealize.ShloMosaic.Lib.Pipeline.ValueKit

/-!
# The merge of one block of rows, in the kernel's operations

The kernel spells its eight groups out one after the other; each is `group` below.
-/

@[expose] public section

set_option maxRecDepth 16384

noncomputable section

namespace Cert.Kernel3Ideal.Merge

open Idealize.ShloMosaic Idealize.ShloMosaic.TcCoe
open Cert.Kernel3Ideal Cert.Kernel3Ideal.Gen

variable {F : FTy → Type} [FloatOps F]

/-- The rows times a matrix, plus a bias. -/
def lin (h : FVec F S256x1024 .bf16) (W : Vec F S1024x2048 .bf16) (b : Vec F S1x2048 .f32) : FVec F S256x2048 .f32 :=
  addf (matmul dot_S256x1024_S1024x2048_S256x2048_1_0_0_1_n_n none h (shapeCast S1024x2048 W shapeCasts_S1024x2048_S1024x2048)
      (constant S256x2048 .f32 0x00000000#32))
    (broadcastTo S256x2048 (shapeCast S1x2048 b shapeCasts_S1x2048_S1x2048) broadcasts_S1x2048_S256x2048)

/-- The logistic function, entry by entry. -/
def logistic {s : Shape} (p : FVec F s .f32) : FVec F s .f32 :=
  divf (broadcast s (Scalar.ofBits .f32 0x3F800000#32))
    (addf (broadcast s (Scalar.ofBits .f32 0x3F800000#32)) (exp (subf (broadcast s (Scalar.ofBits .f32 0x00000000#32)) p)))

/-- The scans' outputs with the skip, gated. -/
def gated (yf yb xs : FVec F S256x2048 .bf16) (d : Vec F S1x2048 .f32) (z : FVec F S256x2048 .f32) : FVec F S256x2048 .f32 :=
  mulf (addf (addf (extf .f32 yf bitsLt_bf16_f32) (extf .f32 yb bitsLt_bf16_f32))
      (mulf (broadcastTo S256x2048 (shapeCast S1x2048 d shapeCasts_S1x2048_S1x2048) broadcasts_S1x2048_S256x2048) (extf .f32 xs bitsLt_bf16_f32)))
    (mulf z (logistic z))

theorem slices_group (g : Fin 8) : S256x2048.Slices ![0, 256 * g.val] S256x256 := by
  refine ⟨rfl, fun d => ?_⟩
  fin_cases d <;> simp <;> omega

/-- The columns of group `g`. -/
def part (w : FVec F S256x2048 .f32) (g : Fin 8) : FVec F S256x256 .f32 := extractStridedSlice S256x256 ![0, 256 * g.val] w (slices_group g)

/-- Those columns, normalised by their root mean square. -/
def group (w : FVec F S256x2048 .f32) (g : Fin 8) : FVec F S256x256 .f32 :=
  mulf (part w g) (broadcastTo S256x256 (rsqrt (addf
    (divf (shapeCast S256x1 (multiReduction .add [1] S256 (mulf (part w g) (part w g)) 0x00000000#32 reduces_S256x256_S256 (.inl rfl) rfl) shapeCasts_S256_S256x1)
      (broadcast S256x1 (Scalar.ofBits .f32 0x43800000#32)))
    (broadcast S256x1 (Scalar.ofBits .f32 0x358637BD#32)))) broadcasts_S256x1_S256x256)

/-- The eight groups side by side. -/
def beside (u : Fin 8 → FVec F S256x256 .f32) : FVec F S256x2048 .f32 :=
  concatenate S256x2048 1 [⟨S256x256, u 0⟩, ⟨S256x256, u 1⟩, ⟨S256x256, u 2⟩, ⟨S256x256, u 3⟩, ⟨S256x256, u 4⟩, ⟨S256x256, u 5⟩, ⟨S256x256, u 6⟩, ⟨S256x256, u 7⟩]
    concatenates_S256x256_S256x256_S256x256_S256x256_S256x256_S256x256_S256x256_S256x256_S256x2048_d1

/-- The scans' branch. -/
def ys (w : FVec F S256x2048 .f32) (nrm : Vec F S1x2048 .f32) (W : Vec F S2048x1024 .bf16) : FVec F S256x1024 .f32 :=
  matmul dot_S256x2048_S2048x1024_S256x1024_1_0_0_1_n_n none
    (truncf .bf16 (mulf (beside (group w)) (broadcastTo S256x2048 (shapeCast S1x2048 nrm shapeCasts_S1x2048_S1x2048) broadcasts_S1x2048_S256x2048)) bitsLt_bf16_f32)
    (shapeCast S2048x1024 W shapeCasts_S2048x1024_S2048x1024) (constant S256x1024 .f32 0x00000000#32)

/-- The two branches, each with its gate. -/
def mixed (u : FVec F S256x2048 .f32) (yc : FVec F S256x1024 .bf16) (y : FVec F S256x1024 .f32) : FVec F S256x1024 .bf16 :=
  truncf .bf16 (addf (mulf (logistic (extractStridedSlice S256x1024 ![0, 0] u slices_S256x2048_o0_0_S256x1024)) (extf .f32 yc bitsLt_bf16_f32))
    (mulf (logistic (extractStridedSlice S256x1024 ![0, 1024] u slices_S256x2048_o0_1024_S256x1024)) y)) bitsLt_bf16_f32

/-- The rows plus the gated product of the mix. -/
def stepped (x : FVec F S256x1024 .f32) (g : Vec F S1x1x1024 .f32) (a : FVec F S256x1024 .bf16) (W : Vec F S1024x1024 .bf16) : FVec F S256x1024 .f32 :=
  addf x (mulf (broadcastTo S256x1024 (shapeCast S1x1024 g shapeCasts_S1x1x1024_S1x1024) broadcasts_S1x1024_S256x1024)
    (matmul dot_S256x1024_S1024x1024_S256x1024_1_0_0_1_n_n none a (shapeCast S1024x1024 W shapeCasts_S1024x1024_S1024x1024)
      (constant S256x1024 .f32 0x00000000#32)))

variable (x0 : Vec F S256x1024 .f32) (x1 : Vec F S256x1024 .bf16) (x2 x3 x4 : Vec F S256x2048 .bf16) (x5 : Vec F S256x1024 .bf16)
  (x6 : Vec F S1x9x1024 .f32) (x7 : Vec F S1024x2048 .bf16) (x8 : Vec F S1x2048 .f32) (x9 : Vec F S1024x2048 .bf16) (x10 x11 x12 : Vec F S1x2048 .f32)
  (x13 : Vec F S2048x1024 .bf16) (x14 : Vec F S1024x1024 .bf16)

/-- The block after the merge, from blocks read whole. -/
def whole (g : Vec F S1x1x1024 .f32) : FVec F S256x1024 .f32 :=
  stepped x0 g (mixed (lin x1 x9 x10) x5 (ys (gated x2 x3 x4 x11 (lin x1 x7 x8)) x12 x13)) x14

theorem zero2 : (![0, 0] : Fin 2 → ℕ) = fun _ => 0 := by
  funext a; fin_cases a <;> rfl

/-- What the result's buffer holds after the body, the blocks read whole. -/
theorem out15_ld : out0_15 x0 x1 x2 x3 x4 x5 x6 x7 x8 x9 x10 x11 x12 x13 x14
    = View.canon [⟨r0_0, whole (View.ld x0 r0_0) (View.ld x1 r0_0) (View.ld x2 r0_3) (View.ld x3 r0_3) (View.ld x4 r0_3) (View.ld x5 r0_0) (View.ld x7 r0_1)
      (View.ld x8 r0_2) (View.ld x9 r0_1) (View.ld x10 r0_2) (View.ld x11 r0_2) (View.ld x12 r0_2) (View.ld x13 r0_4) (View.ld x14 r0_5) (View.ld x6 r0_6)⟩] := by
  rfl

/-- What the result's buffer holds after the body. -/
theorem out15 : out0_15 x0 x1 x2 x3 x4 x5 x6 x7 x8 x9 x10 x11 x12 x13 x14
    = View.canon [⟨r0_0, whole x0 x1 x2 x3 x4 x5 x7 x8 x9 x10 x11 x12 x13 x14 (View.ld x6 r0_6)⟩] := by
  have e0 : View.ld x0 r0_0 = x0 := View.ld_unit_zero zero2 _ _
  have e1 : View.ld x1 r0_0 = x1 := View.ld_unit_zero zero2 _ _
  have e2 : View.ld x2 r0_3 = x2 := View.ld_unit_zero zero2 _ _
  have e3 : View.ld x3 r0_3 = x3 := View.ld_unit_zero zero2 _ _
  have e4 : View.ld x4 r0_3 = x4 := View.ld_unit_zero zero2 _ _
  have e5 : View.ld x5 r0_0 = x5 := View.ld_unit_zero zero2 _ _
  have e7 : View.ld x7 r0_1 = x7 := View.ld_unit_zero zero2 _ _
  have e8 : View.ld x8 r0_2 = x8 := View.ld_unit_zero zero2 _ _
  have e9 : View.ld x9 r0_1 = x9 := View.ld_unit_zero zero2 _ _
  have e10 : View.ld x10 r0_2 = x10 := View.ld_unit_zero zero2 _ _
  have e11 : View.ld x11 r0_2 = x11 := View.ld_unit_zero zero2 _ _
  have e12 : View.ld x12 r0_2 = x12 := View.ld_unit_zero zero2 _ _
  have e13 : View.ld x13 r0_4 = x13 := View.ld_unit_zero zero2 _ _
  have e14 : View.ld x14 r0_5 = x14 := View.ld_unit_zero zero2 _ _
  rw [out15_ld, e0, e1, e2, e3, e4, e5, e7, e8, e9, e10, e11, e12, e13, e14]

end Cert.Kernel3Ideal.Merge

end
-- ==== Proof.Merge.Math.lean ====
module

public import Idealize.ShloMosaic.Lib.Pointwise

/-!
# The merge of the mixer's branches for one row, written out over the extended reals

The two scans' outputs and the skip are added, gated by a linear map of the normalised row `h`, and normalised group by
group (eight groups of 256 columns) by their root mean square; a product brings them to 1024 columns.  Two more gates of
`h` mix that with the convolution's branch; a last product, gated by a modulation row, is added to the row `x`.  These are the
functions both programs are compared with.
-/

@[expose] public section

noncomputable section

open Idealize.ShloMosaic

namespace Cert.Merge

/-- The logistic function. -/
def sig (p : EReal) : EReal := Ideal.div 1 (1 + Ideal.exp (-p))

/-- A row times a matrix, plus a bias. -/
def lin (h : Fin 1024 → EReal) (W : Fin 1024 → Fin 2048 → EReal) (b : Fin 2048 → EReal) (j : Fin 2048) : EReal := ∑ k, h k * W k j + b j

/-- Column `i` of group `g`. -/
def col (g : Fin 8) (i : Fin 256) : Fin 2048 := ⟨256 * g.val + i.val, by omega⟩

/-- The group of a column. -/
def grp (j : Fin 2048) : Fin 8 := ⟨j.val / 256, by omega⟩

/-- A column's place in its group. -/
def pos (j : Fin 2048) : Fin 256 := ⟨j.val % 256, by omega⟩

theorem col_grp (j : Fin 2048) : col (grp j) (pos j) = j := Fin.ext (by show 256 * (j.val / 256) + j.val % 256 = j.val; omega)

theorem grp_col (g : Fin 8) (i : Fin 256) : grp (col g i) = g := Fin.ext (by show (256 * g.val + i.val) / 256 = g.val; omega)

/-- The scans' outputs with the skip, gated. -/
def gated (yf yb xs d z : Fin 2048 → EReal) (j : Fin 2048) : EReal := (yf j + yb j + d j * xs j) * (z j * sig (z j))

/-- One over the root mean square of one group. -/
def inv (w : Fin 2048 → EReal) (g : Fin 8) : EReal :=
  Ideal.rsqrt (Ideal.div (∑ i, w (col g i) * w (col g i)) (Ideal.ofBits .f32 0x43800000#32) + Ideal.ofBits .f32 0x358637BD#32)

/-- The groups normalised, with a gain. -/
def normed (w nrm : Fin 2048 → EReal) (j : Fin 2048) : EReal := w j * inv w (grp j) * nrm j

/-- Column `q` of the first half. -/
def lo (q : Fin 1024) : Fin 2048 := ⟨q.val, by omega⟩

/-- Column `q` of the second half. -/
def hi (q : Fin 1024) : Fin 2048 := ⟨1024 + q.val, by omega⟩

/-- The two branches, each with its gate. -/
def mixed (u : Fin 2048 → EReal) (yc ys : Fin 1024 → EReal) (q : Fin 1024) : EReal := sig (u (lo q)) * yc q + sig (u (hi q)) * ys q

variable (x h yc gate : Fin 1024 → EReal) (yf yb xs : Fin 2048 → EReal) (Wz : Fin 1024 → Fin 2048 → EReal) (bz : Fin 2048 → EReal)
  (Wg : Fin 1024 → Fin 2048 → EReal) (bg d nrm : Fin 2048 → EReal) (Ws : Fin 2048 → Fin 1024 → EReal) (Wo : Fin 1024 → Fin 1024 → EReal)

/-- The scans' branch. -/
def ys (q : Fin 1024) : EReal := ∑ j, normed (gated yf yb xs d (lin h Wz bz)) nrm j * Ws j q

/-- The row after the mixer. -/
def out (q : Fin 1024) : EReal :=
  x q + gate q * ∑ k, mixed (lin h Wg bg) yc (ys h yf yb xs Wz bz d nrm Ws) k * Wo k q

end Cert.Merge

end
-- ==== Proof.Merge.Block.lean ====
module

public import proofs.«01_k».proof.Proof.Merge.Ops
public import proofs.«01_k».proof.Proof.Merge.Math

/-!
# The kernel's operations on one block of rows, read at an index
-/

@[expose] public section

set_option maxRecDepth 16384

noncomputable section

namespace Cert.Kernel3Ideal.Merge

open Idealize.ShloMosaic Idealize.ShloMosaic.TcCoe Idealize.ShloMosaic.Tactic
open Cert.Kernel3Ideal Cert.Kernel3Ideal.Gen
open Cert.Merge (col grp pos lo hi)

theorem lin_at (h : FVec Ideal S256x1024 .bf16) (W : FVec Ideal S1024x2048 .bf16) (b : FVec Ideal S1x2048 .f32) (r : Fin 256) (j : Fin 2048) :
    lin h W b (ix2 r j) = Cert.Merge.lin (fun k => h (ix2 r k)) (fun k j => W (ix2 k j)) (fun j => b (ix2 0 j)) j := by
  pointwise [lin]
  rfl

theorem logistic_at {a b : ℕ} (p : FVec Ideal ⟨2, ![a, b]⟩ .f32) (r : Fin a) (j : Fin b) : logistic p (ix2 r j) = Cert.Merge.sig (p (ix2 r j)) := by
  pointwise [logistic]
  rw [zero_sub]
  rfl

theorem gated_at (yf yb xs : FVec Ideal S256x2048 .bf16) (d : FVec Ideal S1x2048 .f32) (z : FVec Ideal S256x2048 .f32) (r : Fin 256) (j : Fin 2048) :
    gated yf yb xs d z (ix2 r j) = Cert.Merge.gated (fun j => yf (ix2 r j)) (fun j => yb (ix2 r j)) (fun j => xs (ix2 r j)) (fun j => d (ix2 0 j))
      (fun j => z (ix2 r j)) j := by
  pointwise [gated, logistic_at]
  rfl

theorem part_at (w : FVec Ideal S256x2048 .f32) (g : Fin 8) (r i : Fin 256) : part w g (ix2 r i) = w (ix2 r (col g i)) := by
  pointwise [part]
  rfl

theorem group_at (w : FVec Ideal S256x2048 .f32) (g : Fin 8) (r i : Fin 256) :
    group w g (ix2 r i) = w (ix2 r (col g i)) * Cert.Merge.inv (fun j => w (ix2 r j)) g := by
  pointwise [group, part_at]
  rfl

theorem beside_col (u : Fin 8 → FVec Ideal S256x256 .f32) (r : Fin 256) (g : Fin 8) (i : Fin 256) :
    beside u (ix2 r (col g i)) = u g (ix2 r i) := by
  unfold col
  pointwise [beside]
  have hr := i.isLt
  fin_vals g with hk <;>
  (repeat (first | rw [dif_pos (by omega)] | rw [dif_neg (by omega)])) <;>
  exact congrArg₂ (fun k i => u k (ix2 r i)) (Fin.ext hk.symm) (Fin.ext (by dsimp only; omega))

theorem beside_at (u : Fin 8 → FVec Ideal S256x256 .f32) (r : Fin 256) (j : Fin 2048) :
    beside u (ix2 r j) = u (grp j) (ix2 r (pos j)) := by
  conv_lhs => rw [← Cert.Merge.col_grp j]
  exact beside_col u r _ _

theorem ys_at (w : FVec Ideal S256x2048 .f32) (nrm : FVec Ideal S1x2048 .f32) (W : FVec Ideal S2048x1024 .bf16) (r : Fin 256) (q : Fin 1024) :
    ys w nrm W (ix2 r q) = ∑ j, Cert.Merge.normed (fun j => w (ix2 r j)) (fun j => nrm (ix2 0 j)) j * W (ix2 j q) := by
  pointwise [ys, beside_at, group_at, Cert.Merge.col_grp]
  rfl

theorem mixed_at (u : FVec Ideal S256x2048 .f32) (yc : FVec Ideal S256x1024 .bf16) (y : FVec Ideal S256x1024 .f32) (r : Fin 256) (q : Fin 1024) :
    mixed u yc y (ix2 r q) = Cert.Merge.mixed (fun j => u (ix2 r j)) (fun q => yc (ix2 r q)) (fun q => y (ix2 r q)) q := by
  pointwise [mixed, logistic_at]
  rfl

theorem stepped_at (x : FVec Ideal S256x1024 .f32) (g : FVec Ideal S1x1x1024 .f32) (a : FVec Ideal S256x1024 .bf16) (W : FVec Ideal S1024x1024 .bf16)
    (r : Fin 256) (q : Fin 1024) :
    stepped x g a W (ix2 r q) = x (ix2 r q) + g (ix3 0 0 q) * ∑ k : Fin 1024, a (ix2 r k) * W (ix2 k q) := by
  pointwise [stepped]

variable (x0 : FVec Ideal S256x1024 .f32) (x1 : FVec Ideal S256x1024 .bf16) (x2 x3 x4 : FVec Ideal S256x2048 .bf16) (x5 : FVec Ideal S256x1024 .bf16)
  (x6 : FVec Ideal S1x9x1024 .f32) (x7 : FVec Ideal S1024x2048 .bf16) (x8 : FVec Ideal S1x2048 .f32) (x9 : FVec Ideal S1024x2048 .bf16)
  (x10 x11 x12 : FVec Ideal S1x2048 .f32) (x13 : FVec Ideal S2048x1024 .bf16) (x14 : FVec Ideal S1024x1024 .bf16)

/-- The block after the merge. -/
theorem whole_at (g : FVec Ideal S1x1x1024 .f32) (r : Fin 256) (q : Fin 1024) :
    whole (F := Ideal) x0 x1 x2 x3 x4 x5 x7 x8 x9 x10 x11 x12 x13 x14 g (ix2 r q)
      = Cert.Merge.out (fun k => x0 (ix2 r k)) (fun k => x1 (ix2 r k)) (fun k => x5 (ix2 r k)) (fun k => g (ix3 0 0 k))
        (fun j => x2 (ix2 r j)) (fun j => x3 (ix2 r j)) (fun j => x4 (ix2 r j)) (fun k j => x7 (ix2 k j)) (fun j => x8 (ix2 0 j))
        (fun k j => x9 (ix2 k j)) (fun j => x10 (ix2 0 j)) (fun j => x11 (ix2 0 j)) (fun j => x12 (ix2 0 j)) (fun j q => x13 (ix2 j q))
        (fun k q => x14 (ix2 k q)) q := by
  refine (stepped_at _ _ _ _ r q).trans ?_
  simp only [mixed_at, lin_at, ys_at, gated_at]
  rfl

theorem mrow_at (M : Vec Ideal S1x9x1024 .f32) (k : Fin 1024) : View.ld M r0_6 (ix3 0 0 k) = M (ix3 0 5 k) := by
  pointwise

end Cert.Kernel3Ideal.Merge

end
-- ==== Proof.Merge.Array.lean ====
module

public import proofs.«01_k».proof.Proof.Merge.Block
public import proofs.«01_k».proof.Proof.Gen.Kernel3Ideal.Value
public import Idealize.ShloMosaic.Lib.Pipeline.ValueKit

/-!
# The merge's result array, entry by entry

Point `64 b + j` sees rows `256 j …` of batch entry `b`, that entry's nine modulation rows, the first 2048 columns of the wider
rows, and the gains, biases and matrices whole.
-/

@[expose] public section

set_option maxRecDepth 16384

noncomputable section

namespace Cert.Kernel3Ideal.Merge

open Idealize.ShloMosaic Idealize.ShloMosaic.TcCoe Idealize.ShloMosaic.Tactic
open Idealize.SL Idealize.SL.RA Idealize.SL.Sem
open Cert.Kernel3Ideal Cert.Kernel3Ideal.Gen Cert.Kernel3Ideal.Value

/-- The blocks' places of the operands cut by rows, point by point. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val / 64, 0, 0]
    ∧ win0_15.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val / 64, 0, 0]
    ∧ win0_15.index t = ![t.val, 0])

/-- Those of the operands taken whole. -/
theorem idx_whole : ∀ t : Fin cfg0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0])

/-- Every point writes its block back. -/
theorem flushes : ∀ t : Fin cfg0.N, (cfg0.win 15).flush t = true :=
  (by decide +kernel : ∀ t : Fin grid0.N, (cfg0.win 15).flush t = true)

/-- The point of batch entry `b`'s rows `256 j …`. -/
def pt (b : Fin 2) (j : Fin 64) : Fin cfg0.N := ⟨64 * b.val + j.val, by have : cfg0.N = 128 := rfl; omega⟩

theorem pt_val (b : Fin 2) (j : Fin 64) : (pt b j).val = 64 * b.val + j.val := rfl

/-- Row `r` of that block, among all rows. -/
def brow (b : Fin 2) (j : Fin 64) (r : Fin 256) : Fin 32768 := ⟨b.val * 16384 + (256 * j.val + r.val), by omega⟩

/-- Batch entry `b`'s place among the modulation's three. -/
def bmod (b : Fin 2) : Fin 3 := ⟨b.val, by omega⟩

/-- Column `j` of the columns that gate the scans' outputs, among the input matrix's. -/
def zcol (j : Fin 2048) : Fin 10304 := ⟨2048 + j.val, by omega⟩

/-- Column `j` of the columns that gate the branches, among the input matrix's. -/
def gcol (j : Fin 2048) : Fin 10304 := ⟨8256 + j.val, by omega⟩

/-- Column `j` among the wider rows' columns. -/
def xcol (j : Fin 2048) : Fin 4096 := ⟨j.val, by omega⟩

/-- The head of a column. -/
def head (j : Fin 2048) : Fin 32 := ⟨j.val / 64, by omega⟩

variable (m : (ℓ : Loc nD τ sig) → Buf (Elt Ideal) ℓ) (c : Dev nD) (b : Fin 2) (j : Fin 64)

theorem block0 (r : Fin 256) (k : Fin 1024) : iblk m c 0 (pt b j) (ix2 r k) = m ((c : Thread nD τ).loc main_arg0) (ix2 (brow b j r) k) := by
  obtain ⟨e0, e1, e2, e3, e4, e5, e6, e15⟩ := idx_rows (pt b j)
  blk_ext [iblk, V, e0, pt_val, brow]

theorem block1 (r : Fin 256) (k : Fin 1024) : iblk m c 1 (pt b j) (ix2 r k) = m ((c : Thread nD τ).loc main_arg1) (ix2 (brow b j r) k) := by
  obtain ⟨e0, e1, e2, e3, e4, e5, e6, e15⟩ := idx_rows (pt b j)
  blk_ext [iblk, V, e1, pt_val, brow]

theorem block2 (r : Fin 256) (i : Fin 2048) : iblk m c 2 (pt b j) (ix2 r i) = m ((c : Thread nD τ).loc main_arg2) (ix2 (brow b j r) i) := by
  obtain ⟨e0, e1, e2, e3, e4, e5, e6, e15⟩ := idx_rows (pt b j)
  blk_ext [iblk, V, e2, pt_val, brow]

theorem block3 (r : Fin 256) (i : Fin 2048) : iblk m c 3 (pt b j) (ix2 r i) = m ((c : Thread nD τ).loc main_arg3) (ix2 (brow b j r) i) := by
  obtain ⟨e0, e1, e2, e3, e4, e5, e6, e15⟩ := idx_rows (pt b j)
  blk_ext [iblk, V, e3, pt_val, brow]

theorem block4 (r : Fin 256) (i : Fin 2048) : iblk m c 4 (pt b j) (ix2 r i) = m ((c : Thread nD τ).loc main_arg4) (ix2 (brow b j r) (xcol i)) := by
  obtain ⟨e0, e1, e2, e3, e4, e5, e6, e15⟩ := idx_rows (pt b j)
  blk_ext [iblk, V, e4, pt_val, brow, xcol]

theorem block5 (r : Fin 256) (k : Fin 1024) : iblk m c 5 (pt b j) (ix2 r k) = m ((c : Thread nD τ).loc main_arg5) (ix2 (brow b j r) k) := by
  obtain ⟨e0, e1, e2, e3, e4, e5, e6, e15⟩ := idx_rows (pt b j)
  blk_ext [iblk, V, e5, pt_val, brow]

theorem block6 (n : Fin 9) (k : Fin 1024) : iblk m c 6 (pt b j) (ix3 0 n k) = m ((c : Thread nD τ).loc main_arg6) (ix3 (bmod b) n k) := by
  obtain ⟨e0, e1, e2, e3, e4, e5, e6, e15⟩ := idx_rows (pt b j)
  blk_ext [iblk, V, e6, pt_val, bmod]

theorem zmat_at (W : FVec Ideal S1024x10304 .f32) (k : Fin 1024) (i : Fin 2048) :
    truncf (F := Ideal) .bf16 (extractStridedSlice S1024x2048 ![0, 2048] W slices_S1024x10304_S1024x2048_0_2048) bitsLt_bf16_f32 (ix2 k i) = W (ix2 k (zcol i)) := by
  pointwise
  rfl

theorem gmat_at (W : FVec Ideal S1024x10304 .f32) (k : Fin 1024) (i : Fin 2048) :
    truncf (F := Ideal) .bf16 (extractStridedSlice S1024x2048 ![0, 8256] W slices_S1024x10304_S1024x2048_0_8256) bitsLt_bf16_f32 (ix2 k i) = W (ix2 k (gcol i)) := by
  pointwise
  rfl

theorem zbias_at (f : FVec Ideal S10304 .f32) (i : Fin 2048) :
    shapeCast S1x2048 (extractStridedSlice S2048 ![2048] f slices_S10304_S2048_2048) shapeCasts_S2048_S1x2048 (ix2 0 i) = f (ix1 (zcol i)) := by
  pointwise
  rfl

theorem gbias_at (f : FVec Ideal S10304 .f32) (i : Fin 2048) :
    shapeCast S1x2048 (extractStridedSlice S2048 ![8256] f slices_S10304_S2048_8256) shapeCasts_S2048_S1x2048 (ix2 0 i) = f (ix1 (gcol i)) := by
  pointwise
  rfl

theorem skip_at (f : FVec Ideal S32 .f32) (i : Fin 2048) :
    shapeCast S1x2048 (shapeCast S2048 (broadcastInDim S32x64 ![0] bcast_S32_S32x64_0 f) shapeCasts_S32x64_S2048) shapeCasts_S2048_S1x2048 (ix2 0 i)
      = f (ix1 (head i)) := by
  pointwise
  rfl

theorem gain_at (f : FVec Ideal S2048 .f32) (i : Fin 2048) : shapeCast S1x2048 f shapeCasts_S2048_S1x2048 (ix2 0 i) = f (ix1 i) := by
  pointwise

theorem block7 (k : Fin 1024) (i : Fin 2048) : iblk m c 7 (pt b j) (ix2 k i) = m ((c : Thread nD τ).loc main_arg7) (ix2 k (zcol i)) := by
  obtain ⟨e7, e8, e9, e10, e11, e12, e13, e14⟩ := idx_whole (pt b j)
  trans V m c (Pipeline.arrRef spec0 7) (ix2 k i)
  · blk_ext [iblk, e7]
  · entry_read
    exact zmat_at _ k i

theorem block8 (i : Fin 2048) : iblk m c 8 (pt b j) (ix2 0 i) = m ((c : Thread nD τ).loc main_arg8) (ix1 (zcol i)) := by
  obtain ⟨e7, e8, e9, e10, e11, e12, e13, e14⟩ := idx_whole (pt b j)
  trans V m c (Pipeline.arrRef spec0 8) (ix2 0 i)
  · blk_ext [iblk, e8]
  · entry_read
    exact zbias_at _ i

theorem block9 (k : Fin 1024) (i : Fin 2048) : iblk m c 9 (pt b j) (ix2 k i) = m ((c : Thread nD τ).loc main_arg7) (ix2 k (gcol i)) := by
  obtain ⟨e7, e8, e9, e10, e11, e12, e13, e14⟩ := idx_whole (pt b j)
  trans V m c (Pipeline.arrRef spec0 9) (ix2 k i)
  · blk_ext [iblk, e9]
  · entry_read
    exact gmat_at _ k i

theorem block10 (i : Fin 2048) : iblk m c 10 (pt b j) (ix2 0 i) = m ((c : Thread nD τ).loc main_arg8) (ix1 (gcol i)) := by
  obtain ⟨e7, e8, e9, e10, e11, e12, e13, e14⟩ := idx_whole (pt b j)
  trans V m c (Pipeline.arrRef spec0 10) (ix2 0 i)
  · blk_ext [iblk, e10]
  · entry_read
    exact gbias_at _ i

theorem block11 (i : Fin 2048) : iblk m c 11 (pt b j) (ix2 0 i) = m ((c : Thread nD τ).loc main_arg9) (ix1 (head i)) := by
  obtain ⟨e7, e8, e9, e10, e11, e12, e13, e14⟩ := idx_whole (pt b j)
  trans V m c (Pipeline.arrRef spec0 11) (ix2 0 i)
  · blk_ext [iblk, e11]
  · entry_read
    exact skip_at _ i

theorem block12 (i : Fin 2048) : iblk m c 12 (pt b j) (ix2 0 i) = m ((c : Thread nD τ).loc main_arg10) (ix1 i) := by
  obtain ⟨e7, e8, e9, e10, e11, e12, e13, e14⟩ := idx_whole (pt b j)
  trans V m c (Pipeline.arrRef spec0 12) (ix2 0 i)
  · blk_ext [iblk, e12]
  · entry_read
    exact gain_at _ i

theorem block13 (i : Fin 2048) (k : Fin 1024) : iblk m c 13 (pt b j) (ix2 i k) = m ((c : Thread nD τ).loc main_arg11) (ix2 i k) := by
  obtain ⟨e7, e8, e9, e10, e11, e12, e13, e14⟩ := idx_whole (pt b j)
  trans V m c (Pipeline.arrRef spec0 13) (ix2 i k)
  · blk_ext [iblk, e13]
  · entry_read
    rfl

theorem block14 (i k : Fin 1024) : iblk m c 14 (pt b j) (ix2 i k) = m ((c : Thread nD τ).loc main_arg12) (ix2 i k) := by
  obtain ⟨e7, e8, e9, e10, e11, e12, e13, e14⟩ := idx_whole (pt b j)
  trans V m c (Pipeline.arrRef spec0 14) (ix2 i k)
  · blk_ext [iblk, e14]
  · entry_read
    rfl

/-- Block `(b, j)` of the result's array is its rows `256 j …` of batch entry `b`. -/
theorem read15 (A : FVec Ideal S32768x1024 .f32) (r : Fin 256) (q : Fin 1024) :
    ((cfg0.win 15).blk (pt b j)).view.read (Elt Ideal) A (ix2 r q) = A (ix2 (brow b j r) q) := by
  obtain ⟨e0, e1, e2, e3, e4, e5, e6, e15⟩ := idx_rows (pt b j)
  blk_ext [e15, pt_val, brow]

/-- One row of the result, from the arguments. -/
abbrev row (p : Fin 32768) : Fin 1024 → EReal :=
  Cert.Merge.out (fun k => m ((c : Thread nD τ).loc main_arg0) (ix2 p k)) (fun k => m ((c : Thread nD τ).loc main_arg1) (ix2 p k))
    (fun k => m ((c : Thread nD τ).loc main_arg5) (ix2 p k)) (fun k => m ((c : Thread nD τ).loc main_arg6) (ix3 (bmod b) 5 k))
    (fun i => m ((c : Thread nD τ).loc main_arg2) (ix2 p i)) (fun i => m ((c : Thread nD τ).loc main_arg3) (ix2 p i))
    (fun i => m ((c : Thread nD τ).loc main_arg4) (ix2 p (xcol i))) (fun k i => m ((c : Thread nD τ).loc main_arg7) (ix2 k (zcol i)))
    (fun i => m ((c : Thread nD τ).loc main_arg8) (ix1 (zcol i))) (fun k i => m ((c : Thread nD τ).loc main_arg7) (ix2 k (gcol i)))
    (fun i => m ((c : Thread nD τ).loc main_arg8) (ix1 (gcol i))) (fun i => m ((c : Thread nD τ).loc main_arg9) (ix1 (head i)))
    (fun i => m ((c : Thread nD τ).loc main_arg10) (ix1 i)) (fun i q => m ((c : Thread nD τ).loc main_arg11) (ix2 i q))
    (fun k q => m ((c : Thread nD τ).loc main_arg12) (ix2 k q))

/-- The array of the result. -/
theorem array (r : Fin 256) (q : Fin 1024) :
    (dats m 0 c).arrAt 15 cfg0.N (ix2 (brow b j r) q) = row m c b (brow b j r) q := by
  refine (read15 b j _ r q).symm.trans ((congrFun (blocks15 m c (pt b j) (flushes _)) (ix2 r q)).trans ?_)
  rw [flushed15, out15, View.canon_unit_zero zero2]
  refine Eq.trans (b := whole (F := Ideal) (iblk m c 0 (pt b j)) (iblk m c 1 (pt b j)) (iblk m c 2 (pt b j)) (iblk m c 3 (pt b j)) (iblk m c 4 (pt b j))
    (iblk m c 5 (pt b j)) (iblk m c 7 (pt b j)) (iblk m c 8 (pt b j)) (iblk m c 9 (pt b j)) (iblk m c 10 (pt b j)) (iblk m c 11 (pt b j))
    (iblk m c 12 (pt b j)) (iblk m c 13 (pt b j)) (iblk m c 14 (pt b j)) (View.ld (iblk m c 6 (pt b j)) r0_6) (ix2 r q)) rfl ?_
  rw [whole_at, show (fun k => View.ld (iblk m c 6 (pt b j)) r0_6 (ix3 0 0 k)) = fun k => m ((c : Thread nD τ).loc main_arg6) (ix3 (bmod b) 5 k) from
    funext fun k => (mrow_at _ k).trans (block6 m c b j 5 k)]
  simp only [block0, block1, block2, block3, block4, block5, block7, block8, block9, block10, block11, block12, block13, block14]

/-- Every row is row `r` of some block. -/
theorem brow_of (l : Fin 16384) : ∃ j r, (⟨b.val * 16384 + l.val, by omega⟩ : Fin 32768) = brow b j r :=
  ⟨⟨l.val / 256, by omega⟩, ⟨l.val % 256, by omega⟩, Fin.ext (by show b.val * 16384 + l.val = b.val * 16384 + (256 * (l.val / 256) + l.val % 256); omega)⟩

end Cert.Kernel3Ideal.Merge

end
-- ==== Proof.Merge.Ref.lean ====
module

public import proofs.«01_k».proof.Proof.Gen.Reference3Ideal.Run
public import proofs.«01_k».proof.Proof.Merge.Math

/-!
# The reference's merge, read at an index

The arrays the reference computes on the way, named, and each read at an index as a function of `Math.lean`.
-/

@[expose] public section

set_option maxRecDepth 16384

noncomputable section

namespace Cert.Reference3Ideal.Merge

open Idealize.ShloMosaic Idealize.ShloMosaic.TcCoe
open Cert.Reference3Ideal Cert.Reference3Ideal.Gen Cert.Reference3Ideal.Value

variable {F : FTy → Type} [FloatOps F]

/-- The normalised rows times the input matrix, plus its bias. -/
def proj (h : FVec F S32768x1024 .bf16) (W : FVec F S1024x10304 .f32) (b : FVec F S10304 .f32) : FVec F S2x16384x10304 .f32 :=
  addf (Host.dotGeneral dot_S2x16384x1024_S1024x10304_S2x16384x10304_2_0_01_1_n_n none
      (shapeCast _ (extf .f32 h bitsLt_bf16_f32) shapeCasts_S32768x1024_S2x16384x1024) W)
    (broadcastInDim S2x16384x10304 ![0, 1, 2] bcast_S1x1x10304_S2x16384x10304_0_1_2 (broadcastInDim S1x1x10304 ![2] bcast_S10304_S1x1x10304_2 b))

/-- The columns that gate the scans' outputs. -/
def zcols (p : FVec F S2x16384x10304 .f32) : FVec F S2x16384x2048 .f32 :=
  extractStridedSlice S2x16384x2048 ![0, 0, 2048] p slices_S2x16384x10304_S2x16384x2048_0_0_2048

/-- The columns that gate the two branches. -/
def gcols (p : FVec F S2x16384x10304 .f32) : FVec F S2x16384x2048 .f32 :=
  extractStridedSlice S2x16384x2048 ![0, 0, 8256] p slices_S2x16384x10304_S2x16384x2048_0_0_8256

/-- The logistic function, entry by entry. -/
def logistic (p : FVec F S2x16384x2048 .f32) : FVec F S2x16384x2048 .f32 :=
  Host.divf (broadcastInDim S2x16384x2048 ![] bcast_S_S2x16384x2048 (constant S_ .f32 0x3F800000#32))
    (addf (broadcastInDim S2x16384x2048 ![] bcast_S_S2x16384x2048 (constant S_ .f32 0x3F800000#32)) (Host.exp (Host.negf p)))

/-- Rows of 2048 columns, by group, head and lane. -/
def heads (y : FVec F S32768x2048 .bf16) : FVec F S2x16384x8x4x64 .f32 := shapeCast _ (extf .f32 y bitsLt_bf16_f32) shapeCasts_S32768x2048_S2x16384x8x4x64

/-- The scans' outputs with the skip. -/
def skipped (yf yb : FVec F S32768x2048 .bf16) (xbc : FVec F S32768x4096 .bf16) (d : FVec F S32 .f32) : FVec F S2x16384x2048 .f32 :=
  shapeCast _ (addf (addf (heads yf) (heads yb))
    (mulf (broadcastInDim S2x16384x8x4x64 ![0, 1, 2, 3, 4] bcast_S1x1x8x4x1_S2x16384x8x4x64_0_1_2_3_4
        (broadcastInDim S1x1x8x4x1 ![2, 3, 4] bcast_S8x4x1_S1x1x8x4x1_2_3_4 (shapeCast _ d shapeCasts_S32_S8x4x1)))
      (shapeCast _ (extf .f32 (extractStridedSlice S32768x2048 ![0, 0] xbc slices_S32768x4096_S32768x2048_0_0) bitsLt_bf16_f32)
        shapeCasts_S32768x2048_S2x16384x8x4x64))) shapeCasts_S2x16384x8x4x64_S2x16384x2048

/-- The same, gated, by group. -/
def gated (s z : FVec F S2x16384x2048 .f32) : FVec F S2x16384x8x256 .f32 :=
  shapeCast _ (mulf s (mulf z (logistic z))) shapeCasts_S2x16384x2048_S2x16384x8x256

/-- Every group normalised by its root mean square, with a gain. -/
def normed (w : FVec F S2x16384x8x256 .f32) (g : FVec F S2048 .f32) : FVec F S2x16384x2048 .f32 :=
  shapeCast _ (mulf (mulf w (broadcastInDim S2x16384x8x256 ![0, 1, 2, 3] bcast_S2x16384x8x1_S2x16384x8x256_0_1_2_3 (Host.rsqrt (addf
      (Host.divf (broadcastInDim S2x16384x8x1 ![0, 1, 2] bcast_S2x16384x8_S2x16384x8x1_0_1_2
          (Host.reduceAdd (mulf w w) (constant S_ .f32 0x00000000#32) reducesTo_S2x16384x8x256_S2x16384x8_d3 h_S_))
        (broadcastInDim S2x16384x8x1 ![] bcast_S_S2x16384x8x1 (constant S_ .f32 0x43800000#32)))
      (broadcastInDim S2x16384x8x1 ![] bcast_S_S2x16384x8x1 (constant S_ .f32 0x358637BD#32))))))
    (broadcastInDim S2x16384x8x256 ![0, 1, 2, 3] bcast_S1x1x8x256_S2x16384x8x256_0_1_2_3
      (broadcastInDim S1x1x8x256 ![2, 3] bcast_S8x256_S1x1x8x256_2_3 (shapeCast _ g shapeCasts_S2048_S8x256)))) shapeCasts_S2x16384x8x256_S2x16384x2048

/-- The scans' branch. -/
def ys (v : FVec F S2x16384x2048 .f32) (W : FVec F S2048x1024 .f32) : FVec F S2x16384x1024 .f32 :=
  Host.dotGeneral dot_S2x16384x2048_S2048x1024_S2x16384x1024_2_0_01_1_n_n none v W

/-- The two branches, each with its gate. -/
def mixed (u : FVec F S2x16384x2048 .f32) (yc : FVec F S32768x1024 .bf16) (y : FVec F S2x16384x1024 .f32) : FVec F S2x16384x1024 .f32 :=
  addf (mulf (extractStridedSlice S2x16384x1024 ![0, 0, 0] (logistic u) slices_S2x16384x2048_S2x16384x1024_0_0_0)
      (shapeCast _ (extf .f32 yc bitsLt_bf16_f32) shapeCasts_S32768x1024_S2x16384x1024))
    (mulf (extractStridedSlice S2x16384x1024 ![0, 0, 1024] (logistic u) slices_S2x16384x2048_S2x16384x1024_0_0_1024) y)

/-- The rows plus the gated product of the mix. -/
def stepped (x : FVec F S32768x1024 .f32) (M : FVec F S3x9x1024 .f32) (a : FVec F S2x16384x1024 .f32) (W : FVec F S1024x1024 .f32) : FVec F S2x16384x1024 .f32 :=
  addf (shapeCast _ x shapeCasts_S32768x1024_S2x16384x1024)
    (mulf (broadcastInDim S2x16384x1024 ![0, 1, 2] bcast_S2x1x1024_S2x16384x1024_0_1_2 (broadcastInDim S2x1x1024 ![0, 2] bcast_S2x1024_S2x1x1024_0_2
        (shapeCast _ (extractStridedSlice S2x1x1024 ![0, 5, 0] M slices_S3x9x1024_S2x1x1024_0_5_0) shapeCasts_S2x1x1024_S2x1024)))
      (Host.dotGeneral dot_S2x16384x1024_S1024x1024_S2x16384x1024_2_0_01_1_n_n none a W))

variable (a0 : FVec F S32768x1024 .f32) (a1 : FVec F S32768x1024 .bf16) (a2 a3 : FVec F S32768x2048 .bf16) (a4 : FVec F S32768x4096 .bf16)
  (a5 : FVec F S32768x1024 .bf16) (a6 : FVec F S3x9x1024 .f32) (a7 : FVec F S1024x10304 .f32) (a8 : FVec F S10304 .f32) (a9 : FVec F S32 .f32)
  (a10 : FVec F S2048 .f32) (a11 : FVec F S2048x1024 .f32) (a12 : FVec F S1024x1024 .f32)

/-- The rows after the mixer. -/
def whole : FVec F S2x16384x1024 .f32 :=
  stepped a0 a6 (mixed (gcols (proj a1 a7 a8)) a5 (ys (normed (gated (skipped a2 a3 a4 a9) (zcols (proj a1 a7 a8))) a10) a11)) a12

theorem res (m : (ℓ : Loc nD τ sig) → Buf (Elt F) ℓ) (c : Dev nD) :
    res_out0 m c = shapeCast S32768x1024 (whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12))) shapeCasts_S2x16384x1024_S32768x1024 := by
  rfl

end Cert.Reference3Ideal.Merge

namespace Cert.Reference3Ideal.Merge

open Idealize.ShloMosaic Idealize.ShloMosaic.TcCoe
open Cert.Reference3Ideal Cert.Reference3Ideal.Gen Cert.Reference3Ideal.Value
open Cert.Merge (col grp pos lo hi)

/-- The row of position `l` of batch entry `b`. -/
def row (b : Fin 2) (l : Fin 16384) : Fin 32768 := ⟨b.val * 16384 + l.val, by omega⟩

/-- Batch entry `b`'s place among the modulation's three. -/
def bmod (b : Fin 2) : Fin 3 := ⟨b.val, by omega⟩

/-- Column `j` of the columns that gate the scans' outputs, among the input matrix's. -/
def zcol (j : Fin 2048) : Fin 10304 := ⟨2048 + j.val, by omega⟩

/-- Column `j` of the columns that gate the branches, among the input matrix's. -/
def gcol (j : Fin 2048) : Fin 10304 := ⟨8256 + j.val, by omega⟩

/-- Column `j` among the wider rows' columns. -/
def xcol (j : Fin 2048) : Fin 4096 := ⟨j.val, by omega⟩

/-- The head of a column. -/
def head (j : Fin 2048) : Fin 32 := ⟨j.val / 64, by omega⟩

theorem proj_at (h : FVec Ideal S32768x1024 .bf16) (W : FVec Ideal S1024x10304 .f32) (b : FVec Ideal S10304 .f32) (a : Fin 2) (l : Fin 16384) (j : Fin 10304) :
    proj h W b (ix3 a l j) = ∑ k : Fin 1024, h (ix2 (row a l) k) * W (ix2 k j) + b (ix1 j) := by
  pointwise [proj]
  rfl

theorem zcols_at (h : FVec Ideal S32768x1024 .bf16) (W : FVec Ideal S1024x10304 .f32) (b : FVec Ideal S10304 .f32) (a : Fin 2) (l : Fin 16384) (j : Fin 2048) :
    zcols (proj h W b) (ix3 a l j) = Cert.Merge.lin (fun k => h (ix2 (row a l) k)) (fun k j => W (ix2 k (zcol j))) (fun j => b (ix1 (zcol j))) j := by
  pointwise [zcols, proj_at]
  rfl

theorem gcols_at (h : FVec Ideal S32768x1024 .bf16) (W : FVec Ideal S1024x10304 .f32) (b : FVec Ideal S10304 .f32) (a : Fin 2) (l : Fin 16384) (j : Fin 2048) :
    gcols (proj h W b) (ix3 a l j) = Cert.Merge.lin (fun k => h (ix2 (row a l) k)) (fun k j => W (ix2 k (gcol j))) (fun j => b (ix1 (gcol j))) j := by
  pointwise [gcols, proj_at]
  rfl

theorem logistic_at (p : FVec Ideal S2x16384x2048 .f32) (a : Fin 2) (l : Fin 16384) (j : Fin 2048) : logistic p (ix3 a l j) = Cert.Merge.sig (p (ix3 a l j)) := by
  pointwise [logistic]
  rfl

theorem skipped_at (yf yb : FVec Ideal S32768x2048 .bf16) (xbc : FVec Ideal S32768x4096 .bf16) (d : FVec Ideal S32 .f32) (a : Fin 2) (l : Fin 16384) (j : Fin 2048) :
    skipped yf yb xbc d (ix3 a l j)
      = yf (ix2 (row a l) j) + yb (ix2 (row a l) j) + d (ix1 (head j)) * xbc (ix2 (row a l) (xcol j)) := by
  pointwise [skipped, heads]
  rw [show (⟨j.val / 256 * 4 + j.val / 64 % 4, by omega⟩ : Fin 32) = head j from Fin.ext (by show j.val / 256 * 4 + j.val / 64 % 4 = j.val / 64; omega)]
  rfl

theorem gated_at (s z : FVec Ideal S2x16384x2048 .f32) (a : Fin 2) (l : Fin 16384) (g : Fin 8) (i : Fin 256) :
    gated s z (ix4 a l g i) = s (ix3 a l (col g i)) * (z (ix3 a l (col g i)) * Cert.Merge.sig (z (ix3 a l (col g i)))) := by
  pointwise [gated, logistic_at]
  rw [show (⟨g.val * 256 + i.val, by omega⟩ : Fin 2048) = col g i from Fin.ext (by show g.val * 256 + i.val = 256 * g.val + i.val; omega)]

theorem normed_at (w : FVec Ideal S2x16384x8x256 .f32) (n : FVec Ideal S2048 .f32) (v : Fin 2048 → EReal) (a : Fin 2) (l : Fin 16384)
    (h : ∀ g i, w (ix4 a l g i) = v (col g i)) (j : Fin 2048) :
    normed w n (ix3 a l j) = Cert.Merge.normed v (fun j => n (ix1 j)) j := by
  pointwise [normed, h]
  refine Eq.trans (b := v (col (grp j) (pos j)) * Cert.Merge.inv v (grp j) * n (ix1 j)) rfl ?_
  rw [Cert.Merge.col_grp]
  rfl

theorem ys_at (v : FVec Ideal S2x16384x2048 .f32) (W : FVec Ideal S2048x1024 .f32) (a : Fin 2) (l : Fin 16384) (q : Fin 1024) :
    ys v W (ix3 a l q) = ∑ j : Fin 2048, v (ix3 a l j) * W (ix2 j q) := by
  pointwise [ys]

theorem mixed_at (u : FVec Ideal S2x16384x2048 .f32) (yc : FVec Ideal S32768x1024 .bf16) (y : FVec Ideal S2x16384x1024 .f32) (a : Fin 2) (l : Fin 16384)
    (q : Fin 1024) :
    mixed u yc y (ix3 a l q) = Cert.Merge.mixed (fun j => u (ix3 a l j)) (fun q => yc (ix2 (row a l) q)) (fun q => y (ix3 a l q)) q := by
  pointwise [mixed, logistic_at]
  rfl

theorem stepped_at (x : FVec Ideal S32768x1024 .f32) (M : FVec Ideal S3x9x1024 .f32) (v : FVec Ideal S2x16384x1024 .f32) (W : FVec Ideal S1024x1024 .f32)
    (a : Fin 2) (l : Fin 16384) (q : Fin 1024) :
    stepped x M v W (ix3 a l q) = x (ix2 (row a l) q) + M (ix3 (bmod a) 5 q) * ∑ k : Fin 1024, v (ix3 a l k) * W (ix2 k q) := by
  pointwise [stepped]
  rfl

variable (a0 : FVec Ideal S32768x1024 .f32) (a1 : FVec Ideal S32768x1024 .bf16) (a2 a3 : FVec Ideal S32768x2048 .bf16) (a4 : FVec Ideal S32768x4096 .bf16)
  (a5 : FVec Ideal S32768x1024 .bf16) (a6 : FVec Ideal S3x9x1024 .f32) (a7 : FVec Ideal S1024x10304 .f32) (a8 : FVec Ideal S10304 .f32) (a9 : FVec Ideal S32 .f32)
  (a10 : FVec Ideal S2048 .f32) (a11 : FVec Ideal S2048x1024 .f32) (a12 : FVec Ideal S1024x1024 .f32)

/-- The rows after the mixer. -/
theorem whole_at (a : Fin 2) (l : Fin 16384) (q : Fin 1024) :
    whole a0 a1 a2 a3 a4 a5 a6 a7 a8 a9 a10 a11 a12 (ix3 a l q)
      = Cert.Merge.out (fun k => a0 (ix2 (row a l) k)) (fun k => a1 (ix2 (row a l) k)) (fun k => a5 (ix2 (row a l) k)) (fun k => a6 (ix3 (bmod a) 5 k))
        (fun j => a2 (ix2 (row a l) j)) (fun j => a3 (ix2 (row a l) j)) (fun j => a4 (ix2 (row a l) (xcol j))) (fun k j => a7 (ix2 k (zcol j)))
        (fun j => a8 (ix1 (zcol j))) (fun k j => a7 (ix2 k (gcol j))) (fun j => a8 (ix1 (gcol j))) (fun j => a9 (ix1 (head j)))
        (fun j => a10 (ix1 j)) (fun j q => a11 (ix2 j q)) (fun k q => a12 (ix2 k q)) q := by
  refine (stepped_at _ _ _ _ a l q).trans ?_
  have e : ∀ j, normed (gated (skipped a2 a3 a4 a9) (zcols (proj a1 a7 a8))) a10 (ix3 a l j) = _ := fun j =>
    normed_at _ a10 (Cert.Merge.gated (fun j => a2 (ix2 (row a l) j)) (fun j => a3 (ix2 (row a l) j)) (fun j => a4 (ix2 (row a l) (xcol j)))
      (fun j => a9 (ix1 (head j))) (Cert.Merge.lin (fun k => a1 (ix2 (row a l) k)) (fun k j => a7 (ix2 k (zcol j))) (fun j => a8 (ix1 (zcol j))))) a l
      (fun g i => by rw [gated_at, skipped_at, zcols_at]; rfl) j
  simp only [mixed_at, gcols_at, ys_at, e]
  rfl

/-- Rows laid out one batch entry after the other. -/
theorem flat_at (x : FVec Ideal S2x16384x1024 .f32) (a : Fin 2) (l : Fin 16384) (q : Fin 1024) :
    shapeCast S32768x1024 x shapeCasts_S2x16384x1024_S32768x1024 (ix2 (row a l) q) = x (ix3 a l q) := by
  unfold row
  pointwise

end Cert.Reference3Ideal.Merge

end
-- ==== Proof.Merge.Equation.lean ====
module

public import proofs.«01_k».proof.Proof.Merge.Array
public import proofs.«01_k».proof.Proof.Merge.Ref

/-!
# Kernel and reference end the merge with the same array
-/

@[expose] public section

set_option maxRecDepth 16384

noncomputable section

namespace Cert.MergeEquation

open Idealize.ShloMosaic Idealize.ShloMosaic.TcCoe Idealize.SL.Sem
open Cert.Kernel3Ideal (nD τ sig main_arg0 main_arg1 main_arg2 main_arg3 main_arg4 main_arg5 main_arg6 main_arg7 main_arg8 main_arg9 main_arg10 main_arg11 main_arg12)
open Cert.Reference3Ideal.Merge (row whole)

variable (m : (ℓ : Loc nD τ sig) → Buf (Elt Ideal) ℓ) (c : Dev nD)

/-- Every index lies in a row of one of the two batch entries. -/
theorem ix_of (i : (⟨2, ![32768, 1024]⟩ : Shape).Idx) : ∃ b l q, i = ix2 (row b l) q := by
  obtain ⟨p, q, rfl⟩ : ∃ (p : Fin 32768) (q : Fin 1024), i = ix2 p q := ⟨i 0, i 1, eq_ix2 i⟩
  exact ⟨⟨p.val / 16384, by omega⟩, ⟨p.val % 16384, by omega⟩, q, congrArg (ix2 · q) (Fin.ext (by show p.val = p.val / 16384 * 16384 + p.val % 16384; omega))⟩

/-- The rows after the mixer agree. -/
theorem y_eq : shapeCast (⟨2, ![32768, 1024]⟩ : Shape) (whole (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12))) Cert.Reference3Ideal.Gen.shapeCasts_S2x16384x1024_S32768x1024
    = (Cert.Kernel3Ideal.Gen.dats m 0 c).arrAt 15 Cert.Kernel3Ideal.cfg0.N := by
  funext i
  obtain ⟨b, l, q, rfl⟩ := ix_of i
  obtain ⟨j, r, e⟩ := Cert.Kernel3Ideal.Merge.brow_of b l
  rw [Cert.Reference3Ideal.Merge.flat_at, Cert.Reference3Ideal.Merge.whole_at, show row b l = Cert.Kernel3Ideal.Merge.brow b j r from e]
  exact (Cert.Kernel3Ideal.Merge.array m c b j r q).symm

end Cert.MergeEquation

end
-- ==== Proof.ScanKernel.RunA.lean ====
/- The run of one grid point of the scan, case A. -/
module

public import proofs.«01_k».proof.Proof.Gen.Kernel.Frame.Runs
public import proofs.«01_k».proof.Proof.ScanKernel.Indep

@[expose] public section

-- membership in a rectangle of production extents (`View.cover_of_tiled`): the elaborator's structural look
-- recurses once per coordinate of the long axes
set_option maxRecDepth 16384

noncomputable section

namespace Cert.Kernel.Scan

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case A (the first block of a sequence: the state is set to the initial state first): the pieces its stores leave in the `y` block, the final
    state's block and the carried state, with the proof that the body runs and leaves them. The pieces are read off the
    run; the chunk loop's are taken with an arbitrary `y` block at loop entry (`pb_indep`). -/
noncomputable def kernelRun0_A (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) :
    { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, fun E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _; iexact HS0

end Cert.Kernel.Scan

end
-- ==== Proof.ScanKernel.RunB.lean ====
/- The run of one grid point of the scan, case B. -/
module

public import proofs.«01_k».proof.Proof.Gen.Kernel.Frame.Runs
public import proofs.«01_k».proof.Proof.ScanKernel.Indep

@[expose] public section

-- membership in a rectangle of production extents (`View.cover_of_tiled`): the elaborator's structural look
-- recurses once per coordinate of the long axes
set_option maxRecDepth 16384

noncomputable section

namespace Cert.Kernel.Scan

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case B (a block in the middle of a sequence): the pieces its stores leave in the `y` block, the final
    state's block and the carried state, with the proof that the body runs and leaves them. The pieces are read off the
    run; the chunk loop's are taken with an arbitrary `y` block at loop entry (`pb_indep`). -/
noncomputable def kernelRun0_B (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) :
    { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, fun E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _; iexact HS0

end Cert.Kernel.Scan

end
-- ==== Proof.ScanKernel.RunC.lean ====
/- The run of one grid point of the scan, case C. -/
module

public import proofs.«01_k».proof.Proof.Gen.Kernel.Frame.Runs
public import proofs.«01_k».proof.Proof.ScanKernel.Indep

@[expose] public section

-- membership in a rectangle of production extents (`View.cover_of_tiled`): the elaborator's structural look
-- recurses once per coordinate of the long axes
set_option maxRecDepth 16384

noncomputable section

namespace Cert.Kernel.Scan

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- One grid point of the scan, in case C (the last block of a sequence: the state is copied out last): the pieces its stores leave in the `y` block, the final
    state's block and the carried state, with the proof that the body runs and leaves them. The pieces are read off the
    run; the chunk loop's are taken with an arbitrary `y` block at loop entry (`pb_indep`). -/
noncomputable def kernelRun0_C (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) :
    { LS0 : List (View.Piece (Elt F) S8x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0)) -∗ K ⟨⟩))
          ⊢ wp frame (wpE (defs₀ (F := F)) Variants.none c none) E (cc0_ssd_scan_fwd i arg2 harg2 arg3 harg3 arg4 harg4 arg5 harg5 arg6 harg6 arg7 harg7 arg8 harg8 arg9 harg9 arg10 harg10) K } := by
  refine ⟨?_, fun E K => ?run⟩
  case run =>
    simp only [cc0_ssd_scan_fwd_eq_skeleton]; unfold cc0_ssd_scan_fwd_skel
    simp only [k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    rw [pb_indep (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _; iexact HS0

end Cert.Kernel.Scan

end
-- ==== Proof.ScanKernel.Frame.lean ====
/- The frame of the scan: what its outputs and the carried state hold point by point, from the runs of the three cases. -/
module

public import proofs.«01_k».proof.Proof.ScanKernel.RunA
public import proofs.«01_k».proof.Proof.ScanKernel.RunB
public import proofs.«01_k».proof.Proof.ScanKernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Scan

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: one of them a store of the whole buffer (Lib/Ring.lean `sl_whole_mem`). -/
theorem scover0_A_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (y : S8x128x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_wholeMem (kernelRun0_A c i arg2 harg2 arg3 harg3 arg4 harg4 arg5 harg5 arg6 harg6 arg7 harg7 arg8 harg8 arg9 harg9 arg10 harg10 hc0 hc1 x0 x1 x2 x3 x4 x5).1 (by sl_whole_mem) y

/-- What case A leaves in scratch `arg10`: its pieces read back over junk. -/
def sout0_A_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) : Vec F S8x128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).1)

/-- Case B's pieces for scratch `arg10`, which the kernel carries between points, cover it: 32 pieces of `S1x128x256` tiling it (Lib/Ring.lean `Piece.tiledL`). -/
theorem scover0_B_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S8x128x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S1x128x256.size (by sl_kernel_rfl) y

/-- What case B leaves in scratch `arg10`: its pieces read back over junk. -/
def sout0_B_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : ¬cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S8x128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).1)

/-- Case C's pieces for scratch `arg10`, which the kernel carries between points, cover it: 32 pieces of `S1x128x256` tiling it (Lib/Ring.lean `Piece.tiledL`). -/
theorem scover0_C_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) (y : S8x128x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S1x128x256.size (by sl_kernel_rfl) y

/-- What case C leaves in scratch `arg10`: its pieces read back over junk. -/
def sout0_C_0 (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x128 .f32) (harg5 : arg5.IsWhole) (arg6 : Memref sig .tc .vmem S1x128 .f32) (harg6 : arg6.IsWhole) (arg7 : Memref sig .tc .vmem S1x8x128x256 .f32) (harg7 : arg7.IsWhole) (arg8 : Memref sig .tc .vmem S512x2048 .bf16) (harg8 : arg8.IsWhole) (arg9 : Memref sig .tc .vmem S1x8x128x256 .f32) (harg9 : arg9.IsWhole) (arg10 : Memref sig .tc .vmem S8x128x256 .f32) (harg10 : arg10.IsWhole) (hc0 : ¬cond0_0 i) (hc1 : cond0_1 i)
    (x0 : Vec F S512x2048 .bf16) (x1 : Vec F S512x1024 .bf16) (x2 : Vec F S512x1024 .bf16) (x3 : Vec F S512x128 .f32) (x4 : Vec F S1x128 .f32) (x5 : Vec F S1x8x128x256 .f32) (xs0 : Vec F S8x128x256 .f32) : Vec F S8x128x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).1)

/-! ## What the outputs hold after each point -/

/-- The accumulation. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128x256 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 32 = 0 then
      if h1 : (n + 1) % 32 = 31 then
        False.elim (by have hN : n + 1 < 64 := lt_of_lt_of_eq hn (show cfg0.N = 64 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 32 = 31 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 32 = 0) (h1 : ¬t.val % 32 = 31) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel carries between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate forgets (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m c t, PhiS_pos m c _ _ hz]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold sout0_C_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold sout0_B_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, H6, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget_shared`'s implicit arguments are found by unifying its conclusion with this one, which takes unfolding plain
-- definitions in a metavariable's type
set_option backward.isDefEq.respectTransparency.types false in
/-- The launch: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- After the run an input window's array holds what it held when the region was entered. -/
theorem kept {r : PUnit × MemSt nD τ sig (Elt F)}
    (h : Pipeline.RDat.FramePost (cfgs 0) (fun c => (dats m 0 c).toRForget forgets0) (V m) r) (c : Dev nD) (w : Fin cfg0.W)
    (hin : (cfg0.win w).isOut = false) :
    r.2.mem ((spec0 w).arr.view.loc (c.tc : Thread nD τ)) = V m c (Pipeline.arrRef spec0 w) :=
  (((congrFun (((dats m 0 c).toRForget forgets0).ArrAt_in w hin cfg0.N) _).mp ((h c).1 w)).trans (A_eq m c w))

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(kept m h c 2 rfl).trans (V_main_arg0 m c), (kept m h c 3 rfl).trans (V_main_arg1 m c),
      ((h c).2 main_arg2 (Pipeline.mem_restRefs_of main_arg2 (by decide) (by decide))).trans (V_main_arg2 m c),
      (kept m h c 5 rfl).trans (V_main_arg3 m c)⟩) (run_main m ρ)

/-- The frame: `Cert.quiescent_Kernel`'s statement (Defs.lean) at any `F`,
    the frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Scan

end
-- ==== Proof.Features.Ops.lean ====
module

public import proofs.«01_k».proof.Proof.Gen.Kernel6Ideal.Frame

/-!
# What the features' kernel computes at one grid point

The projected rows of a block with their margins go into the scratch; the loop over lane blocks writes the output 64 rows at a time,
each from five rows-shifted tiles of the scratch; the steps are one array operation.
-/

@[expose] public section

set_option maxRecDepth 16384

noncomputable section

namespace Cert.Kernel6Ideal.Features

open Idealize.ShloMosaic Idealize.ShloMosaic.TcCoe Idealize.ShloMosaic.Tactic
open Idealize.SL Idealize.SL.RA Idealize.SL.Sem
open Cert.Kernel6Ideal Cert.Kernel6Ideal.Gen

variable {F : FTy → Type} [FloatOps F]

/-- One tap: a tile times a row of weights. -/
def tap (u : FVec F S64x128 .f32) (w : FVec F S1x128 .f32) : FVec F S64x128 .f32 := mulf u (broadcastTo S64x128 w broadcasts_S1x128_S64x128)

/-- Five taps and the bias. -/
def taps (u : Fin 5 → FVec F S64x128 .f32) (w : Fin 5 → FVec F S1x128 .f32) (b : FVec F S1x128 .f32) : FVec F S64x128 .f32 :=
  addf (addf (addf (addf (addf (addf (broadcast S64x128 (Scalar.ofBits .f32 0x00000000#32)) (tap (u 0) (w 0))) (tap (u 1) (w 1))) (tap (u 2) (w 2)))
    (tap (u 3) (w 3))) (tap (u 4) (w 4))) (broadcastTo S64x128 (shapeCast S1x128 b shapeCasts_S1x128_S1x128) broadcasts_S1x128_S64x128)

/-- The value times its logistic. -/
def act (v : FVec F S64x128 .f32) : FVec F S64x128 .bf16 :=
  truncf .bf16 (mulf v (divf (broadcast S64x128 (Scalar.ofBits .f32 0x3F800000#32)) (addf (broadcast S64x128 (Scalar.ofBits .f32 0x3F800000#32))
    (exp (subf (broadcast S64x128 (Scalar.ofBits .f32 0x00000000#32)) v))))) bitsLt_bf16_f32

/-- The first row of the sequence that block `n` of 512 rows belongs to. -/
def lo (n : ℕ) : BitVec 32 :=
  Scalar.muli
    (Scalar.select
      (Scalar.andi
        (Scalar.cmpi .ne
          (Scalar.subi (Scalar.extui (Scalar.cmpi .sgt (Scalar.muli (BitVec.ofNat 32 n) 512#32) 0#32))
            (Scalar.extui (Scalar.cmpi .slt (Scalar.muli (BitVec.ofNat 32 n) 512#32) 0#32)))
          1#32)
        (Scalar.cmpi .ne (Scalar.remsi (Scalar.muli (BitVec.ofNat 32 n) 512#32) 16384#32) 0#32))
      (Scalar.subi (Scalar.divsi (Scalar.muli (BitVec.ofNat 32 n) 512#32) 16384#32) 1#32)
      (Scalar.divsi (Scalar.muli (BitVec.ofNat 32 n) 512#32) 16384#32))
    16384#32

/-- The rows' numbers among all rows. -/
def rows (i : grid0.Coords) : IVec S544x1 32 :=
  addi (broadcast S544x1 (Scalar.subi (Scalar.muli (BitVec.ofNat 32 (i 0).val) 512#32) 16#32)) (iota .tc S544x1 32 [0] iota_S544x1_d0_w32)

/-- Which rows lie in the block's own sequence. -/
def valid (i : grid0.Coords) : IVec S544x1 1 :=
  andi (cmpi .sge (rows i) (broadcast S544x1 (lo (i 0).val))) (cmpi .slt (rows i) (broadcast S544x1 (Scalar.addi (lo (i 0).val) 16384#32)))

/-- The block's rows with their margins, projected. -/
def projected (x0 : FVec F S16x1024 .bf16) (x1 : FVec F S512x1024 .bf16) (x2 : FVec F S16x1024 .bf16) (x3 : FVec F S1024x4096 .bf16)
    (x4 : FVec F S1x4096 .f32) : FVec F S544x4096 .f32 :=
  addf (matmul dot_S544x1024_S1024x4096_S544x4096_1_0_0_1_n_n none
      (concatenate S544x1024 0 [⟨S16x1024, x0⟩, ⟨S512x1024, x1⟩, ⟨S16x1024, x2⟩] concatenates_S16x1024_S512x1024_S16x1024_S544x1024_d0)
      (shapeCast S1024x4096 x3 shapeCasts_S1024x4096_S1024x4096) (constant S544x4096 .f32 0x00000000#32))
    (broadcastTo S544x4096 (shapeCast S1x4096 x4 shapeCasts_S1x4096_S1x4096) broadcasts_S1x4096_S544x4096)

/-- The same, with zeros in the rows of other sequences: what the scratch holds. -/
def masked (i : grid0.Coords) (x : FVec F S544x4096 .f32) : FVec F S544x4096 .f32 :=
  shapeCast S544x4096 (select (broadcastTo S544x4096 (shapeCast S544x1 (valid i) shapeCasts_S544x1_S544x1) broadcasts_S544x1_S544x4096) x
    (broadcast S544x4096 (Scalar.ofBits .f32 0x00000000#32))) shapeCasts_S544x4096_S544x4096

/-- The steps' projection. -/
def stepRows (x1 : FVec F S512x1024 .bf16) (x5 : FVec F S1024x128 .bf16) (x6 : FVec F S1x128 .f32) : FVec F S512x128 .f32 :=
  addf (matmul dot_S512x1024_S1024x128_S512x128_1_0_0_1_n_n none x1 (shapeCast S1024x128 x5 shapeCasts_S1024x128_S1024x128)
      (constant S512x128 .f32 0x00000000#32))
    (broadcastTo S512x128 (shapeCast S1x128 x6 shapeCasts_S1x128_S1x128) broadcasts_S1x128_S512x128)

/-- The steps: the softplus in the first 64 lanes, zero in the others. -/
def steps (d : FVec F S512x128 .f32) : FVec F S512x128 .f32 :=
  select (broadcastTo S512x128 (shapeCast S1x128 (cmpi .slt (iota .tc S1x128 32 [1] iota_S1x128_d1_w32) (broadcast S1x128 64#32))
      shapeCasts_S1x128_S1x128) broadcasts_S1x128_S512x128)
    (addf (maximumf d (broadcast S512x128 (Scalar.ofBits .f32 0x00000000#32)))
      (log1p (exp (subf (broadcast S512x128 (Scalar.ofBits .f32 0x00000000#32)) (absf d)))))
    (broadcast S512x128 (Scalar.ofBits .f32 0x00000000#32))

/-- The first lane of trip `k`. -/
def lane0 (k : Fin k0_t1_loop.trips) : ℕ := k0_off1 k 1

/-- Where tap `j` of row group `r` reads the scratch. -/
def oU (k : Fin k0_t1_loop.trips) (r : Fin 8) (j : Fin 5) : Fin 2 → ℕ := ![14 + 64 * r.val + j.val, lane0 k]
/-- Where row group `r` is stored. -/
def oY (k : Fin k0_t1_loop.trips) (r : Fin 8) : Fin 2 → ℕ := ![64 * r.val, lane0 k]
/-- Where the weights of tap `j` are read. -/
def oW (k : Fin k0_t1_loop.trips) (j : Fin 5) : Fin 2 → ℕ := ![j.val, lane0 k]
/-- Where the bias is read. -/
def oB (k : Fin k0_t1_loop.trips) : Fin 2 → ℕ := ![0, lane0 k]

theorem lane0_eq : ∀ k : Fin k0_t1_loop.trips, lane0 k = 128 * k.val := by decide +kernel

theorem trips_le : k0_t1_loop.trips = 32 := by decide +kernel

theorem oU_inb (k : Fin k0_t1_loop.trips) (r : Fin 8) (j : Fin 5) : ∀ d, oU k r j d + S64x128.size d ≤ S544x4096.size d := by
  have hk : k.val < 32 := Nat.lt_of_lt_of_eq k.isLt trips_le
  have h := lane0_eq k
  exact Fin.forall_fin_two.mpr ⟨by show 14 + 64 * r.val + j.val + 64 ≤ 544; omega, by show lane0 k + 128 ≤ 4096; omega⟩
theorem oY_inb (k : Fin k0_t1_loop.trips) (r : Fin 8) : ∀ d, oY k r d + S64x128.size d ≤ S512x4096.size d := by
  have hk : k.val < 32 := Nat.lt_of_lt_of_eq k.isLt trips_le
  have h := lane0_eq k
  exact Fin.forall_fin_two.mpr ⟨by show 64 * r.val + 64 ≤ 512; omega, by show lane0 k + 128 ≤ 4096; omega⟩
theorem oW_inb (k : Fin k0_t1_loop.trips) (j : Fin 5) : ∀ d, oW k j d + S1x128.size d ≤ S5x4096.size d := by
  have hk : k.val < 32 := Nat.lt_of_lt_of_eq k.isLt trips_le
  have h := lane0_eq k
  exact Fin.forall_fin_two.mpr ⟨by show j.val + 1 ≤ 5; omega, by show lane0 k + 128 ≤ 4096; omega⟩
theorem oB_inb (k : Fin k0_t1_loop.trips) : ∀ d, oB k d + S1x128.size d ≤ S1x4096.size d := by
  have hk : k.val < 32 := Nat.lt_of_lt_of_eq k.isLt trips_le
  have h := lane0_eq k
  exact Fin.forall_fin_two.mpr ⟨by show 0 + 1 ≤ 1; omega, by show lane0 k + 128 ≤ 4096; omega⟩

variable (arg8 : Memref sig .tc .vmem S5x4096 .f32) (arg9 : Memref sig .tc .vmem S1x4096 .f32) (arg12 : Memref sig .tc .vmem S544x4096 .f32)
  (X8 : BufTy.Contents (Elt F) arg8.view.ty) (X9 : BufTy.Contents (Elt F) arg9.view.ty) (X12 : BufTy.Contents (Elt F) arg12.view.ty)

/-- What row group `r` of trip `k` stores. -/
def yP (k : Fin k0_t1_loop.trips) (r : Fin 8) : View.Piece (Elt F) S512x4096 .bf16 :=
  ⟨Rect.unit (s := S512x4096) (oY k r) S64x128.size (oY_inb k r),
    act (taps (fun j => View.readAt (Elt F) arg12.view (Rect.unit (s := S544x4096) (oU k r j) S64x128.size (oU_inb k r j)).toLoadRect X12)
      (fun j => View.readAt (Elt F) arg8.view (Rect.unit (s := S5x4096) (oW k j) S1x128.size (oW_inb k j)).toLoadRect X8)
      (View.readAt (Elt F) arg9.view (Rect.unit (s := S1x4096) (oB k) S1x128.size (oB_inb k)).toLoadRect X9))⟩

/-- The row groups, the one stored last first. -/
def groups : List (Fin 8) := [7, 6, 5, 4, 3, 2, 1, 0]

/-- The pieces one trip leaves. -/
theorem trip_eq (c : Dev nD) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S1024x128 .bf16) (harg6 : arg6.IsWhole) (arg7 : Memref sig .tc .vmem S1x128 .f32) (harg7 : arg7.IsWhole) (harg8 : arg8.IsWhole) (harg9 : arg9.IsWhole) (arg10 : Memref sig .tc .vmem S512x4096 .bf16) (harg10 : arg10.IsWhole) (arg11 : Memref sig .tc .vmem S512x128 .f32) (harg11 : arg11.IsWhole) (harg12 : arg12.IsWhole)
    (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 X8 X9 X12 k
      = groups.map (yP arg8 arg9 arg12 X8 X9 X12 k) := by
  unfold tripL_k0_t1 trip_k0_t1
  rfl

end Cert.Kernel6Ideal.Features

end
-- ==== Proof.Features.Mask.lean ====
module

public import proofs.«01_k».proof.Proof.Features.Ops

/-!
# Which rows of a block with margins lie in the block's sequence
-/

@[expose] public section

set_option maxRecDepth 16384

noncomputable section

namespace Cert.Kernel6Ideal.Features

open Idealize.ShloMosaic Idealize.ShloMosaic.TcCoe Idealize.ShloMosaic.Tactic
open Idealize.SL Idealize.SL.RA Idealize.SL.Sem
open Cert.Kernel6Ideal Cert.Kernel6Ideal.Gen

/-- The mask's word at row `r` of block `n`. -/
def word (n r : ℕ) : BitVec 1 :=
  IntOp.andi
    (IntOp.cmpi .sge (IntOp.addi (Scalar.subi (Scalar.muli (BitVec.ofNat 32 n) 512#32) 16#32) (BitVec.ofNat 32 r)) (lo n))
    (IntOp.cmpi .slt (IntOp.addi (Scalar.subi (Scalar.muli (BitVec.ofNat 32 n) 512#32) 16#32) (BitVec.ofNat 32 r)) (Scalar.addi (lo n) 16384#32))

theorem word_eq : ∀ (n : Fin 64) (r : Fin 544),
    word n.val r.val = if 16 ≤ 512 * (n.val % 32) + r.val ∧ 512 * (n.val % 32) + r.val < 16400 then 1#1 else 0#1 := by
  decide +kernel

end Cert.Kernel6Ideal.Features

end
-- ==== Proof.Features.Math.lean ====
module

public import Idealize.ShloMosaic.Lib.Pointwise

/-!
# The scan's features for one position, written out over the extended reals

The projected rows are convolved along the sequence with five taps per column, the two positions before the first and the two
after the last being zero, and passed through the value times its logistic; the steps are the softplus of a projection.  These are
the functions both programs are compared with.
-/

@[expose] public section

noncomputable section

open Idealize.ShloMosaic

namespace Cert.Features

/-- The logistic function. -/
def logistic (p : EReal) : EReal := Ideal.div 1 (1 + Ideal.exp (-p))

/-- A row times a column of a matrix, plus a bias. -/
def lin (h w : Fin 1024 → EReal) (b : EReal) : EReal := ∑ k, h k * w k + b

/-- Five taps and a bias. -/
def taps (u w : Fin 5 → EReal) (b : EReal) : EReal := u 0 * w 0 + u 1 * w 1 + u 2 * w 2 + u 3 * w 3 + u 4 * w 4 + b

theorem taps_congr {u u' w w' : Fin 5 → EReal} {b b' : EReal} (hu : ∀ j, u j = u' j) (hw : ∀ j, w j = w' j) (hb : b = b') :
    taps u w b = taps u' w' b' := by
  rw [funext hu, funext hw, hb]

/-- The value times its logistic. -/
def act (p : EReal) : EReal := p * logistic p

/-- Position `t` of a sequence with two zeros before it and two after it. -/
def padded (f : Fin 16384 → EReal) (t : ℕ) : EReal := if h : 2 ≤ t ∧ t < 16386 then f ⟨t - 2, by omega⟩ else 0

/-- One feature at position `l`. -/
def feature (f : Fin 16384 → EReal) (w : Fin 5 → EReal) (b : EReal) (l : Fin 16384) : EReal := act (taps (fun k => padded f (l.val + k.val)) w b)

/-- The softplus function. -/
def softplus (p : EReal) : EReal := max p 0 + Ideal.log1p (Ideal.exp (-max p (-p)))

end Cert.Features

end
-- ==== Proof.Features.Entry.lean ====
module

public import proofs.«01_k».proof.Proof.Features.Mask
public import proofs.«01_k».proof.Proof.Features.Math
public import Idealize.ShloMosaic.Lib.WritesUnit
public import Idealize.ShloMosaic.Lib.Pipeline.ValueKit
public import Idealize.ShloMosaic.Lib.Pipeline.ValueKit.Tiles

/-!
# The features of one grid point, entry by entry
-/

@[expose] public section

set_option maxRecDepth 16384

noncomputable section

namespace Cert.Kernel6Ideal.Features

open Idealize.ShloMosaic Idealize.ShloMosaic.TcCoe Idealize.ShloMosaic.Tactic
open Idealize.SL Idealize.SL.RA Idealize.SL.Sem
open Cert.Kernel6Ideal Cert.Kernel6Ideal.Gen

theorem act_taps_at (u : Fin 5 → FVec Ideal S64x128 .f32) (w : Fin 5 → FVec Ideal S1x128 .f32) (b : FVec Ideal S1x128 .f32) (r : Fin 64) (q : Fin 128) :
    act (taps u w b) (ix2 r q)
      = Cert.Features.act (Cert.Features.taps (fun j => u j (ix2 r q)) (fun j => w j (ix2 0 q)) (b (ix2 0 q))) := by
  pointwise [act, taps, tap]
  rw [zero_sub]
  rfl

/-- Row `r` of a block with its margins of 16 rows. -/
def hrow (x0 : FVec Ideal S16x1024 .bf16) (x1 : FVec Ideal S512x1024 .bf16) (x2 : FVec Ideal S16x1024 .bf16) (r : Fin 544) (k : Fin 1024) : EReal :=
  if h : r.val < 16 then x0 (ix2 ⟨r.val, h⟩ k)
  else if h' : r.val - 16 < 512 then x1 (ix2 ⟨r.val - 16, h'⟩ k) else x2 (ix2 ⟨r.val - 16 - 512, by omega⟩ k)

theorem projected_at (x0 : FVec Ideal S16x1024 .bf16) (x1 : FVec Ideal S512x1024 .bf16) (x2 : FVec Ideal S16x1024 .bf16) (x3 : FVec Ideal S1024x4096 .bf16)
    (x4 : FVec Ideal S1x4096 .f32) (r : Fin 544) (q : Fin 4096) :
    projected x0 x1 x2 x3 x4 (ix2 r q) = Cert.Features.lin (hrow x0 x1 x2 r) (fun k => x3 (ix2 k q)) (x4 (ix2 0 q)) := by
  pointwise [projected]
  rfl

theorem masked_at (i : grid0.Coords) (x : FVec Ideal S544x4096 .f32) (r : Fin 544) (q : Fin 4096) :
    masked i x (ix2 r q)
      = if 16 ≤ 512 * ((i 0).val % 32) + r.val ∧ 512 * ((i 0).val % 32) + r.val < 16400 then x (ix2 r q) else 0 := by
  pointwise [masked, valid, rows]
  refine (congrArg (fun m => Scalar.select m (x (ix2 r q)) 0) (word_eq (i 0) r)).trans ?_
  split <;> rfl

theorem lane_eq : ∀ q : Fin 128, IntOp.cmpi .slt (BitVec.ofNat 32 q.val) 64#32 = if q.val < 64 then 1#1 else 0#1 := by
  decide +kernel

theorem steps_at (x1 : FVec Ideal S512x1024 .bf16) (x5 : FVec Ideal S1024x128 .bf16) (x6 : FVec Ideal S1x128 .f32) (r : Fin 512) (q : Fin 128) :
    steps (stepRows x1 x5 x6) (ix2 r q)
      = if q.val < 64 then Cert.Features.softplus (Cert.Features.lin (fun k => x1 (ix2 r k)) (fun k => x5 (ix2 k q)) (x6 (ix2 0 q))) else 0 := by
  pointwise [steps, stepRows]
  rw [lane_eq q, zero_sub]
  split <;> rfl

end Cert.Kernel6Ideal.Features

end
-- ==== Proof.Features.Block.lean ====
module

public import proofs.«01_k».proof.Proof.Features.Entry
public import proofs.«01_k».proof.Proof.Gen.Kernel6Ideal.Value
public import Idealize.ShloMosaic.Lib.WritesUnit
public import Idealize.ShloMosaic.Lib.Pipeline.ValueKit
public import Idealize.ShloMosaic.Lib.Pipeline.ValueKit.Tiles

/-!
# The features of one grid point, read back
-/

@[expose] public section

set_option maxRecDepth 16384

noncomputable section

namespace Cert.Kernel6Ideal.Features

open Idealize.ShloMosaic Idealize.ShloMosaic.TcCoe Idealize.ShloMosaic.Tactic
open Idealize.SL Idealize.SL.RA Idealize.SL.Sem
open Cert.Kernel6Ideal Cert.Kernel6Ideal.Gen

section

variable (x0 : FVec Ideal S16x1024 .bf16) (x1 : FVec Ideal S512x1024 .bf16) (x2 : FVec Ideal S16x1024 .bf16) (x3 : FVec Ideal S1024x4096 .bf16)
  (x4 : FVec Ideal S1x4096 .f32) (x5 : FVec Ideal S1024x128 .bf16) (x6 : FVec Ideal S1x128 .f32) (x7 : FVec Ideal S5x4096 .f32) (x8 : FVec Ideal S1x4096 .f32)

/-- The scratch of grid point `i`. -/
def scratch (i : grid0.Coords) : FVec Ideal S544x4096 .f32 :=
  masked i (projected x0 x1 x2 x3 x4)

/-- The block of features. -/
def G (i : grid0.Coords) (y : S512x4096.Idx) : EReal :=
  Cert.Features.act (Cert.Features.taps (fun j => scratch x0 x1 x2 x3 x4 i (ix2 (n0 := 544) (n1 := 4096) ⟨14 + (y 0).val + j.val, by have : (y 0).val < 512 := (y 0).isLt; omega⟩ ⟨(y 1).val, (y 1).isLt⟩))
    (fun j => x7 (ix2 j ⟨(y 1).val, (y 1).isLt⟩)) (x8 (ix2 0 ⟨(y 1).val, (y 1).isLt⟩)))

/-- A load of a whole block reads the block. -/
theorem readAt_whole {S : Shape} {e : EltTy} (arg : Memref sig .tc .vmem S e) (harg : arg.IsWhole) (off : Fin S.rank → ℕ) (inb) (ho : ∀ a, off a = 0)
    (x : S.Idx → Elt Ideal e) : View.readAt (Elt Ideal) arg.view (Rect.unit off S.size inb).toLoadRect (harg.unread x) = x := by
  rw [View.readAt_eq_ld, harg.read_unread]
  funext y
  exact View.ld_unit_apply_of x off S.size inb y y (fun a => by rw [ho a, Nat.zero_add])

/-- One store of a whole block leaves the block. -/
theorem read_one {S : Shape} {e : EltTy} (v : View sig .tc .vmem S e) (f : BufTy.Contents (Elt Ideal) v.ty) (off : Fin S.rank → ℕ) (inb) (ho : ∀ a, off a = 0)
    (w : S.Idx → Elt Ideal e) (y : S.Idx) :
    v.read (Elt Ideal) (v.writes (Elt Ideal) f [⟨Rect.unit off S.size inb, w⟩]) y = w y :=
  View.read_writes_cons_unit_of_mem v f inb w [] y y rfl (fun a => by rw [ho a, Nat.zero_add])

theorem zero2 : ∀ a : Fin 2, (![0, 0] : Fin 2 → ℕ) a = 0 := by decide

/-- The scratch after its one store. -/
def X12 (i : grid0.Coords) (arg12 : Memref sig .tc .vmem S544x4096 .f32) : BufTy.Contents (Elt Ideal) arg12.view.ty :=
  arg12.view.writes (Elt Ideal) arg12.view.junk [⟨Rect.unit (s := S544x4096) ![0, 0] S544x4096.size inb_S544x4096_S544x4096_0_0, scratch x0 x1 x2 x3 x4 i⟩]

theorem X12_read (i : grid0.Coords) (arg12 : Memref sig .tc .vmem S544x4096 .f32) (y : S544x4096.Idx) :
    arg12.view.read (Elt Ideal) (X12 x0 x1 x2 x3 x4 i arg12) y = scratch x0 x1 x2 x3 x4 i y :=
  read_one (S := S544x4096) (e := .f32) arg12.view arg12.view.junk ![0, 0] inb_S544x4096_S544x4096_0_0 zero2 (scratch x0 x1 x2 x3 x4 i) y

/-- One piece of the loop agrees with the block. -/
theorem piece_at (i : grid0.Coords) (arg8 : Memref sig .tc .vmem S5x4096 .f32) (harg8 : arg8.IsWhole) (arg9 : Memref sig .tc .vmem S1x4096 .f32) (harg9 : arg9.IsWhole)
    (arg12 : Memref sig .tc .vmem S544x4096 .f32) (k : Fin k0_t1_loop.trips) (r : Fin 8) (x : S64x128.Idx) :
    (yP arg8 arg9 arg12 (harg8.unread x7) (harg9.unread x8) (X12 x0 x1 x2 x3 x4 i arg12) k r).2 x
      = G x0 x1 x2 x3 x4 x7 x8 i ((yP arg8 arg9 arg12 (harg8.unread x7) (harg9.unread x8) (X12 x0 x1 x2 x3 x4 i arg12) k r).1.emb x) := by
  have hk : k.val < 32 := Nat.lt_of_lt_of_eq k.isLt trips_le
  have h0 := lane0_eq k
  have hx0 : (x 0).val < 64 := (x 0).isLt
  have hx1 : (x 1).val < 128 := (x 1).isLt
  obtain ⟨a, b, rfl⟩ : ∃ (a : Fin 64) (b : Fin 128), x = ix2 a b := ⟨⟨_, hx0⟩, ⟨_, hx1⟩, by funext d; fin_cases d <;> rfl⟩
  refine (act_taps_at _ _ _ a b).trans ?_
  have e0 : ((Rect.unit (s := S512x4096) (oY k r) S64x128.size (oY_inb k r)).emb (ix2 a b) 0).val = 64 * r.val + a.val :=
    ValueKit.rect_emb_unit_val _ _ _ _ _
  have e1 : ((Rect.unit (s := S512x4096) (oY k r) S64x128.size (oY_inb k r)).emb (ix2 a b) 1).val = 128 * k.val + b.val :=
    (ValueKit.rect_emb_unit_val _ _ _ _ _).trans (congrArg (· + b.val) h0)
  refine congrArg Cert.Features.act (Cert.Features.taps_congr (fun j => ?_) (fun j => ?_) ?_)
  · rw [View.readAt_eq_ld]
    refine (View.ld_unit_apply_of _ _ _ _ _ _ (Fin.forall_fin_two.mpr ⟨?_, ?_⟩)).trans (X12_read x0 x1 x2 x3 x4 i arg12 _)
    · show 14 + _ + j.val = 14 + 64 * r.val + j.val + a.val
      erw [e0]; omega
    · show _ = lane0 k + b.val
      erw [e1]; omega
  · rw [View.readAt_eq_ld, harg8.read_unread]
    refine View.ld_unit_apply_of _ _ _ _ _ _ (Fin.forall_fin_two.mpr ⟨?_, ?_⟩)
    · show j.val = j.val + 0
      rfl
    · show _ = lane0 k + b.val
      erw [e1]; omega
  · rw [View.readAt_eq_ld, harg9.read_unread]
    refine View.ld_unit_apply_of _ _ _ _ _ _ (Fin.forall_fin_two.mpr ⟨?_, ?_⟩)
    · rfl
    · show _ = lane0 k + b.val
      erw [e1]; omega

variable (c : Dev nD) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S1024x4096 .bf16) (harg4 : arg4.IsWhole) (arg5 : Memref sig .tc .vmem S1x4096 .f32) (harg5 : arg5.IsWhole) (arg6 : Memref sig .tc .vmem S1024x128 .bf16) (harg6 : arg6.IsWhole) (arg7 : Memref sig .tc .vmem S1x128 .f32) (harg7 : arg7.IsWhole) (arg8 : Memref sig .tc .vmem S5x4096 .f32) (harg8 : arg8.IsWhole) (arg9 : Memref sig .tc .vmem S1x4096 .f32) (harg9 : arg9.IsWhole) (arg10 : Memref sig .tc .vmem S512x4096 .bf16) (harg10 : arg10.IsWhole) (arg11 : Memref sig .tc .vmem S512x128 .f32) (harg11 : arg11.IsWhole) (arg12 : Memref sig .tc .vmem S544x4096 .f32) (harg12 : arg12.IsWhole)

/-- The pieces of the loop's first `n` trips agree with the block. -/
theorem pieces_at (n : ℕ) (hn : n ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 (harg8.unread x7) (harg9.unread x8) (X12 x0 x1 x2 x3 x4 i arg12) n,
      ∀ x, p.2 x = G x0 x1 x2 x3 x4 x7 x8 i (p.1.emb x) := by
  induction n with
  | zero => intro p hp; exact absurd hp List.not_mem_nil
  | succ n ih =>
    intro p hp
    have h := pb_k0_t1_succ (F := Ideal) Variants.none c none i arg1 harg1 arg2 harg2 arg3 harg3 arg4 harg4 arg5 harg5 arg6 harg6 arg7 harg7 arg8 harg8 arg9 harg9 arg10 harg10 arg11 harg11 arg12 harg12 (harg8.unread x7) (harg9.unread x8) (X12 x0 x1 x2 x3 x4 i arg12) ⟨n, hn⟩
    rw [h, trip_eq, List.mem_append] at hp
    rcases hp with hp | hp
    · obtain ⟨r, -, rfl⟩ := List.mem_map.mp hp
      exact piece_at x0 x1 x2 x3 x4 x7 x8 i arg8 harg8 arg9 harg9 arg12 ⟨n, hn⟩ r
    · exact ih (Nat.le_of_succ_le hn) p hp

theorem run9 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1
    = pb_k0_t1 (F := Ideal) Variants.none c none i arg1 harg1 arg2 harg2 arg3 harg3 arg4 harg4 arg5 harg5 arg6 harg6 arg7 harg7 arg8 harg8 arg9 harg9 arg10 harg10 arg11 harg11 arg12 harg12 (harg8.unread x7) (harg9.unread x8) (X12 x0 x1 x2 x3 x4 i arg12) k0_t1_loop.trips := by
  unfold kernelRun0_A X12 scratch
  dsimp only
  sl_unfold_words
  rw [readAt_whole arg1 harg1 _ _ zero2, readAt_whole arg2 harg2 _ _ zero2, readAt_whole arg3 harg3 _ _ zero2, readAt_whole arg4 harg4 _ _ zero2,
    readAt_whole arg5 harg5 _ _ zero2]
  rfl

theorem out9_at (y : S512x4096.Idx) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y = G x0 x1 x2 x3 x4 x7 x8 i y := by
  have hc := cover0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y
  unfold out0_A_9
  rw [run9] at hc ⊢
  exact View.read_writes_apply_of_pieces _ _ _ _ (pieces_at x0 x1 x2 x3 x4 x7 x8 c i arg1 harg1 arg2 harg2 arg3 harg3 arg4 harg4 arg5 harg5 arg6 harg6 arg7 harg7 arg8 harg8 arg9 harg9 arg10 harg10 arg11 harg11 arg12 harg12 _ le_rfl) y hc

theorem run10 : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1
    = [⟨Rect.unit (s := S512x128) ![0, 0] S512x128.size inb_S512x128_S512x128_0_0, steps (stepRows x1 x5 x6)⟩] := by
  unfold kernelRun0_A
  dsimp only
  sl_unfold_words
  rw [readAt_whole arg2 harg2 _ _ zero2, readAt_whole arg6 harg6 _ _ zero2, readAt_whole arg7 harg7 _ _ zero2]
  rfl

theorem out10_at (y : S512x128.Idx) : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y = steps (stepRows x1 x5 x6) y := by
  unfold out0_A_10
  rw [run10]
  exact read_one (S := S512x128) (e := .f32) _ _ ![0, 0] inb_S512x128_S512x128_0_0 zero2 (steps (stepRows x1 x5 x6)) y

end

end Cert.Kernel6Ideal.Features

end
-- ==== Proof.Features.Fill.lean ====
module

public import proofs.«01_k».proof.Proof.Gen.Kernel6Ideal.Value
public import Idealize.ShloMosaic.Lib.Routing.OpsSet
public import Idealize.ShloMosaic.Lib.Routing.OpsPair
public import Idealize.ShloMosaic.Lib.Pointwise

/-!
# The zero-filled operands of the steps, read in their first 64 lanes

The kernel's program widens the steps' matrix and bias to 128 lanes by writing them into zeros at lane 0.
-/

@[expose] public section

set_option maxRecDepth 16384

noncomputable section

namespace Cert.Kernel6Ideal.Features

open Idealize.ShloMosaic Idealize.ShloMosaic.TcCoe Idealize.ShloMosaic.Routing
open Cert.Kernel6Ideal Cert.Kernel6Ideal.Gen

/-- A lane among the 64 that hold steps, in the wider row. -/
def wide (q : Fin 64) : Fin 128 := ⟨q.val, by omega⟩

theorem start_zero {s si u : Shape} (d : ScatterDims s si u) (k : u.Idx) (idx : IVec si 32) (h : ∀ x, idx x = 0#32) (a : Fin s.rank) : d.start k idx a = 0 := by
  unfold ScatterDims.start
  split
  · rw [h]; rfl
  · rfl

theorem lands_mat (idx : IVec S1 32) (h : ∀ x, idx x = 0#32) (r r' : Fin 1024) (q : Fin 64) (q' : Fin 128) :
    scatter_S1024x128_S1_S1024x64_01_n_1_0.resultIdx? (ix2 r q) idx = some (ix2 r' q') ↔ r.val = r'.val ∧ q.val = q'.val := by
  rw [resultIdx?_eq_some, Fin.forall_fin_two, start_zero _ _ _ h, start_zero _ _ _ h]
  have e0 : scatter_S1024x128_S1_S1024x64_01_n_1_0.window (ix2 r q) 0 = r.val := rfl
  have e1 : scatter_S1024x128_S1_S1024x64_01_n_1_0.window (ix2 r q) 1 = q.val := rfl
  rw [e0, e1]
  show ((0 : ℤ) + (r.val : ℤ) = (r'.val : ℤ) ∧ (0 : ℤ) + (q.val : ℤ) = (q'.val : ℤ)) ↔ _
  omega

theorem lands_vec (idx : IVec S1 32) (h : ∀ x, idx x = 0#32) (q : Fin 64) (q' : Fin 128) :
    scatter_S128_S1_S64_0_n_0_0.resultIdx? (ix1 q) idx = some (ix1 q') ↔ q.val = q'.val := by
  rw [resultIdx?_eq_some, Fin.forall_fin_one, start_zero _ _ _ h]
  have e0 : scatter_S128_S1_S64_0_n_0_0.window (ix1 q) 0 = q.val := rfl
  rw [e0]
  show ((0 : ℤ) + (q.val : ℤ) = (q'.val : ℤ)) ↔ _
  omega

theorem filled_mat {α : Type} (x : S1024x128.Idx → α) (idx : IVec S1 32) (h : ∀ x, idx x = 0#32) (u : S1024x64.Idx → α) (r : Fin 1024) (q : Fin 64) :
    Host.scatter scatter_S1024x128_S1_S1024x64_01_n_1_0 (fun _ b => b) x idx u (ix2 r (wide q)) = u (ix2 r q) := by
  refine scatter_set_hit _ x idx u _ _ (fun k hk => ?_) (ix2 r q) ((lands_mat idx h r r q (wide q)).2 ⟨rfl, rfl⟩)
  obtain ⟨a, b, rfl⟩ : ∃ (a : Fin 1024) (b : Fin 64), k = ix2 a b := ⟨k 0, k 1, eq_ix2 k⟩
  obtain ⟨ea, eb⟩ := (lands_mat idx h a r b (wide q)).1 hk
  rw [show a = r from Fin.ext ea, show b = q from Fin.ext eb]

theorem filled_vec {α : Type} (x : S128.Idx → α) (idx : IVec S1 32) (h : ∀ x, idx x = 0#32) (u : S64.Idx → α) (q : Fin 64) :
    Host.scatter scatter_S128_S1_S64_0_n_0_0 (fun _ b => b) x idx u (ix1 (wide q)) = u (ix1 q) := by
  refine scatter_set_hit _ x idx u _ _ (fun k hk => ?_) (ix1 q) ((lands_vec idx h q (wide q)).2 rfl)
  obtain ⟨a, rfl⟩ : ∃ (a : Fin 64), k = ix1 a := ⟨k 0, eq_ix1 k⟩
  rw [show a = q from Fin.ext ((lands_vec idx h a (wide q)).1 hk)]

/-- Column `j` of the steps' columns, among the input matrix's. -/
def dcol (q : Fin 64) : Fin 10304 := ⟨8192 + q.val, by omega⟩

/-- Column `j` of the columns that are convolved, among the input matrix's. -/
def ccol (j : Fin 4096) : Fin 10304 := ⟨4096 + j.val, by omega⟩

theorem cmat_at (W : FVec Ideal S1024x10304 .f32) (k : Fin 1024) (i : Fin 4096) :
    truncf (F := Ideal) .bf16 (extractStridedSlice S1024x4096 ![0, 4096] W slices_S1024x10304_S1024x4096_0_4096) bitsLt_bf16_f32 (ix2 k i) = W (ix2 k (ccol i)) := by
  pointwise
  rfl

theorem cbias_at (f : FVec Ideal S10304 .f32) (i : Fin 4096) :
    shapeCast S1x4096 (extractStridedSlice S4096 ![4096] f slices_S10304_S4096_4096) shapeCasts_S4096_S1x4096 (ix2 0 i) = f (ix1 (ccol i)) := by
  pointwise
  rfl

theorem bias_at (f : FVec Ideal S4096 .f32) (i : Fin 4096) : shapeCast S1x4096 f shapeCasts_S4096_S1x4096 (ix2 0 i) = f (ix1 i) := by
  pointwise

theorem dmat_at (W : FVec Ideal S1024x10304 .f32) (k : Fin 1024) (q : Fin 64) :
    truncf (F := Ideal) .bf16 (Host.scatter scatter_S1024x128_S1_S1024x64_01_n_1_0 (fun _ b => b)
        (broadcastInDim S1024x128 ![] bcast_S_S1024x128 (constant S_ .f32 0x00000000#32)) (broadcastInDim S1 ![] bcast_S_S1 (constantI S_ 32 0#32))
        (extractStridedSlice S1024x64 ![0, 8192] W slices_S1024x10304_S1024x64_0_8192)) bitsLt_bf16_f32 (ix2 k (wide q)) = W (ix2 k (dcol q)) := by
  have e := filled_mat (broadcastInDim S1024x128 ![] bcast_S_S1024x128 (constant (F := Ideal) S_ .f32 0x00000000#32)) (broadcastInDim S1 ![] bcast_S_S1 (constantI S_ 32 0#32))
    (fun _ => rfl) (extractStridedSlice S1024x64 ![0, 8192] W slices_S1024x10304_S1024x64_0_8192) k q
  pointwise at e
  pointwise
  exact e

/-- The steps' bias: the input matrix's plus that of the direction's head. -/
abbrev stepBias (f : FVec Ideal S10304 .f32) (g : FVec Ideal S2x32 .f32) (q : Fin 64) : EReal :=
  f (ix1 (dcol q)) + g (ix2 ⟨q.val / 32, by omega⟩ ⟨q.val % 32, by omega⟩)

theorem dbias_at (f : FVec Ideal S10304 .f32) (g : FVec Ideal S2x32 .f32) (q : Fin 64) :
    shapeCast S1x128 (Host.scatter scatter_S128_S1_S64_0_n_0_0 (fun _ b => b) (broadcastInDim S128 ![] bcast_S_S128 (constant S_ .f32 0x00000000#32))
        (broadcastInDim S1 ![] bcast_S_S1 (constantI S_ 32 0#32))
        (addf (extractStridedSlice S64 ![8192] f slices_S10304_S64_8192) (shapeCast S64 g shapeCasts_S2x32_S64))) shapeCasts_S128_S1x128 (ix2 0 (wide q))
      = stepBias f g q := by
  have e := filled_vec (broadcastInDim S128 ![] bcast_S_S128 (constant (F := Ideal) S_ .f32 0x00000000#32)) (broadcastInDim S1 ![] bcast_S_S1 (constantI S_ 32 0#32))
    (fun _ => rfl) (addf (extractStridedSlice S64 ![8192] f slices_S10304_S64_8192) (shapeCast S64 g shapeCasts_S2x32_S64)) q
  pointwise at e
  pointwise
  exact e

end Cert.Kernel6Ideal.Features

end
-- ==== Proof.Features.Array.lean ====
module

public import proofs.«01_k».proof.Proof.Features.Block
public import proofs.«01_k».proof.Proof.Features.Fill

/-!
# The features' result arrays, entry by entry

Point `32 b + j` sees rows `512 j …` of batch entry `b` with 16 rows on either side, and the matrices, biases and weights whole.
-/

@[expose] public section

set_option maxRecDepth 16384

noncomputable section

namespace Cert.Kernel6Ideal.Features

open Idealize.ShloMosaic Idealize.ShloMosaic.TcCoe Idealize.ShloMosaic.Tactic
open Idealize.SL Idealize.SL.RA Idealize.SL.Sem
open Cert.Kernel6Ideal Cert.Kernel6Ideal.Gen Cert.Kernel6Ideal.Value

/-- The blocks' places of the operands cut by rows, point by point. -/
theorem idx_rows : ∀ t : Fin cfg0.N, win0_0.index t = ![32 * t.val - 1, 0] ∧ win0_1.index t = ![t.val, 0] ∧ win0_2.index t = ![min (32 * (t.val + 1)) 2047, 0]
    ∧ win0_9.index t = ![t.val, 0] ∧ win0_10.index t = ![t.val, 0] :=
  (by decide +kernel : ∀ t : Fin grid0.N, win0_0.index t = ![32 * t.val - 1, 0] ∧ win0_1.index t = ![t.val, 0] ∧ win0_2.index t = ![min (32 * (t.val + 1)) 2047, 0]
    ∧ win0_9.index t = ![t.val, 0] ∧ win0_10.index t = ![t.val, 0])

/-- Those of the operands taken whole. -/
theorem idx_whole : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, win0_3.index t = ![0, 0] ∧ win0_4.index t = ![0, 0] ∧ win0_5.index t = ![0, 0] ∧ win0_6.index t = ![0, 0]
    ∧ win0_7.index t = ![0, 0] ∧ win0_8.index t = ![0, 0])

/-- Every point writes its blocks back. -/
theorem flushes9 : ∀ t : Fin cfg0.N, (cfg0.win 9).flush t = true :=
  (by decide +kernel : ∀ t : Fin grid0.N, (cfg0.win 9).flush t = true)
theorem flushes10 : ∀ t : Fin cfg0.N, (cfg0.win 10).flush t = true :=
  (by decide +kernel : ∀ t : Fin grid0.N, (cfg0.win 10).flush t = true)

/-- The grid has one axis. -/
theorem coords_val : ∀ t : Fin cfg0.N, (grid0.coords t 0).val = t.val :=
  (by decide +kernel : ∀ t : Fin grid0.N, (grid0.coords t 0).val = t.val)

/-- The point of batch entry `b`'s rows `512 j …`. -/
def pt (b : Fin 2) (j : Fin 32) : Fin cfg0.N := ⟨32 * b.val + j.val, by have : cfg0.N = 64 := rfl; omega⟩

theorem pt_val (b : Fin 2) (j : Fin 32) : (pt b j).val = 32 * b.val + j.val := rfl

/-- Position `l` of batch entry `b`, among all rows. -/
def brow (b : Fin 2) (l : Fin 16384) : Fin 32768 := ⟨b.val * 16384 + l.val, by omega⟩

/-- Row `r` of block `j`, in the sequence. -/
def pos (j : Fin 32) (r : Fin 512) : Fin 16384 := ⟨512 * j.val + r.val, by omega⟩

/-- Row `s` of the 16 rows read before a block. -/
def above (b : Fin 2) (j : Fin 32) (s : Fin 16) : Fin 32768 := ⟨16 * (32 * (32 * b.val + j.val) - 1) + s.val, by omega⟩

/-- Row `s` of the 16 rows read after it. -/
def below (b : Fin 2) (j : Fin 32) (s : Fin 16) : Fin 32768 := ⟨16 * min (32 * (32 * b.val + j.val + 1)) 2047 + s.val, by omega⟩

variable (m : (ℓ : Loc nD τ sig) → Buf (Elt Ideal) ℓ) (c : Dev nD) (b : Fin 2) (j : Fin 32)

theorem block0 (r : Fin 16) (k : Fin 1024) : iblk m c 0 (pt b j) (ix2 r k) = m ((c : Thread nD τ).loc main_arg0) (ix2 (above b j r) k) := by
  obtain ⟨e0, e1, e2, e9, e10⟩ := idx_rows (pt b j)
  blk_ext [iblk, V, e0, pt_val, above]

theorem block1 (r : Fin 512) (k : Fin 1024) : iblk m c 1 (pt b j) (ix2 r k) = m ((c : Thread nD τ).loc main_arg0) (ix2 (brow b (pos j r)) k) := by
  obtain ⟨e0, e1, e2, e9, e10⟩ := idx_rows (pt b j)
  blk_ext [iblk, V, e1, pt_val, brow, pos]

theorem block2 (r : Fin 16) (k : Fin 1024) : iblk m c 2 (pt b j) (ix2 r k) = m ((c : Thread nD τ).loc main_arg0) (ix2 (below b j r) k) := by
  obtain ⟨e0, e1, e2, e9, e10⟩ := idx_rows (pt b j)
  blk_ext [iblk, V, e2, pt_val, below]

theorem block3 (k : Fin 1024) (i : Fin 4096) : iblk m c 3 (pt b j) (ix2 k i) = m ((c : Thread nD τ).loc main_arg1) (ix2 k (ccol i)) := by
  obtain ⟨e3, e4, e5, e6, e7, e8⟩ := idx_whole (pt b j)
  trans V m c (Pipeline.arrRef spec0 3) (ix2 k i)
  · blk_ext [iblk, e3]
  · entry_read
    exact cmat_at _ k i

theorem block4 (i : Fin 4096) : iblk m c 4 (pt b j) (ix2 0 i) = m ((c : Thread nD τ).loc main_arg2) (ix1 (ccol i)) := by
  obtain ⟨e3, e4, e5, e6, e7, e8⟩ := idx_whole (pt b j)
  trans V m c (Pipeline.arrRef spec0 4) (ix2 0 i)
  · blk_ext [iblk, e4]
  · entry_read
    exact cbias_at _ i

/-- The steps' matrix is seen whole. -/
theorem read5 (A : FVec Ideal S1024x128 .bf16) (k : Fin 1024) (q : Fin 128) :
    ((cfg0.win 5).blk (pt b j)).view.read (Elt Ideal) A (ix2 k q) = A (ix2 k q) := by
  obtain ⟨e3, e4, e5, e6, e7, e8⟩ := idx_whole (pt b j)
  blk_ext [e5]

theorem block5 (k : Fin 1024) (q : Fin 64) : iblk m c 5 (pt b j) (ix2 k (wide q)) = m ((c : Thread nD τ).loc main_arg1) (ix2 k (dcol q)) := by
  refine (read5 b j (V m c (Pipeline.arrRef spec0 5)) k (wide q)).trans ?_
  entry_read
  exact dmat_at _ k q

theorem block6 (q : Fin 64) : iblk m c 6 (pt b j) (ix2 0 (wide q))
    = stepBias (m ((c : Thread nD τ).loc main_arg2)) (m ((c : Thread nD τ).loc main_arg5)) q := by
  obtain ⟨e3, e4, e5, e6, e7, e8⟩ := idx_whole (pt b j)
  trans V m c (Pipeline.arrRef spec0 6) (ix2 0 (wide q))
  · blk_ext [iblk, e6]
  · entry_read
    exact dbias_at _ _ q

theorem block7 (k : Fin 5) (i : Fin 4096) : iblk m c 7 (pt b j) (ix2 k i) = m ((c : Thread nD τ).loc main_arg3) (ix2 k i) := by
  obtain ⟨e3, e4, e5, e6, e7, e8⟩ := idx_whole (pt b j)
  blk_ext [iblk, V, e7]

theorem block8 (i : Fin 4096) : iblk m c 8 (pt b j) (ix2 0 i) = m ((c : Thread nD τ).loc main_arg4) (ix1 i) := by
  obtain ⟨e3, e4, e5, e6, e7, e8⟩ := idx_whole (pt b j)
  trans V m c (Pipeline.arrRef spec0 8) (ix2 0 i)
  · blk_ext [iblk, e8]
  · entry_read
    exact bias_at _ i

/-- The blocks of the results' arrays. -/
theorem read9 (A : FVec Ideal S32768x4096 .bf16) (r : Fin 512) (q : Fin 4096) :
    ((cfg0.win 9).blk (pt b j)).view.read (Elt Ideal) A (ix2 r q) = A (ix2 (brow b (pos j r)) q) := by
  obtain ⟨e0, e1, e2, e9, e10⟩ := idx_rows (pt b j)
  blk_ext [e9, pt_val, brow, pos]

theorem read10 (A : FVec Ideal S32768x128 .f32) (r : Fin 512) (q : Fin 128) :
    ((cfg0.win 10).blk (pt b j)).view.read (Elt Ideal) A (ix2 r q) = A (ix2 (brow b (pos j r)) q) := by
  obtain ⟨e0, e1, e2, e9, e10⟩ := idx_rows (pt b j)
  blk_ext [e10, pt_val, brow, pos]

/-- The convolved columns of batch entry `b` before the convolution. -/
def raw (q : Fin 4096) (l : Fin 16384) : EReal :=
  Cert.Features.lin (fun k => m ((c : Thread nD τ).loc main_arg0) (ix2 (brow b l) k)) (fun k => m ((c : Thread nD τ).loc main_arg1) (ix2 k (ccol q)))
    (m ((c : Thread nD τ).loc main_arg2) (ix1 (ccol q)))

/-- A row of the block with its margins that lies in the sequence is that row. -/
theorem hrow_at (s : Fin 544) (h : 16 ≤ 512 * j.val + s.val ∧ 512 * j.val + s.val < 16400) (k : Fin 1024) :
    hrow (iblk m c 0 (pt b j)) (iblk m c 1 (pt b j)) (iblk m c 2 (pt b j)) s k
      = m ((c : Thread nD τ).loc main_arg0) (ix2 (brow b ⟨512 * j.val + s.val - 16, by omega⟩) k) := by
  unfold hrow
  split
  · refine (block0 m c b j _ k).trans (congrArg (fun r => m ((c : Thread nD τ).loc main_arg0) (ix2 r k)) (Fin.ext ?_))
    show 16 * (32 * (32 * b.val + j.val) - 1) + s.val = b.val * 16384 + (512 * j.val + s.val - 16)
    omega
  · split
    · refine (block1 m c b j _ k).trans (congrArg (fun r => m ((c : Thread nD τ).loc main_arg0) (ix2 r k)) (Fin.ext ?_))
      show b.val * 16384 + (512 * j.val + (s.val - 16)) = b.val * 16384 + (512 * j.val + s.val - 16)
      omega
    · refine (block2 m c b j _ k).trans (congrArg (fun r => m ((c : Thread nD τ).loc main_arg0) (ix2 r k)) (Fin.ext ?_))
      show 16 * min (32 * (32 * b.val + j.val + 1)) 2047 + (s.val - 16 - 512) = b.val * 16384 + (512 * j.val + s.val - 16)
      omega

/-- The scratch holds the padded sequence, from its position `512 j - 14` on. -/
theorem scratch_at (s : Fin 544) (t : ℕ) (ht : 512 * j.val + s.val = t + 14) (q : Fin 4096) :
    scratch (iblk m c 0 (pt b j)) (iblk m c 1 (pt b j)) (iblk m c 2 (pt b j)) (iblk m c 3 (pt b j)) (iblk m c 4 (pt b j)) (grid0.coords (pt b j)) (ix2 s q)
      = Cert.Features.padded (raw m c b q) t := by
  have hp : (grid0.coords (pt b j) 0).val % 32 = j.val := by rw [coords_val, pt_val]; omega
  unfold scratch Cert.Features.padded
  rw [masked_at, hp, projected_at]
  by_cases h : 2 ≤ t ∧ t < 16386
  · have h' : 16 ≤ 512 * j.val + s.val ∧ 512 * j.val + s.val < 16400 := by omega
    rw [if_pos h', dif_pos h, block4]
    simp only [block3]
    rw [funext (hrow_at m c b j s h')]
    unfold raw
    rw [show (⟨512 * j.val + s.val - 16, by omega⟩ : Fin 16384) = ⟨t - 2, by omega⟩ from Fin.ext (by show 512 * j.val + s.val - 16 = t - 2; omega)]
  · have h' : ¬ (16 ≤ 512 * j.val + s.val ∧ 512 * j.val + s.val < 16400) := by omega
    rw [if_neg h', dif_neg h]

/-- The array of the features. -/
theorem array9 (r : Fin 512) (q : Fin 4096) :
    (dats m 0 c).arrAt 9 cfg0.N (ix2 (brow b (pos j r)) q)
      = Cert.Features.feature (raw m c b q) (fun k => m ((c : Thread nD τ).loc main_arg3) (ix2 k q)) (m ((c : Thread nD τ).loc main_arg4) (ix1 q)) (pos j r) := by
  refine (read9 b j _ r q).symm.trans ((congrFun (blocks9 m c (pt b j) (flushes9 _)) (ix2 r q)).trans ?_)
  rw [flushed9_A]
  refine (out9_at _ _ _ _ _ _ _ _ _ _ _ _ _ _ _ _ _ _ _ _ _ _ _ _ _ _ _ _ _ _ _ _ _ _ _ (ix2 r q)).trans ?_
  refine congrArg Cert.Features.act (Cert.Features.taps_congr (fun k => ?_) (fun k => block7 m c b j k q) (block8 m c b j q))
  exact scratch_at m c b j _ _ (by show 512 * j.val + (14 + r.val + k.val) = 512 * j.val + r.val + k.val + 14; omega) q

/-- The array of the steps. -/
theorem array10 (r : Fin 512) (q : Fin 128) :
    (dats m 0 c).arrAt 10 cfg0.N (ix2 (brow b (pos j r)) q)
      = if h : q.val < 64 then Cert.Features.softplus (Cert.Features.lin (fun k => m ((c : Thread nD τ).loc main_arg0) (ix2 (brow b (pos j r)) k))
          (fun k => m ((c : Thread nD τ).loc main_arg1) (ix2 k (dcol ⟨q.val, h⟩)))
          (stepBias (m ((c : Thread nD τ).loc main_arg2)) (m ((c : Thread nD τ).loc main_arg5)) ⟨q.val, h⟩))
        else 0 := by
  refine (read10 b j _ r q).symm.trans ((congrFun (blocks10 m c (pt b j) (flushes10 _)) (ix2 r q)).trans ?_)
  rw [flushed10_A]
  refine (out10_at _ _ _ _ _ _ _ _ _ _ _ _ _ _ _ _ _ _ _ _ _ _ _ _ _ _ _ _ _ _ _ _ _ _ _ (ix2 r q)).trans ?_
  rw [steps_at]
  split
  · next h =>
    have e6 := block6 m c b j ⟨q.val, h⟩
    have e5 := fun k => block5 m c b j k ⟨q.val, h⟩
    simp only [block1]
    rw [show (fun k => iblk m c 5 (pt b j) (ix2 k q)) = _ from funext e5, show iblk m c 6 (pt b j) (ix2 0 q) = _ from e6]
  · rfl

/-- Every position is row `r` of some block. -/
theorem pos_of (l : Fin 16384) : ∃ j r, l = pos j r :=
  ⟨⟨l.val / 512, by omega⟩, ⟨l.val % 512, by omega⟩, Fin.ext (by show l.val = 512 * (l.val / 512) + l.val % 512; omega)⟩

end Cert.Kernel6Ideal.Features

end
-- ==== Proof.Features.Ref.lean ====
module

public import proofs.«01_k».proof.Proof.Gen.Reference6Ideal.Run
public import proofs.«01_k».proof.Proof.Features.Math

/-!
# The reference's features, read at an index

The arrays the reference computes on the way, named, and each read at an index as a function of `Math.lean`.
-/

@[expose] public section

set_option maxRecDepth 16384

noncomputable section

namespace Cert.Reference6Ideal.Features

open Idealize.ShloMosaic Idealize.ShloMosaic.TcCoe
open Cert.Reference6Ideal Cert.Reference6Ideal.Gen Cert.Reference6Ideal.Value

variable {F : FTy → Type} [FloatOps F]

/-- The normalised rows times the input matrix, plus its bias. -/
def proj (h : FVec F S32768x1024 .bf16) (W : FVec F S1024x10304 .f32) (b : FVec F S10304 .f32) : FVec F S2x16384x10304 .f32 :=
  addf (Host.dotGeneral dot_S2x16384x1024_S1024x10304_S2x16384x10304_2_0_01_1_n_n none
      (shapeCast _ (extf .f32 h bitsLt_bf16_f32) shapeCasts_S32768x1024_S2x16384x1024) W)
    (broadcastInDim S2x16384x10304 ![0, 1, 2] bcast_S1x1x10304_S2x16384x10304_0_1_2 (broadcastInDim S1x1x10304 ![2] bcast_S10304_S1x1x10304_2 b))

/-- The columns that are convolved, with two rows of zeros before and after every sequence. -/
def padded (p : FVec F S2x16384x10304 .f32) : FVec F S2x16388x4096 .f32 :=
  pad S2x16388x4096 ![0, 2, 0] ![0, 2, 0] ![0, 0, 0] (extractStridedSlice S2x16384x4096 ![0, 0, 4096] p slices_S2x16384x10304_S2x16384x4096_0_0_4096)
    (sitofp .f32 (constantI S_ 32 0#32)) pads_S2x16384x4096_S2x16388x4096_000_220_000 h_S_

/-- A vector of 4096, at every row. -/
def wide (v : FVec F S4096 .f32) : FVec F S2x16384x4096 .f32 :=
  broadcastInDim S2x16384x4096 ![0, 1, 2] bcast_S1x1x4096_S2x16384x4096_0_1_2 (broadcastInDim S1x1x4096 ![2] bcast_S4096_S1x1x4096_2 v)

/-- The convolution: five shifts of the padded rows, each times its weights, and the bias. -/
def conv (u : FVec F S2x16388x4096 .f32) (w : FVec F S5x4096 .f32) (b : FVec F S4096 .f32) : FVec F S2x16384x4096 .f32 :=
  addf (addf (addf (addf (addf (addf (broadcastInDim S2x16384x4096 ![] bcast_S_S2x16384x4096 (constant S_ .f32 0x00000000#32))
    (mulf (extractStridedSlice S2x16384x4096 ![0, 0, 0] u slices_S2x16388x4096_S2x16384x4096_0_0_0)
      (wide (shapeCast _ (extractStridedSlice S1x4096 ![0, 0] w slices_S5x4096_S1x4096_0_0) shapeCasts_S1x4096_S4096))))
    (mulf (extractStridedSlice S2x16384x4096 ![0, 1, 0] u slices_S2x16388x4096_S2x16384x4096_0_1_0)
      (wide (shapeCast _ (extractStridedSlice S1x4096 ![1, 0] w slices_S5x4096_S1x4096_1_0) shapeCasts_S1x4096_S4096))))
    (mulf (extractStridedSlice S2x16384x4096 ![0, 2, 0] u slices_S2x16388x4096_S2x16384x4096_0_2_0)
      (wide (shapeCast _ (extractStridedSlice S1x4096 ![2, 0] w slices_S5x4096_S1x4096_2_0) shapeCasts_S1x4096_S4096))))
    (mulf (extractStridedSlice S2x16384x4096 ![0, 3, 0] u slices_S2x16388x4096_S2x16384x4096_0_3_0)
      (wide (shapeCast _ (extractStridedSlice S1x4096 ![3, 0] w slices_S5x4096_S1x4096_3_0) shapeCasts_S1x4096_S4096))))
    (mulf (extractStridedSlice S2x16384x4096 ![0, 4, 0] u slices_S2x16388x4096_S2x16384x4096_0_4_0)
      (wide (shapeCast _ (extractStridedSlice S1x4096 ![4, 0] w slices_S5x4096_S1x4096_4_0) shapeCasts_S1x4096_S4096))))
    (wide b)

/-- A row's values times their logistic, one batch entry after the other. -/
def silu (v : FVec F S2x16384x4096 .f32) : FVec F S32768x4096 .bf16 :=
  truncf .bf16 (shapeCast _ (mulf v (Host.divf (broadcastInDim S2x16384x4096 ![] bcast_S_S2x16384x4096 (constant S_ .f32 0x3F800000#32))
    (addf (broadcastInDim S2x16384x4096 ![] bcast_S_S2x16384x4096 (constant S_ .f32 0x3F800000#32)) (Host.exp (Host.negf v)))))
    shapeCasts_S2x16384x4096_S32768x4096) bitsLt_bf16_f32

/-- The steps before the softplus, by direction, group and head. -/
def pre (p : FVec F S2x16384x10304 .f32) (d : FVec F S2x32 .f32) : FVec F S2x16384x2x8x4 .f32 :=
  addf (shapeCast _ (extractStridedSlice S2x16384x64 ![0, 0, 8192] p slices_S2x16384x10304_S2x16384x64_0_0_8192) shapeCasts_S2x16384x64_S2x16384x2x8x4)
    (broadcastInDim S2x16384x2x8x4 ![0, 1, 2, 3, 4] bcast_S1x1x2x8x4_S2x16384x2x8x4_0_1_2_3_4
      (broadcastInDim S1x1x2x8x4 ![2, 3, 4] bcast_S2x8x4_S1x1x2x8x4_2_3_4 (shapeCast _ d shapeCasts_S2x32_S2x8x4)))

/-- Zeros of the steps' shape. -/
def zeros : FVec F S2x16384x2x8x4 .f32 := broadcastInDim S2x16384x2x8x4 ![] bcast_S_S2x16384x2x8x4 (constant S_ .f32 0x00000000#32)

/-- The softplus, entry by entry. -/
def soft (x : FVec F S2x16384x2x8x4 .f32) : FVec F S2x16384x2x8x4 .f32 :=
  select (cmpf .une (subf x zeros) (subf x zeros)) (addf x zeros)
    (addf (maximumf x zeros) (Host.log1p (Host.exp (Host.negf (Host.absf (subf x zeros))))))

/-- The steps in rows of 128 lanes, the upper 64 zero. -/
def rows (x : FVec F S2x16384x2x8x4 .f32) : FVec F S32768x128 .f32 :=
  pad S32768x128 ![0, 0] ![0, 64] ![0, 0] (shapeCast _ x shapeCasts_S2x16384x2x8x4_S32768x64) (sitofp .f32 (constantI S_ 32 0#32))
    pads_S32768x64_S32768x128_000_0640 h_S_

theorem res_xbc (m : (ℓ : Loc nD τ sig) → Buf (Elt F) ℓ) (c : Dev nD) :
    res_out0 m c = silu (conv (padded (proj (m ((c.tc : Thread nD τ).loc main_arg0)) (m ((c.tc : Thread nD τ).loc main_arg1))
      (m ((c.tc : Thread nD τ).loc main_arg2)))) (m ((c.tc : Thread nD τ).loc main_arg3)) (m ((c.tc : Thread nD τ).loc main_arg4))) := by
  rfl

theorem res_dt (m : (ℓ : Loc nD τ sig) → Buf (Elt F) ℓ) (c : Dev nD) :
    res_out1 m c = rows (soft (pre (proj (m ((c.tc : Thread nD τ).loc main_arg0)) (m ((c.tc : Thread nD τ).loc main_arg1))
      (m ((c.tc : Thread nD τ).loc main_arg2))) (m ((c.tc : Thread nD τ).loc main_arg5)))) := by
  rfl

/-- The row of position `l` of batch entry `b`. -/
def row (b : Fin 2) (l : Fin 16384) : Fin 32768 := ⟨b.val * 16384 + l.val, by omega⟩

/-- Column `q` of the steps' columns, among the input matrix's. -/
def dcol (q : Fin 64) : Fin 10304 := ⟨8192 + q.val, by omega⟩

/-- Column `j` of the columns that are convolved, among the input matrix's. -/
def ccol (j : Fin 4096) : Fin 10304 := ⟨4096 + j.val, by omega⟩

section

variable (h : FVec Ideal S32768x1024 .bf16) (W : FVec Ideal S1024x10304 .f32) (b : FVec Ideal S10304 .f32) (w : FVec Ideal S5x4096 .f32)
  (cb : FVec Ideal S4096 .f32) (d : FVec Ideal S2x32 .f32) (a : Fin 2)

theorem sitofp_zero : (FloatOps.sitofp FTy.f32 0#32 : Ideal .f32) = 0 := by
  show ((((0#32 : BitVec 32).toInt : ℤ) : ℝ) : EReal) = 0
  simp

theorem proj_at (l : Fin 16384) (j : Fin 10304) :
    proj h W b (ix3 a l j) = Cert.Features.lin (fun k => h (ix2 (row a l) k)) (fun k => W (ix2 k j)) (b (ix1 j)) := by
  pointwise [proj]
  rfl

/-- The convolved columns of batch entry `a` before the convolution. -/
def raw (q : Fin 4096) (l : Fin 16384) : EReal :=
  Cert.Features.lin (fun k => h (ix2 (row a l) k)) (fun k => W (ix2 k (ccol q))) (b (ix1 (ccol q)))

theorem padded_at (t : Fin 16388) (q : Fin 4096) : padded (proj h W b) (ix3 a t q) = Cert.Features.padded (raw h W b a q) t.val := by
  pointwise [padded, proj_at]
  rw [sitofp_zero]
  unfold Cert.Features.padded
  by_cases ht : 2 ≤ t.val ∧ t.val < 16386
  · rw [dif_pos (show 2 ≤ t.val ∧ t.val - 2 < 16384 by omega), dif_pos ht]
    rfl
  · rw [dif_neg (show ¬ (2 ≤ t.val ∧ t.val - 2 < 16384) by omega), dif_neg ht]

theorem conv_at (u : FVec Ideal S2x16388x4096 .f32) (l : Fin 16384) (q : Fin 4096) :
    conv u w cb (ix3 a l q)
      = Cert.Features.taps (fun k => u (ix3 a ⟨l.val + k.val, by omega⟩ q)) (fun k => w (ix2 k q)) (cb (ix1 q)) := by
  pointwise [conv, wide]
  have e : ∀ k : Fin 5, (⟨k.val + l.val, by omega⟩ : Fin 16388) = ⟨l.val + k.val, by omega⟩ := fun k => Fin.ext (Nat.add_comm _ _)
  have e1 := e 1
  have e2 := e 2
  have e3 := e 3
  have e4 := e 4
  refine Eq.trans (b := u (ix3 a ⟨l.val, by omega⟩ q) * w (ix2 0 q) + u (ix3 a ⟨l.val + (1 : Fin 5).val, by omega⟩ q) * w (ix2 1 q)
    + u (ix3 a ⟨l.val + (2 : Fin 5).val, by omega⟩ q) * w (ix2 2 q) + u (ix3 a ⟨l.val + (3 : Fin 5).val, by omega⟩ q) * w (ix2 3 q)
    + u (ix3 a ⟨l.val + (4 : Fin 5).val, by omega⟩ q) * w (ix2 4 q) + cb (ix1 q)) ?_ rfl
  rw [← e1, ← e2, ← e3, ← e4]
  rfl

theorem silu_at (v : FVec Ideal S2x16384x4096 .f32) (l : Fin 16384) (q : Fin 4096) :
    silu v (ix2 (row a l) q) = Cert.Features.act (v (ix3 a l q)) := by
  unfold row
  pointwise [silu]
  rfl

/-- The features. -/
theorem xbc_at (l : Fin 16384) (q : Fin 4096) :
    silu (conv (padded (proj h W b)) w cb) (ix2 (row a l) q) = Cert.Features.feature (raw h W b a q) (fun k => w (ix2 k q)) (cb (ix1 q)) l := by
  rw [silu_at, conv_at]
  simp only [padded_at]
  rfl

theorem pre_at (l : Fin 16384) (x : Fin 2) (g : Fin 8) (n : Fin 4) :
    pre (proj h W b) d (ix5 a l x g n)
      = Cert.Features.lin (fun k => h (ix2 (row a l) k)) (fun k => W (ix2 k (dcol ⟨32 * x.val + 4 * g.val + n.val, by omega⟩)))
          (b (ix1 (dcol ⟨32 * x.val + 4 * g.val + n.val, by omega⟩)) + d (ix2 x ⟨4 * g.val + n.val, by omega⟩)) := by
  pointwise [pre, proj_at]
  rw [show (⟨8192 + (x.val * 32 + g.val * 4 + n.val), by omega⟩ : Fin 10304) = dcol ⟨32 * x.val + 4 * g.val + n.val, by omega⟩ from
      Fin.ext (by show 8192 + (x.val * 32 + g.val * 4 + n.val) = 8192 + (32 * x.val + 4 * g.val + n.val); omega),
    show (⟨g.val * 4 + n.val, by omega⟩ : Fin 32) = ⟨4 * g.val + n.val, by omega⟩ from Fin.ext (by show g.val * 4 + n.val = 4 * g.val + n.val; omega)]
  exact add_assoc _ _ _

theorem soft_at (v : FVec Ideal S2x16384x2x8x4 .f32) (l : Fin 16384) (x : Fin 2) (g : Fin 8) (n : Fin 4) :
    soft v (ix5 a l x g n) = Cert.Features.softplus (v (ix5 a l x g n)) := by
  pointwise [soft, zeros]
  rw [if_neg (fun h => h rfl)]
  rfl

theorem rows_at (v : FVec Ideal S2x16384x2x8x4 .f32) (l : Fin 16384) (q : Fin 128) :
    rows v (ix2 (row a l) q) = if h : q.val < 64 then v (ix5 a l ⟨q.val / 32, by omega⟩ ⟨q.val / 4 % 8, by omega⟩ ⟨q.val % 4, by omega⟩) else 0 := by
  unfold row
  pointwise [rows]
  rw [sitofp_zero]
  by_cases hq : q.val < 64
  · rw [dif_pos ⟨by omega, hq⟩, dif_pos hq]
  · rw [dif_neg (fun h => hq h.2), dif_neg hq]

/-- The steps. -/
theorem dt_at (l : Fin 16384) (q : Fin 128) :
    rows (soft (pre (proj h W b) d)) (ix2 (row a l) q)
      = if hq : q.val < 64 then Cert.Features.softplus (Cert.Features.lin (fun k => h (ix2 (row a l) k)) (fun k => W (ix2 k (dcol ⟨q.val, hq⟩)))
          (b (ix1 (dcol ⟨q.val, hq⟩)) + d (ix2 ⟨q.val / 32, by omega⟩ ⟨q.val % 32, by omega⟩)))
        else 0 := by
  rw [rows_at]
  by_cases hq : q.val < 64
  · rw [dif_pos hq, dif_pos hq, soft_at, pre_at,
      show (⟨32 * (q.val / 32) + 4 * (q.val / 4 % 8) + q.val % 4, by omega⟩ : Fin 64) = ⟨q.val, hq⟩ from
        Fin.ext (by show 32 * (q.val / 32) + 4 * (q.val / 4 % 8) + q.val % 4 = q.val; omega),
      show (⟨4 * (q.val / 4 % 8) + q.val % 4, by omega⟩ : Fin 32) = ⟨q.val % 32, by omega⟩ from
        Fin.ext (by show 4 * (q.val / 4 % 8) + q.val % 4 = q.val % 32; omega)]
  · rw [dif_neg hq, dif_neg hq]

end

end Cert.Reference6Ideal.Features

end
-- ==== Proof.Features.Equation.lean ====
module

public import proofs.«01_k».proof.Proof.Features.Array
public import proofs.«01_k».proof.Proof.Features.Ref

/-!
# Kernel and reference end the features with the same arrays
-/

@[expose] public section

set_option maxRecDepth 16384

noncomputable section

namespace Cert.FeaturesEquation

open Idealize.ShloMosaic Idealize.ShloMosaic.TcCoe Idealize.SL.Sem
open Cert.Kernel6Ideal (nD τ sig main_arg0 main_arg1 main_arg2 main_arg3 main_arg4 main_arg5)
open Cert.Reference6Ideal.Features (row silu conv padded proj rows soft pre)

variable (m : (ℓ : Loc nD τ sig) → Buf (Elt Ideal) ℓ) (c : Dev nD)

/-- Every row is a position of one of the two batch entries. -/
theorem row_of (p : Fin 32768) : ∃ b j r, p = row b (Cert.Kernel6Ideal.Features.pos j r) := by
  obtain ⟨j, r, e⟩ := Cert.Kernel6Ideal.Features.pos_of ⟨p.val % 16384, by omega⟩
  refine ⟨⟨p.val / 16384, by omega⟩, j, r, ?_⟩
  rw [← e]
  exact Fin.ext (by show p.val = p.val / 16384 * 16384 + p.val % 16384; omega)

/-- The features agree. -/
theorem xbc_eq : silu (F := Ideal) (conv (padded (proj (m ((c : Thread nD τ).loc main_arg0)) (m ((c : Thread nD τ).loc main_arg1))
      (m ((c : Thread nD τ).loc main_arg2)))) (m ((c : Thread nD τ).loc main_arg3)) (m ((c : Thread nD τ).loc main_arg4)))
    = (Cert.Kernel6Ideal.Gen.dats m 0 c).arrAt 9 Cert.Kernel6Ideal.cfg0.N := by
  funext i
  obtain ⟨p, q, rfl⟩ : ∃ (p : Fin 32768) (q : Fin 4096), i = ix2 p q := ⟨i 0, i 1, eq_ix2 i⟩
  obtain ⟨b, j, r, rfl⟩ := row_of p
  exact (Cert.Reference6Ideal.Features.xbc_at _ _ _ _ _ b _ q).trans (Cert.Kernel6Ideal.Features.array9 m c b j r q).symm

/-- The steps agree. -/
theorem dt_eq : rows (F := Ideal) (soft (pre (proj (m ((c : Thread nD τ).loc main_arg0)) (m ((c : Thread nD τ).loc main_arg1))
      (m ((c : Thread nD τ).loc main_arg2))) (m ((c : Thread nD τ).loc main_arg5))))
    = (Cert.Kernel6Ideal.Gen.dats m 0 c).arrAt 10 Cert.Kernel6Ideal.cfg0.N := by
  funext i
  obtain ⟨p, q, rfl⟩ : ∃ (p : Fin 32768) (q : Fin 128), i = ix2 p q := ⟨i 0, i 1, eq_ix2 i⟩
  obtain ⟨b, j, r, rfl⟩ := row_of p
  exact (Cert.Reference6Ideal.Features.dt_at _ _ _ _ b _ q).trans (Cert.Kernel6Ideal.Features.array10 m c b j r q).symm

end Cert.FeaturesEquation

end
-- ==== Proof.lean ====
module

public import proofs.«01_k».proof.Proof.Equation
public import proofs.«01_k».proof.Proof.Ffn.Equation
public import proofs.«01_k».proof.Proof.Ffn.Plain
public import proofs.«01_k».proof.Proof.Ffn.Final
public import proofs.«01_k».proof.Proof.Merge.Equation
public import proofs.«01_k».proof.Proof.ScanKernel.Frame
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Features.Equation
public import proofs.«01_k».proof.Proof.Gen.Kernel6
public import proofs.«01_k».proof.Proof.Gen.Kernel6Ideal
public import proofs.«01_k».proof.Proof.Gen.Kernel6Ideal.Value
public import proofs.«01_k».proof.Proof.Gen.Kernel6.Frame
public import proofs.«01_k».proof.Proof.Gen.Reference6Ideal
public import proofs.«01_k».proof.Proof.Gen.Reference6Ideal.Run
public import Idealize.ShloMosaic.Adequacy
public import Idealize.ShloMosaic.Init

@[expose] public section

noncomputable section

namespace Cert.Proof

open Idealize.ShloMosaic Idealize.ShloMosaic.TcCoe Idealize.SL.Sem

/-- The kernel runs and leaves its arguments. -/
theorem frame_k : Cert.quiescent_Kernel := fun m ρ _ => Cert.Kernel.Scan.frame m ρ

/-- So does its idealization. -/
theorem frame_i : Cert.quiescent_KernelIdeal := fun m ρ _ => Cert.KernelIdeal.Scan.frame m ρ

/-- So does the reference. -/
theorem frame_r : Cert.quiescent_ReferenceIdeal := by
  intro m ρ _
  exact (θ_run Cert.ReferenceIdeal.defs _ _).mono (fun r h => ⟨fun c => (h c).2.2, Idealize.ShloMosaic.sem_eq_zero_of_no_sems (by decide) r.2⟩)
    (Cert.ReferenceIdeal.Value.run m ρ)

/-- The mask's constant is the one named. -/
theorem named : Cert.preserves_Kernel_KernelIdeal := IdealRules.named_const.statement Cert.KernelIdeal.κ "mask" .f32 0xF149F2CA#32 ⊥ rfl

/-- The idealized kernel computes the reference's arrays. -/
theorem equal : Cert.algebraic_KernelIdeal_ReferenceIdeal := by
  intro m ρ m' ρ' _ hagree
  refine ⟨Cert.KernelIdeal.Value.G6 m, Cert.KernelIdeal.Value.G7 m, Cert.KernelIdeal.Value.run m ρ, ?_⟩
  have hrun := Cert.Ref.Run.run_iter m' ρ'
    (fun c => Equation.iter (Cert.KernelIdeal.Scan.X m c) (Cert.KernelIdeal.Scan.D m c) (Cert.KernelIdeal.Scan.A m c) (Cert.KernelIdeal.Scan.S m c))
    (fun c => by
      obtain ⟨h0, h1, h2, h3⟩ := hagree c
      unfold Cert.Ref.Run.initState
      rw [h0, h1, h2, h3]
      rfl)
    (fun _ _ => rfl)
  exact (θ_run Cert.ReferenceIdeal.defs _ _).mono (fun r h c => ⟨(h c).1.trans (Equation.y_eq m c), (h c).2.1.trans (Equation.s_eq m c), (h c).2.2⟩) hrun

/-- The half step's kernel runs and leaves its arguments. -/
theorem frame_k2 : Cert.quiescent_Kernel2 := fun m ρ _ => Cert.Kernel2.Gen.frame m ρ

/-- So does its idealization. -/
theorem frame_i2 : Cert.quiescent_Kernel2Ideal := fun m ρ _ => Cert.Kernel2Ideal.Gen.frame m ρ

/-- So does its reference. -/
theorem frame_r2 : Cert.quiescent_Reference2Ideal := by
  intro m ρ _
  exact (θ_run Cert.Reference2Ideal.defs _ _).mono (fun r h => ⟨fun c => (h c).2.2, Idealize.ShloMosaic.sem_eq_zero_of_no_sems (by decide) r.2⟩)
    (Cert.Reference2Ideal.Value.run m ρ)

/-- The idealized half step computes its reference's arrays. -/
theorem equal2 : Cert.algebraic_Kernel2Ideal_Reference2Ideal := by
  intro m ρ m' ρ' _ hagree
  refine ⟨_, _, Cert.Kernel2Ideal.Value.run_blocks m ρ, ?_⟩
  refine (θ_run Cert.Reference2Ideal.defs _ _).mono (fun r h c => ⟨(h c).1.trans ?_, (h c).2.1.trans ?_, (h c).2.2⟩) (Cert.Reference2Ideal.Value.run m' ρ')
  · obtain ⟨h0, h1, h2, h3, h4, h5, h6⟩ := hagree c
    rw [Cert.Reference2Ideal.Ffn.res0, h0, h1, h2, h3, h4, h5]
    exact FfnEquation.y_eq m c
  · obtain ⟨h0, h1, h2, h3, h4, h5, h6⟩ := hagree c
    rw [Cert.Reference2Ideal.Ffn.res1, h0, h1, h2, h3, h4, h5, h6]
    exact FfnEquation.h_eq m c

/-- The merge: its kernel runs and leaves its arguments. -/
theorem frame_k3 : Cert.quiescent_Kernel3 := fun m ρ _ => Cert.Kernel3.Gen.frame m ρ

/-- So does its idealization. -/
theorem frame_i3 : Cert.quiescent_Kernel3Ideal := fun m ρ _ => Cert.Kernel3Ideal.Gen.frame m ρ

/-- So does its reference. -/
theorem frame_r3 : Cert.quiescent_Reference3Ideal := by
  intro m ρ _
  exact (θ_run Cert.Reference3Ideal.defs _ _).mono (fun r h => ⟨fun c => (h c).2, Idealize.ShloMosaic.sem_eq_zero_of_no_sems (by decide) r.2⟩)
    (Cert.Reference3Ideal.Value.run m ρ)

/-- Its idealization computes its reference's array. -/
theorem equal3 : Cert.algebraic_Kernel3Ideal_Reference3Ideal := by
  intro m ρ m' ρ' _ hagree
  refine ⟨_, Cert.Kernel3Ideal.Value.run_blocks m ρ, ?_⟩
  refine (θ_run Cert.Reference3Ideal.defs _ _).mono (fun r h c => ⟨(h c).1.trans ?_, (h c).2⟩) (Cert.Reference3Ideal.Value.run m' ρ')
  obtain ⟨h0, h1, h2, h3, h4, h5, h6, h7, h8, h9, h10, h11, h12⟩ := hagree c
  refine (Cert.Reference3Ideal.Merge.res m' c).trans ?_
  rw [h0, h1, h2, h3, h4, h5, h6, h7, h8, h9, h10, h11, h12]
  exact MergeEquation.y_eq m c

/-- The first layer's half step after the mixer: its kernel runs and leaves its arguments. -/
theorem frame_k4 : Cert.quiescent_Kernel4 := fun m ρ _ => Cert.Kernel4.Gen.frame m ρ

/-- So does its idealization. -/
theorem frame_i4 : Cert.quiescent_Kernel4Ideal := fun m ρ _ => Cert.Kernel4Ideal.Gen.frame m ρ

/-- So does its reference. -/
theorem frame_r4 : Cert.quiescent_Reference4Ideal := by
  intro m ρ _
  exact (θ_run Cert.Reference4Ideal.defs _ _).mono (fun r h => ⟨fun c => (h c).2, Idealize.ShloMosaic.sem_eq_zero_of_no_sems (by decide) r.2⟩)
    (Cert.Reference4Ideal.Value.run m ρ)

/-- Its idealization computes its reference's array. -/
theorem equal4 : Cert.algebraic_Kernel4Ideal_Reference4Ideal := by
  intro m ρ m' ρ' _ hagree
  refine ⟨_, Cert.Kernel4Ideal.Value.run_blocks m ρ, ?_⟩
  refine (θ_run Cert.Reference4Ideal.defs _ _).mono (fun r h c => ⟨(h c).1.trans ?_, (h c).2⟩) (Cert.Reference4Ideal.Value.run m' ρ')
  obtain ⟨h0, h1, h2, h3, h4, h5⟩ := hagree c
  refine (Cert.Reference4Ideal.Ffn.res m' c).trans ?_
  rw [h0, h1, h2, h3, h4, h5]
  exact FfnEquation.y_eq4 m c

/-- The last layer's half step after the mixer: its kernel runs and leaves its arguments. -/
theorem frame_k5 : Cert.quiescent_Kernel5 := fun m ρ _ => Cert.Kernel5.Gen.frame m ρ

/-- So does its idealization. -/
theorem frame_i5 : Cert.quiescent_Kernel5Ideal := fun m ρ _ => Cert.Kernel5Ideal.Gen.frame m ρ

/-- So does its reference. -/
theorem frame_r5 : Cert.quiescent_Reference5Ideal := by
  intro m ρ _
  exact (θ_run Cert.Reference5Ideal.defs _ _).mono (fun r h => ⟨fun c => (h c).2, Idealize.ShloMosaic.sem_eq_zero_of_no_sems (by decide) r.2⟩)
    (Cert.Reference5Ideal.Value.run m ρ)

/-- Its idealization computes its reference's array. -/
theorem equal5 : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun r h c => ⟨(h c).1.trans ?_, (h c).2⟩) (Cert.Reference5Ideal.Value.run m' ρ')
  obtain ⟨h0, h1, h2, h3, h4, h5, h6⟩ := hagree c
  refine (Cert.Reference5Ideal.Ffn.res m' c).trans ?_
  rw [h0, h1, h2, h3, h4, h5, h6]
  exact FfnEquation.y_eq5 m c

/-- The features: its kernel runs and leaves its arguments. -/
theorem frame_k6 : Cert.quiescent_Kernel6 := fun m ρ _ => Cert.Kernel6.Gen.frame m ρ

/-- So does its idealization. -/
theorem frame_i6 : Cert.quiescent_Kernel6Ideal := fun m ρ _ => Cert.Kernel6Ideal.Gen.frame m ρ

/-- So does its reference. -/
theorem frame_r6 : Cert.quiescent_Reference6Ideal := by
  intro m ρ _
  exact (θ_run Cert.Reference6Ideal.defs _ _).mono (fun r h => ⟨fun c => (h c).2.2, Idealize.ShloMosaic.sem_eq_zero_of_no_sems (by decide) r.2⟩)
    (Cert.Reference6Ideal.Value.run m ρ)

/-- Its idealization computes its reference's arrays. -/
theorem equal6 : Cert.algebraic_Kernel6Ideal_Reference6Ideal := by
  intro m ρ m' ρ' _ hagree
  refine ⟨_, _, Cert.Kernel6Ideal.Value.run_blocks m ρ, ?_⟩
  refine (θ_run Cert.Reference6Ideal.defs _ _).mono (fun r h c => ⟨(h c).1.trans ?_, (h c).2.1.trans ?_, (h c).2.2⟩) (Cert.Reference6Ideal.Value.run m' ρ')
  · obtain ⟨h0, h1, h2, h3, h4, h5⟩ := hagree c
    refine (Cert.Reference6Ideal.Features.res_xbc m' c).trans ?_
    rw [h0, h1, h2, h3, h4]
    exact FeaturesEquation.xbc_eq m c
  · obtain ⟨h0, h1, h2, h3, h4, h5⟩ := hagree c
    refine (Cert.Reference6Ideal.Features.res_dt m' c).trans ?_
    rw [h0, h1, h2, h5]
    exact FeaturesEquation.dt_eq m c

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  frame_k, frame_i, frame_r, frame_k2, frame_i2, frame_r2, frame_k3, frame_i3, frame_r3, frame_k4, frame_i4, frame_r4, frame_k5, frame_i5, frame_r5, frame_k6, frame_i6, frame_r6, named, equal, trivial, equal2, trivial, equal3, trivial, equal4, trivial, equal5, trivial, equal6⟩

end Cert.Proof

end
